-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)
      ∧ m' ((c.tc : Thread Cert.PostReferenceIdeal.nD Cert.PostReferenceIdeal.τ).loc Cert.PostReferenceIdeal.main_arg12) = m ((c.tc : Thread Cert.PostIdeal.nD Cert.PostIdeal.τ).loc Cert.PostIdeal.main_arg12)) →
    ∃ (v0 : (c : Dev Cert.PostIdeal.nD) → Buf (Elt Ideal) ((c.tc : Thread Cert.PostIdeal.nD Cert.PostIdeal.τ).loc Cert.PostIdeal.main_v4)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v4) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v47) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11)
          ∧ r.2.mem ((c.tc : Thread Cert.PostReferenceIdeal.nD Cert.PostReferenceIdeal.τ).loc Cert.PostReferenceIdeal.main_arg12) = m' ((c.tc : Thread Cert.PostReferenceIdeal.nD Cert.PostReferenceIdeal.τ).loc Cert.PostReferenceIdeal.main_arg12))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostReferenceIdeal (hPostReferenceIdeal := hPostReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostReferenceIdeal (hPostIdeal := hPostIdeal) (hPostReferenceIdeal := hPostReferenceIdeal)
-- ==== Pre_finite.lean ====
abbrev S16384x1024 : Shape := ⟨2, ![16384, 1024]⟩
abbrev S32x512x512 : Shape := ⟨3, ![32, 512, 512]⟩
abbrev S64 : Shape := ⟨1, ![64]⟩
abbrev S128 : Shape := ⟨1, ![128]⟩
abbrev S8x16384x64 : Shape := ⟨3, ![8, 16384, 64]⟩
abbrev S8x256x64 : Shape := ⟨3, ![8, 256, 64]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S64 .f32 := Host.absf main_arg4
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_c_7 : IVec S_ 1 := constantI S_ 1 1#1
  let main_v24 : IVec S_ 1 := (fun x v => Host.reduce IntOp.andi x v reducesTo_S64_S_d0 h_S_) main_v23 main_c_7
  let main_v25 : IVec S_ 1 := andi main_v20 main_v24
  let main_v26 : FVec F S64 .f32 := Host.absf main_arg5
  let main_cst_8 : FVec F S_ .f32 := constant S_ .f32 0x7F800000#32
  let main_v27 : FVec F S64 .f32 := broadcastInDim S64 ![] bcast_S_S64 main_cst_8
  let main_v28 : IVec S64 1 := cmpf .olt main_v26 main_v27
  let main_c_9 : IVec S_ 1 := constantI S_ 1 1#1
  let main_v29 : IVec S_ 1 := (fun x v => Host.reduce IntOp.andi x v reducesTo_S64_S_d0 h_S_) main_v28 main_c_9
  let main_v30 : IVec S_ 1 := andi main_v25 main_v29
  main_v30

def fn {F : FTy → Type} [FloatOps F] (main_arg0 : FVec F S16384x1024 .bf16) (main_arg1 : FVec F S32x512x512 .bf16) (main_arg2 : FVec F S64 .f32) (main_arg3 : FVec F S64 .f32) (main_arg4 : FVec F S64 .f32) (main_arg5 : FVec F S64 .f32) (main_arg6 : FVec F S128 .f32) (main_arg7 : FVec F S8x16384x64 .bf16) (main_arg8 : FVec F S8x16384x64 .bf16) (main_arg9 : FVec F S8x16384x64 .bf16) (main_arg10 : FVec F S8x16384x64 .bf16) (main_arg11 : FVec F S8x16384x64 .bf16) (main_arg12 : FVec F S8x256x64 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S32x512x512 .f32 := (extf .f32 · bitsLt_bf16_f32) main_arg1
  let main_v6 : FVec F S32x512x512 .f32 := Host.absf main_v5
  let main_cst_0 : FVec F S_ .f32 := constant S_ .f32 0x7F800000#32
  let main_v7 : FVec F S32x512x512 .f32 := broadcastInDim S32x512x512 ![] bcast_S_S32x512x512 main_cst_0
  let main_v8 : IVec S32x512x512 1 := cmpf .olt main_v6 main_v7
  let main_c_1 : IVec S_ 1 := constantI S_ 1 1#1
  let main_v9 : IVec S_ 1 := (fun x v => Host.reduce IntOp.andi x v reducesTo_S32x512x512_S_d0_1_2 h_S_) main_v8 main_c_1
  let main_v10 : IVec S_ 1 := andi main_v4 main_v9
  let main_v11 : FVec F S64 .f32 := Host.absf main_arg2
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S64 .f32 := Host.absf main_arg3
  let main_cst_4 : FVec F S_ .f32 := constant S_ .f32 0x7F800000#32
  fn_part1 (F := F) main_arg4 main_arg5 main_v15 main_v16 main_cst_4
-- ==== Kernel.lean ====
abbrev S16384x1024 : Shape := ⟨2, ![16384, 1024]⟩
abbrev S32x512x512 : Shape := ⟨3, ![32, 512, 512]⟩
abbrev S64 : Shape := ⟨1, ![64]⟩
abbrev S128 : Shape := ⟨1, ![128]⟩
abbrev S8x16384x64 : Shape := ⟨3, ![8, 16384, 64]⟩
abbrev S8x256x64 : Shape := ⟨3, ![8, 256, 64]⟩
abbrev S1x64 : Shape := ⟨2, ![1, 64]⟩
abbrev S1x128 : Shape := ⟨2, ![1, 128]⟩
abbrev S8x2x8192x64 : Shape := ⟨4, ![8, 2, 8192, 64]⟩
abbrev S8x2x128x64 : Shape := ⟨4, ![8, 2, 128, 64]⟩
abbrev S16384x512 : Shape := ⟨2, ![16384, 512]⟩
abbrev S2x8192x512 : Shape := ⟨3, ![2, 8192, 512]⟩
abbrev S512x256 : Shape := ⟨2, ![512, 256]⟩
abbrev S8192x256 : Shape := ⟨2, ![8192, 256]⟩
abbrev S16x256x512 : Shape := ⟨3, ![16, 256, 512]⟩
abbrev S2x128x512 : Shape := ⟨3, ![2, 128, 512]⟩
abbrev S4x1x512 : Shape := ⟨3, ![4, 1, 512]⟩
abbrev S4x144x512 : Shape := ⟨3, ![4, 144, 512]⟩
abbrev S2x4x512x512 : Shape := ⟨4, ![2, 4, 512, 512]⟩
abbrev S2x4x1x512 : Shape := ⟨4, ![2, 4, 1, 512]⟩
abbrev S16x64x64 : Shape := ⟨3, ![16, 64, 64]⟩
abbrev S32x64x128 : Shape := ⟨3, ![32, 64, 128]⟩
abbrev S32x64x64 : Shape := ⟨3, ![32, 64, 64]⟩
abbrev S512x128 : Shape := ⟨2, ![512, 128]⟩
abbrev S16x512 : Shape := ⟨2, ![16, 512]⟩
abbrev S64x128 : Shape := ⟨2, ![64, 128]⟩
abbrev S64x64 : Shape := ⟨2, ![64, 64]⟩
abbrev S1x1x64x64 : Shape := ⟨4, ![1, 1, 64, 64]⟩
abbrev S128x64 : Shape := ⟨2, ![128, 64]⟩
abbrev S128x128 : Shape := ⟨2, ![128, 128]⟩
abbrev S1x64x128 : Shape := ⟨3, ![1, 64, 128]⟩
abbrev S64x256 : Shape := ⟨2, ![64, 256]⟩
abbrev S1x1x1x64 : Shape := ⟨4, ![1, 1, 1, 64]⟩
abbrev S1x64x64 : Shape := ⟨3, ![1, 64, 64]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S1x1x1x512 : Shape := ⟨4, ![1, 1, 1, 512]⟩
abbrev S1x256x512 : Shape := ⟨3, ![1, 256, 512]⟩
abbrev S256x512 : Shape := ⟨2, ![256, 512]⟩
abbrev S128x512 : Shape := ⟨2, ![128, 512]⟩
abbrev S144x512 : Shape := ⟨2, ![144, 512]⟩
abbrev S1x1x512 : Shape := ⟨3, ![1, 1, 512]⟩
abbrev S1x144x512 : Shape := ⟨3, ![1, 144, 512]⟩
abbrev S64x1 : Shape := ⟨2, ![64, 1]⟩
abbrev S1 : Shape := ⟨1, ![1]⟩
abbrev S1x1 : Shape := ⟨2, ![1, 1]⟩
abbrev S1x128x512 : Shape := ⟨3, ![1, 128, 512]⟩
abbrev S512x1 : Shape := ⟨2, ![512, 1]⟩

abbrev nBuf : Space → Nat
  | .hbm => 27
  | .vmem => 35
  | .smem => 0
  | _ => 0

abbrev bufTy : (tb : Table) → Fin (tcTables nBuf tb) → BufTy
  | .hbm, ⟨0, _⟩ => ⟨S16384x1024, .bf16⟩
  | .hbm, ⟨1, _⟩ => ⟨S32x512x512, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S8x16384x64, .bf16⟩
  | .hbm, ⟨8, _⟩ => ⟨S8x16384x64, .bf16⟩
  | .hbm, ⟨9, _⟩ => ⟨S8x16384x64, .bf16⟩
  | .hbm, ⟨10, _⟩ => ⟨S8x16384x64, .bf16⟩
  | .hbm, ⟨11, _⟩ => ⟨S8x16384x64, .bf16⟩
  | .hbm, ⟨12, _⟩ => ⟨S8x256x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x128, .f32⟩
  | .hbm, ⟨18, _⟩ => ⟨S8x2x8192x64, .bf16⟩
  | .hbm, ⟨19, _⟩ => ⟨S8x2x8192x64, .bf16⟩
  | .hbm, ⟨20, _⟩ => ⟨S8x2x8192x64, .bf16⟩
  | .hbm, ⟨21, _⟩ => ⟨S8x2x8192x64, .bf16⟩
  | .hbm, ⟨22, _⟩ => ⟨S8x2x8192x64, .bf16⟩
  | .hbm, ⟨23, _⟩ => ⟨S8x2x128x64, .f32⟩
  | .hbm, ⟨24, _⟩ => ⟨S16384x512, .bf16⟩
  | .hbm, ⟨25, _⟩ => ⟨S2x8192x512, .f32⟩
  | .hbm, ⟨26, _⟩ => ⟨S16384x512, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S16x256x512, .bf16⟩
  | .local _ .vmem, ⟨5, _⟩ => ⟨S16x256x512, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S8x2x128x64, .bf16⟩
  | .local _ .vmem, ⟨12, _⟩ => ⟨S8x2x128x64, .bf16⟩
  | .local _ .vmem, ⟨13, _⟩ => ⟨S8x2x128x64, .bf16⟩
  | .local _ .vmem, ⟨14, _⟩ => ⟨S8x2x128x64, .bf16⟩
  | .local _ .vmem, ⟨15, _⟩ => ⟨S8x2x128x64, .bf16⟩
  | .local _ .vmem, ⟨16, _⟩ => ⟨S8x2x128x64, .bf16⟩
  | .local _ .vmem, ⟨17, _⟩ => ⟨S8x2x128x64, .bf16⟩
  | .local _ .vmem, ⟨18, _⟩ => ⟨S8x2x128x64, .bf16⟩
  | .local _ .vmem, ⟨19, _⟩ => ⟨S8x2x128x64, .bf16⟩
  | .local _ .vmem, ⟨20, _⟩ => ⟨S8x2x128x64, .bf16⟩
  | .local _ .vmem, ⟨21, _⟩ => ⟨S8x2x128x64, .f32⟩
  | .local _ .vmem, ⟨22, _⟩ => ⟨S512x256, .bf16⟩
  | .local _ .vmem, ⟨23, _⟩ => ⟨S512x256, .bf16⟩
  | .local _ .vmem, ⟨24, _⟩ => ⟨S2x128x512, .f32⟩
  | .local _ .vmem, ⟨25, _⟩ => ⟨S2x128x512, .f32⟩
  | .local _ .vmem, ⟨26, _⟩ => ⟨S4x1x512, .f32⟩
  | .local _ .vmem, ⟨27, _⟩ => ⟨S4x144x512, .f32⟩
  | .local _ .vmem, ⟨28, _⟩ => ⟨S2x4x512x512, .f32⟩
  | .local _ .vmem, ⟨29, _⟩ => ⟨S2x4x1x512, .f32⟩
  | .local _ .vmem, ⟨30, _⟩ => ⟨S16x64x64, .f32⟩
  | .local _ .vmem, ⟨31, _⟩ => ⟨S32x64x128, .bf16⟩
  | .local _ .vmem, ⟨32, _⟩ => ⟨S32x64x128, .bf16⟩
  | .local _ .vmem, ⟨33, _⟩ => ⟨S32x64x128, .bf16⟩
  | .local _ .vmem, ⟨34, _⟩ => ⟨S32x64x64, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def k0_off1 (i : grid0.Coords) (c0_i32_1320 : BitVec 32) : Fin 4 → Nat :=
  let c0_1321 : Index := 0#32
  let c0_1322 : Index := 0#32
  let arg0 : BitVec 32 := BitVec.ofNat 32 (i 0).val
  let c2_i32 : BitVec 32 := 2#32
  let v44 : BitVec 32 := Scalar.muli arg0 c2_i32
  let v2746 : BitVec 32 := Scalar.addi v44 c0_i32_1320
  let v2747 : Index := Scalar.indexCast v2746
  let c0_1323 : Index := 0#32
  ![0, 0, v2747.toNat, 0]
def k0_off2 (i : grid0.Coords) (c0_i32_1333 : BitVec 32) : Fin 4 → Nat :=
  let c1_1334 : Index := 1#32
  let c0_1335 : Index := 0#32
  let arg0 : BitVec 32 := BitVec.ofNat 32 (i 0).val
  let c2_i32 : BitVec 32 := 2#32
  let v44 : BitVec 32 := Scalar.muli arg0 c2_i32
  let v2764 : BitVec 32 := Scalar.addi v44 c0_i32_1333
  let v2765 : Index := Scalar.indexCast v2764
  let c0_1336 : Index := 0#32
  ![1, 0, v2765.toNat, 0]
def k0_off3 (i : grid0.Coords) (c0_i32_1346 : BitVec 32) : Fin 4 → Nat :=
  let c2_1347 : Index := 2#32
  let c0_1348 : Index := 0#32
  let arg0 : BitVec 32 := BitVec.ofNat 32 (i 0).val
  let c2_i32 : BitVec 32 := 2#32
  let v44 : BitVec 32 := Scalar.muli arg0 c2_i32
  let v2782 : BitVec 32 := Scalar.addi v44 c0_i32_1346
  let v2783 : Index := Scalar.indexCast v2782
  let c0_1349 : Index := 0#32
  ![2, 0, v2783.toNat, 0]
def k0_off4 (i : grid0.Coords) (c0_i32_1359 : BitVec 32) : Fin 4 → Nat :=
  let c3_1360 : Index := 3#32
  let c0_1361 : Index := 0#32
  let arg0 : BitVec 32 := BitVec.ofNat 32 (i 0).val
  let c2_i32 : BitVec 32 := 2#32
  let v44 : BitVec 32 := Scalar.muli arg0 c2_i32
  let v2800 : BitVec 32 := Scalar.addi v44 c0_i32_1359
  let v2801 : Index := Scalar.indexCast v2800
  let c0_1362 : Index := 0#32
  ![3, 0, v2801.toNat, 0]
def k0_off5 (i : grid0.Coords) (c0_i32_1372 : BitVec 32) : Fin 4 → Nat :=
  let c4_1373 : Index := 4#32
  let c0_1374 : Index := 0#32
  let arg0 : BitVec 32 := BitVec.ofNat 32 (i 0).val
  let c2_i32 : BitVec 32 := 2#32
  let v44 : BitVec 32 := Scalar.muli arg0 c2_i32
  let v2818 : BitVec 32 := Scalar.addi v44 c0_i32_1372
  let v2819 : Index := Scalar.indexCast v2818
  let c0_1375 : Index := 0#32
  ![4, 0, v2819.toNat, 0]
def k0_off6 (i : grid0.Coords) (c0_i32_1385 : BitVec 32) : Fin 4 → Nat :=
  let c5_1386 : Index := 5#32
  let c0_1387 : Index := 0#32
  let arg0 : BitVec 32 := BitVec.ofNat 32 (i 0).val
  let c2_i32 : BitVec 32 := 2#32
  let v44 : BitVec 32 := Scalar.muli arg0 c2_i32
  let v2836 : BitVec 32 := Scalar.addi v44 c0_i32_1385
  let v2837 : Index := Scalar.indexCast v2836
  let c0_1388 : Index := 0#32
  ![5, 0, v2837.toNat, 0]
def k0_off7 (i : grid0.Coords) (c0_i32_1398 : BitVec 32) : Fin 4 → Nat :=
  let c6_1399 : Index := 6#32
  let c0_1400 : Index := 0#32
  let arg0 : BitVec 32 := BitVec.ofNat 32 (i 0).val
  let c2_i32 : BitVec 32 := 2#32
  let v44 : BitVec 32 := Scalar.muli arg0 c2_i32
  let v2854 : BitVec 32 := Scalar.addi v44 c0_i32_1398
  let v2855 : Index := Scalar.indexCast v2854
  let c0_1401 : Index := 0#32
  ![6, 0, v2855.toNat, 0]
def k0_off8 (i : grid0.Coords) (c0_i32_1411 : BitVec 32) : Fin 4 → Nat :=
  let c7_1412 : Index := 7#32
  let c0_1413 : Index := 0#32
  let arg0 : BitVec 32 := BitVec.ofNat 32 (i 0).val
  let c2_i32 : BitVec 32 := 2#32
  let v44 : BitVec 32 := Scalar.muli arg0 c2_i32
  let v2872 : BitVec 32 := Scalar.addi v44 c0_i32_1411
  let v2873 : Index := Scalar.indexCast v2872
  let c0_1414 : Index := 0#32
  ![7, 0, v2873.toNat, 0]
def k0_off9 (i : grid0.Coords) (c0_i32_1424 : BitVec 32) : Fin 4 → Nat :=
  let c0_1425 : Index := 0#32
  let c1_1426 : Index := 1#32
  let arg0 : BitVec 32 := BitVec.ofNat 32 (i 0).val
  let c2_i32 : BitVec 32 := 2#32
  let v44 : BitVec 32 := Scalar.muli arg0 c2_i32
  let v2890 : BitVec 32 := Scalar.addi v44 c0_i32_1424
  let v2891 : Index := Scalar.indexCast v2890
  let c0_1427 : Index := 0#32
  ![0, 1, v2891.toNat, 0]
def k0_off10 (i : grid0.Coords) (c0_i32_1437 : BitVec 32) : Fin 4 → Nat :=
  let c1_1438 : Index := 1#32
  let c1_1439 : Index := 1#32
  let arg0 : BitVec 32 := BitVec.ofNat 32 (i 0).val
  let c2_i32 : BitVec 32 := 2#32
  let v44 : BitVec 32 := Scalar.muli arg0 c2_i32
  let v2908 : BitVec 32 := Scalar.addi v44 c0_i32_1437
  let v2909 : Index := Scalar.indexCast v2908
  let c0_1440 : Index := 0#32
  ![1, 1, v2909.toNat, 0]
def k0_off11 (i : grid0.Coords) (c0_i32_1450 : BitVec 32) : Fin 4 → Nat :=
  let c2_1451 : Index := 2#32
  let c1_1452 : Index := 1#32
  let arg0 : BitVec 32 := BitVec.ofNat 32 (i 0).val
  let c2_i32 : BitVec 32 := 2#32
  let v44 : BitVec 32 := Scalar.muli arg0 c2_i32
  let v2926 : BitVec 32 := Scalar.addi v44 c0_i32_1450
  let v2927 : Index := Scalar.indexCast v2926
  let c0_1453 : Index := 0#32
  ![2, 1, v2927.toNat, 0]
def k0_off12 (i : grid0.Coords) (c0_i32_1463 : BitVec 32) : Fin 4 → Nat :=
  let c3_1464 : Index := 3#32
  let c1_1465 : Index := 1#32
  let arg0 : BitVec 32 := BitVec.ofNat 32 (i 0).val
  let c2_i32 : BitVec 32 := 2#32
  let v44 : BitVec 32 := Scalar.muli arg0 c2_i32
  let v2944 : BitVec 32 := Scalar.addi v44 c0_i32_1463
  let v2945 : Index := Scalar.indexCast v2944
  let c0_1466 : Index := 0#32
  ![3, 1, v2945.toNat, 0]
def k0_off13 (i : grid0.Coords) (c0_i32_1476 : BitVec 32) : Fin 4 → Nat :=
  let c4_1477 : Index := 4#32
  let c1_1478 : Index := 1#32
  let arg0 : BitVec 32 := BitVec.ofNat 32 (i 0).val
  let c2_i32 : BitVec 32 := 2#32
  let v44 : BitVec 32 := Scalar.muli arg0 c2_i32
  let v2962 : BitVec 32 := Scalar.addi v44 c0_i32_1476
  let v2963 : Index := Scalar.indexCast v2962
  let c0_1479 : Index := 0#32
  ![4, 1, v2963.toNat, 0]
def k0_off14 (i : grid0.Coords) (c0_i32_1489 : BitVec 32) : Fin 4 → Nat :=
  let c5_1490 : Index := 5#32
  let c1_1491 : Index := 1#32
  let arg0 : BitVec 32 := BitVec.ofNat 32 (i 0).val
  let c2_i32 : BitVec 32 := 2#32
  let v44 : BitVec 32 := Scalar.muli arg0 c2_i32
  let v2980 : BitVec 32 := Scalar.addi v44 c0_i32_1489
  let v2981 : Index := Scalar.indexCast v2980
  let c0_1492 : Index := 0#32
  ![5, 1, v2981.toNat, 0]
def k0_off15 (i : grid0.Coords) (c0_i32_1502 : BitVec 32) : Fin 4 → Nat :=
  let c6_1503 : Index := 6#32
  let c1_1504 : Index := 1#32
  let arg0 : BitVec 32 := BitVec.ofNat 32 (i 0).val
  let c2_i32 : BitVec 32 := 2#32
  let v44 : BitVec 32 := Scalar.muli arg0 c2_i32
  let v2998 : BitVec 32 := Scalar.addi v44 c0_i32_1502
  let v2999 : Index := Scalar.indexCast v2998
  let c0_1505 : Index := 0#32
  ![6, 1, v2999.toNat, 0]
def k0_off16 (i : grid0.Coords) (c0_i32_1515 : BitVec 32) : Fin 4 → Nat :=
  let c7_1516 : Index := 7#32
  let c1_1517 : Index := 1#32
  let arg0 : BitVec 32 := BitVec.ofNat 32 (i 0).val
  let c2_i32 : BitVec 32 := 2#32
  let v44 : BitVec 32 := Scalar.muli arg0 c2_i32
  let v3016 : BitVec 32 := Scalar.addi v44 c0_i32_1515
  let v3017 : Index := Scalar.indexCast v3016
  let c0_1518 : Index := 0#32
  ![7, 1, v3017.toNat, 0]
def k0_mult1 : BitVec 32 :=
  let c0_i32_1730 : BitVec 32 := 0#32
  c0_i32_1730
@[reducible] def k0_t1_loop (i : grid0.Coords) : Scf.Loop 32 :=
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let c1_i32_1781 : BitVec 32 := 1#32
  ⟨c0_i32_1779, v3378, c1_i32_1781⟩
def k0_mult2 (i : grid0.Coords) (k0_t1 : Fin (k0_t1_loop i).trips) : BitVec 32 :=
  let c4_i32_3065 : BitVec 32 := 4#32
  let c0_i32_1779 : BitVec 32 := 0#32
  let c1_i32_1781 : BitVec 32 := 1#32
  let arg26 : BitVec 32 := Scf.iv c0_i32_1779 c1_i32_1781 k0_t1
  let v5122 : BitVec 32 := Scalar.muli c4_i32_3065 arg26
  let c1_i32_3066 : BitVec 32 := 1#32
  let v5123 : BitVec 32 := Scalar.addi v5122 c1_i32_3066
  let c512_i32 : BitVec 32 := 512#32
  let v5124 : BitVec 32 := Scalar.muli v5123 c512_i32
  v5124
def k0_off17 (i : grid0.Coords) (k0_t1 : Fin (k0_t1_loop i).trips) (c1_i32_3066 : BitVec 32) : Fin 2 → Nat :=
  let c4_i32_3065 : BitVec 32 := 4#32
  let c0_i32_1779 : BitVec 32 := 0#32
  let c1_i32_1781 : BitVec 32 := 1#32
  let arg26 : BitVec 32 := Scf.iv c0_i32_1779 c1_i32_1781 k0_t1
  let v5122 : BitVec 32 := Scalar.muli c4_i32_3065 arg26
  let v5123 : BitVec 32 := Scalar.addi v5122 c1_i32_3066
  let c512_i32 : BitVec 32 := 512#32
  let v5124 : BitVec 32 := Scalar.muli v5123 c512_i32
  let v5125 : BitVec 32 := v5124
  let v5126 : Index := Scalar.indexCast v5125
  let c0_3067 : Index := 0#32
  ![v5126.toNat, 0]
def k0_off18 (i : grid0.Coords) (k0_t1 : Fin (k0_t1_loop i).trips) : Fin 3 → Nat :=
  let c4_i32_3065 : BitVec 32 := 4#32
  let c0_i32_1779 : BitVec 32 := 0#32
  let c1_i32_1781 : BitVec 32 := 1#32
  let arg26 : BitVec 32 := Scf.iv c0_i32_1779 c1_i32_1781 k0_t1
  let v5122 : BitVec 32 := Scalar.muli c4_i32_3065 arg26
  let v5168 : Index := Scalar.indexCast v5122
  let c0_3108 : Index := 0#32
  let c0_3109 : Index := 0#32
  ![v5168.toNat, 0, 0]
def k0_mult3 (i : grid0.Coords) (k0_t1 : Fin (k0_t1_loop i).trips) : BitVec 32 :=
  let c4_i32_3065 : BitVec 32 := 4#32
  let c0_i32_1779 : BitVec 32 := 0#32
  let c1_i32_1781 : BitVec 32 := 1#32
  let arg26 : BitVec 32 := Scf.iv c0_i32_1779 c1_i32_1781 k0_t1
  let v5122 : BitVec 32 := Scalar.muli c4_i32_3065 arg26
  let c2_i32_3194 : BitVec 32 := 2#32
  let v5275 : BitVec 32 := Scalar.addi v5122 c2_i32_3194
  let c512_i32_3195 : BitVec 32 := 512#32
  let v5276 : BitVec 32 := Scalar.muli v5275 c512_i32_3195
  v5276
def k0_off19 (i : grid0.Coords) (k0_t1 : Fin (k0_t1_loop i).trips) (c1_i32_3237 : BitVec 32) : Fin 3 → Nat :=
  let c4_i32_3065 : BitVec 32 := 4#32
  let c0_i32_1779 : BitVec 32 := 0#32
  let c1_i32_1781 : BitVec 32 := 1#32
  let arg26 : BitVec 32 := Scf.iv c0_i32_1779 c1_i32_1781 k0_t1
  let v5122 : BitVec 32 := Scalar.muli c4_i32_3065 arg26
  let v5320 : BitVec 32 := Scalar.addi v5122 c1_i32_3237
  let v5321 : Index := Scalar.indexCast v5320
  let c0_3238 : Index := 0#32
  let c0_3239 : Index := 0#32
  ![v5321.toNat, 0, 0]
def k0_mult4 (i : grid0.Coords) (k0_t1 : Fin (k0_t1_loop i).trips) : BitVec 32 :=
  let c4_i32_3324 : BitVec 32 := 4#32
  let c0_i32_1779 : BitVec 32 := 0#32
  let c1_i32_1781 : BitVec 32 := 1#32
  let arg26 : BitVec 32 := Scf.iv c0_i32_1779 c1_i32_1781 k0_t1
  let v5428 : BitVec 32 := Scalar.muli c4_i32_3324 arg26
  let c2_i32_3325 : BitVec 32 := 2#32
  let v5429 : BitVec 32 := Scalar.addi v5428 c2_i32_3325
  let c1_i32_3326 : BitVec 32 := 1#32
  let v5430 : BitVec 32 := Scalar.addi v5429 c1_i32_3326
  let c512_i32_3327 : BitVec 32 := 512#32
  let v5431 : BitVec 32 := Scalar.muli v5430 c512_i32_3327
  v5431
def k0_off20 (i : grid0.Coords) (k0_t1 : Fin (k0_t1_loop i).trips) (c1_i32_3326 : BitVec 32) : Fin 2 → Nat :=
  let c4_i32_3324 : BitVec 32 := 4#32
  let c0_i32_1779 : BitVec 32 := 0#32
  let c1_i32_1781 : BitVec 32 := 1#32
  let arg26 : BitVec 32 := Scf.iv c0_i32_1779 c1_i32_1781 k0_t1
  let v5428 : BitVec 32 := Scalar.muli c4_i32_3324 arg26
  let c2_i32_3325 : BitVec 32 := 2#32
  let v5429 : BitVec 32 := Scalar.addi v5428 c2_i32_3325
  let v5430 : BitVec 32 := Scalar.addi v5429 c1_i32_3326
  let c512_i32_3327 : BitVec 32 := 512#32
  let v5431 : BitVec 32 := Scalar.muli v5430 c512_i32_3327
  let v5432 : BitVec 32 := v5431
  let v5433 : Index := Scalar.indexCast v5432
  let c0_3328 : Index := 0#32
  ![v5433.toNat, 0]
def k0_mult5 (i : grid0.Coords) (k0_t1 : Fin (k0_t1_loop i).trips) : BitVec 32 :=
  let c4_i32_3324 : BitVec 32 := 4#32
  let c0_i32_1779 : BitVec 32 := 0#32
  let c1_i32_1781 : BitVec 32 := 1#32
  let arg26 : BitVec 32 := Scf.iv c0_i32_1779 c1_i32_1781 k0_t1
  let v5428 : BitVec 32 := Scalar.muli c4_i32_3324 arg26
  let c2_i32_3325 : BitVec 32 := 2#32
  let v5429 : BitVec 32 := Scalar.addi v5428 c2_i32_3325
  let c2_i32_3455 : BitVec 32 := 2#32
  let v5582 : BitVec 32 := Scalar.addi v5429 c2_i32_3455
  let c512_i32_3456 : BitVec 32 := 512#32
  let v5583 : BitVec 32 := Scalar.muli v5582 c512_i32_3456
  v5583
def k0_off21 (i : grid0.Coords) (k0_t1 : Fin (k0_t1_loop i).trips) : Fin 3 → Nat :=
  let c4_i32_3324 : BitVec 32 := 4#32
  let c0_i32_1779 : BitVec 32 := 0#32
  let c1_i32_1781 : BitVec 32 := 1#32
  let arg26 : BitVec 32 := Scf.iv c0_i32_1779 c1_i32_1781 k0_t1
  let v5428 : BitVec 32 := Scalar.muli c4_i32_3324 arg26
  let c2_i32_3325 : BitVec 32 := 2#32
  let v5429 : BitVec 32 := Scalar.addi v5428 c2_i32_3325
  let c1_i32_3498 : BitVec 32 := 1#32
  let v5627 : BitVec 32 := Scalar.addi v5429 c1_i32_3498
  let v5628 : Index := Scalar.indexCast v5627
  let c0_3499 : Index := 0#32
  let c0_3500 : Index := 0#32
  ![v5628.toNat, 0, 0]
@[reducible] def k0_t2_loop (i : grid0.Coords) : Scf.Loop 32 :=
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let v3375 : BitVec 32 := Scalar.addi c0_i32_1779 v3374
  let c1_i32_1782 : BitVec 32 := 1#32
  ⟨v3378, v3375, c1_i32_1782⟩
def k0_mult6 (i : grid0.Coords) (k0_t2 : Fin (k0_t2_loop i).trips) : BitVec 32 :=
  let c4_i32_3065 : BitVec 32 := 4#32
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let c1_i32_1782 : BitVec 32 := 1#32
  let arg26 : BitVec 32 := Scf.iv v3378 c1_i32_1782 k0_t2
  let v5122 : BitVec 32 := Scalar.muli c4_i32_3065 arg26
  let c1_i32_3066 : BitVec 32 := 1#32
  let v5123 : BitVec 32 := Scalar.addi v5122 c1_i32_3066
  let c512_i32 : BitVec 32 := 512#32
  let v5124 : BitVec 32 := Scalar.muli v5123 c512_i32
  v5124
def k0_off22 (i : grid0.Coords) (k0_t2 : Fin (k0_t2_loop i).trips) (c1_i32_3066 : BitVec 32) : Fin 2 → Nat :=
  let c4_i32_3065 : BitVec 32 := 4#32
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let c1_i32_1782 : BitVec 32 := 1#32
  let arg26 : BitVec 32 := Scf.iv v3378 c1_i32_1782 k0_t2
  let v5122 : BitVec 32 := Scalar.muli c4_i32_3065 arg26
  let v5123 : BitVec 32 := Scalar.addi v5122 c1_i32_3066
  let c512_i32 : BitVec 32 := 512#32
  let v5124 : BitVec 32 := Scalar.muli v5123 c512_i32
  let v5125 : BitVec 32 := v5124
  let v5126 : Index := Scalar.indexCast v5125
  let c0_3067 : Index := 0#32
  ![v5126.toNat, 0]
def k0_off23 (i : grid0.Coords) (k0_t2 : Fin (k0_t2_loop i).trips) : Fin 3 → Nat :=
  let c4_i32_3065 : BitVec 32 := 4#32
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let c1_i32_1782 : BitVec 32 := 1#32
  let arg26 : BitVec 32 := Scf.iv v3378 c1_i32_1782 k0_t2
  let v5122 : BitVec 32 := Scalar.muli c4_i32_3065 arg26
  let v5168 : Index := Scalar.indexCast v5122
  let c0_3108 : Index := 0#32
  let c0_3109 : Index := 0#32
  ![v5168.toNat, 0, 0]
def k0_mult7 (i : grid0.Coords) (k0_t2 : Fin (k0_t2_loop i).trips) : BitVec 32 :=
  let c4_i32_3065 : BitVec 32 := 4#32
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let c1_i32_1782 : BitVec 32 := 1#32
  let arg26 : BitVec 32 := Scf.iv v3378 c1_i32_1782 k0_t2
  let v5122 : BitVec 32 := Scalar.muli c4_i32_3065 arg26
  let c2_i32_3194 : BitVec 32 := 2#32
  let v5275 : BitVec 32 := Scalar.addi v5122 c2_i32_3194
  let c512_i32_3195 : BitVec 32 := 512#32
  let v5276 : BitVec 32 := Scalar.muli v5275 c512_i32_3195
  v5276
def k0_off24 (i : grid0.Coords) (k0_t2 : Fin (k0_t2_loop i).trips) (c1_i32_3237 : BitVec 32) : Fin 3 → Nat :=
  let c4_i32_3065 : BitVec 32 := 4#32
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let c1_i32_1782 : BitVec 32 := 1#32
  let arg26 : BitVec 32 := Scf.iv v3378 c1_i32_1782 k0_t2
  let v5122 : BitVec 32 := Scalar.muli c4_i32_3065 arg26
  let v5320 : BitVec 32 := Scalar.addi v5122 c1_i32_3237
  let v5321 : Index := Scalar.indexCast v5320
  let c0_3238 : Index := 0#32
  let c0_3239 : Index := 0#32
  ![v5321.toNat, 0, 0]
def k0_mult8 (i : grid0.Coords) (k0_t2 : Fin (k0_t2_loop i).trips) : BitVec 32 :=
  let c4_i32_3324 : BitVec 32 := 4#32
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let c1_i32_1782 : BitVec 32 := 1#32
  let arg26 : BitVec 32 := Scf.iv v3378 c1_i32_1782 k0_t2
  let v5428 : BitVec 32 := Scalar.muli c4_i32_3324 arg26
  let c2_i32_3325 : BitVec 32 := 2#32
  let v5429 : BitVec 32 := Scalar.addi v5428 c2_i32_3325
  let c1_i32_3326 : BitVec 32 := 1#32
  let v5430 : BitVec 32 := Scalar.addi v5429 c1_i32_3326
  let c512_i32_3327 : BitVec 32 := 512#32
  let v5431 : BitVec 32 := Scalar.muli v5430 c512_i32_3327
  v5431
def k0_off25 (i : grid0.Coords) (k0_t2 : Fin (k0_t2_loop i).trips) (c1_i32_3326 : BitVec 32) : Fin 2 → Nat :=
  let c4_i32_3324 : BitVec 32 := 4#32
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let c1_i32_1782 : BitVec 32 := 1#32
  let arg26 : BitVec 32 := Scf.iv v3378 c1_i32_1782 k0_t2
  let v5428 : BitVec 32 := Scalar.muli c4_i32_3324 arg26
  let c2_i32_3325 : BitVec 32 := 2#32
  let v5429 : BitVec 32 := Scalar.addi v5428 c2_i32_3325
  let v5430 : BitVec 32 := Scalar.addi v5429 c1_i32_3326
  let c512_i32_3327 : BitVec 32 := 512#32
  let v5431 : BitVec 32 := Scalar.muli v5430 c512_i32_3327
  let v5432 : BitVec 32 := v5431
  let v5433 : Index := Scalar.indexCast v5432
  let c0_3328 : Index := 0#32
  ![v5433.toNat, 0]
def k0_mult9 (i : grid0.Coords) (k0_t2 : Fin (k0_t2_loop i).trips) : BitVec 32 :=
  let c4_i32_3324 : BitVec 32 := 4#32
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let c1_i32_1782 : BitVec 32 := 1#32
  let arg26 : BitVec 32 := Scf.iv v3378 c1_i32_1782 k0_t2
  let v5428 : BitVec 32 := Scalar.muli c4_i32_3324 arg26
  let c2_i32_3325 : BitVec 32 := 2#32
  let v5429 : BitVec 32 := Scalar.addi v5428 c2_i32_3325
  let c2_i32_3455 : BitVec 32 := 2#32
  let v5582 : BitVec 32 := Scalar.addi v5429 c2_i32_3455
  let c512_i32_3456 : BitVec 32 := 512#32
  let v5583 : BitVec 32 := Scalar.muli v5582 c512_i32_3456
  v5583
def k0_off26 (i : grid0.Coords) (k0_t2 : Fin (k0_t2_loop i).trips) : Fin 3 → Nat :=
  let c4_i32_3324 : BitVec 32 := 4#32
  let c0_i32_1779 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1772 : BitVec 32 := 0#32
  let v3358 : BitVec 1 := Scalar.cmpi .sgt v9 c0_i32_1772
  let v3359 : BitVec 32 := Scalar.extui v3358
  let c0_i32_1773 : BitVec 32 := 0#32
  let v3360 : BitVec 1 := Scalar.cmpi .slt v9 c0_i32_1773
  let v3361 : BitVec 32 := Scalar.extui v3360
  let v3362 : BitVec 32 := Scalar.subi v3359 v3361
  let c4_i32 : BitVec 32 := 4#32
  let c0_i32_1774 : BitVec 32 := 0#32
  let v3363 : BitVec 1 := Scalar.cmpi .sgt c4_i32 c0_i32_1774
  let v3364 : BitVec 32 := Scalar.extui v3363
  let c0_i32_1775 : BitVec 32 := 0#32
  let v3365 : BitVec 1 := Scalar.cmpi .slt c4_i32 c0_i32_1775
  let v3366 : BitVec 32 := Scalar.extui v3365
  let v3367 : BitVec 32 := Scalar.subi v3364 v3366
  let v3368 : BitVec 1 := Scalar.cmpi .ne v3362 v3367
  let v3369 : BitVec 32 := Scalar.remsi v9 c4_i32
  let c0_i32_1776 : BitVec 32 := 0#32
  let v3370 : BitVec 1 := Scalar.cmpi .ne v3369 c0_i32_1776
  let v3371 : BitVec 1 := Scalar.andi v3368 v3370
  let v3357 : BitVec 32 := Scalar.divsi v9 c4_i32
  let c1_i32_1777 : BitVec 32 := 1#32
  let v3372 : BitVec 32 := Scalar.subi v3357 c1_i32_1777
  let v3373 : BitVec 32 := Scalar.select v3371 v3372 v3357
  let v3374 : BitVec 32 := Scalar.subi v3373 c0_i32_1779
  let c1_i32_1780 : BitVec 32 := 1#32
  let v3376 : BitVec 32 := Scalar.divsi v3374 c1_i32_1780
  let v3377 : BitVec 32 := Scalar.muli v3376 c1_i32_1780
  let v3378 : BitVec 32 := Scalar.addi c0_i32_1779 v3377
  let c1_i32_1782 : BitVec 32 := 1#32
  let arg26 : BitVec 32 := Scf.iv v3378 c1_i32_1782 k0_t2
  let v5428 : BitVec 32 := Scalar.muli c4_i32_3324 arg26
  let c2_i32_3325 : BitVec 32 := 2#32
  let v5429 : BitVec 32 := Scalar.addi v5428 c2_i32_3325
  let c1_i32_3498 : BitVec 32 := 1#32
  let v5627 : BitVec 32 := Scalar.addi v5429 c1_i32_3498
  let v5628 : Index := Scalar.indexCast v5627
  let c0_3499 : Index := 0#32
  let c0_3500 : Index := 0#32
  ![v5628.toNat, 0, 0]
def k0_cond2 (i : grid0.Coords) : BitVec 1 :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1784 : BitVec 32 := 0#32
  let v3380 : BitVec 1 := Scalar.cmpi .sgt v9 c0_i32_1784
  let v3381 : BitVec 32 := Scalar.extui v3380
  let c0_i32_1785 : BitVec 32 := 0#32
  let v3382 : BitVec 1 := Scalar.cmpi .slt v9 c0_i32_1785
  let v3383 : BitVec 32 := Scalar.extui v3382
  let v3384 : BitVec 32 := Scalar.subi v3381 v3383
  let c2_i32_1783 : BitVec 32 := 2#32
  let c0_i32_1786 : BitVec 32 := 0#32
  let v3385 : BitVec 1 := Scalar.cmpi .sgt c2_i32_1783 c0_i32_1786
  let v3386 : BitVec 32 := Scalar.extui v3385
  let c0_i32_1787 : BitVec 32 := 0#32
  let v3387 : BitVec 1 := Scalar.cmpi .slt c2_i32_1783 c0_i32_1787
  let v3388 : BitVec 32 := Scalar.extui v3387
  let v3389 : BitVec 32 := Scalar.subi v3386 v3388
  let v3390 : BitVec 1 := Scalar.cmpi .ne v3384 v3389
  let v3391 : BitVec 32 := Scalar.remsi v9 c2_i32_1783
  let c0_i32_1788 : BitVec 32 := 0#32
  let v3392 : BitVec 1 := Scalar.cmpi .ne v3391 c0_i32_1788
  let v3393 : BitVec 1 := Scalar.andi v3390 v3392
  let v3379 : BitVec 32 := Scalar.divsi v9 c2_i32_1783
  let c1_i32_1789 : BitVec 32 := 1#32
  let v3394 : BitVec 32 := Scalar.subi v3379 c1_i32_1789
  let v3395 : BitVec 32 := Scalar.select v3393 v3394 v3379
  let c2_i32_1790 : BitVec 32 := 2#32
  let c0_i32_1791 : BitVec 32 := 0#32
  let v3396 : BitVec 1 := Scalar.cmpi .eq c2_i32_1790 c0_i32_1791
  let c1_i32_1792 : BitVec 32 := 1#32
  let v3397 : BitVec 32 := Scalar.select v3396 c1_i32_1792 c2_i32_1790
  let v3398 : BitVec 32 := Scalar.remsi v3395 v3397
  let c0_i32_1794 : BitVec 32 := 0#32
  let v3400 : BitVec 1 := Scalar.cmpi .slt v3398 c0_i32_1794
  let c0_i32_1795 : BitVec 32 := 0#32
  let v3401 : BitVec 1 := Scalar.cmpi .slt v3397 c0_i32_1795
  let v3402 : BitVec 1 := Scalar.xori v3400 v3401
  let c0_i32_1793 : BitVec 32 := 0#32
  let v3399 : BitVec 1 := Scalar.cmpi .ne v3398 c0_i32_1793
  let v3403 : BitVec 1 := Scalar.andi v3402 v3399
  let v3404 : BitVec 32 := Scalar.addi v3398 v3397
  let v3405 : BitVec 32 := Scalar.select v3403 v3404 v3398
  let c1_i32_1796 : BitVec 32 := 1#32
  let v3406 : BitVec 1 := Scalar.cmpi .eq v3405 c1_i32_1796
  let v3407 : BitVec 32 := Scalar.extui v3406
  let c0_i32_1797 : BitVec 32 := 0#32
  let v3408 : BitVec 1 := Scalar.cmpi .ne v3407 c0_i32_1797
  v3408

def k0_mult10 (i : grid0.Coords) : BitVec 32 :=
  let c4_i32_3072 : BitVec 32 := 4#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3066 : BitVec 32 := 0#32
  let v5123 : BitVec 1 := Scalar.cmpi .sgt v9 c0_i32_3066
  let v5124 : BitVec 32 := Scalar.extui v5123
  let c0_i32_3067 : BitVec 32 := 0#32
  let v5125 : BitVec 1 := Scalar.cmpi .slt v9 c0_i32_3067
  let v5126 : BitVec 32 := Scalar.extui v5125
  let v5127 : BitVec 32 := Scalar.subi v5124 v5126
  let c4_i32_3065 : BitVec 32 := 4#32
  let c0_i32_3068 : BitVec 32 := 0#32
  let v5128 : BitVec 1 := Scalar.cmpi .sgt c4_i32_3065 c0_i32_3068
  let v5129 : BitVec 32 := Scalar.extui v5128
  let c0_i32_3069 : BitVec 32 := 0#32
  let v5130 : BitVec 1 := Scalar.cmpi .slt c4_i32_3065 c0_i32_3069
  let v5131 : BitVec 32 := Scalar.extui v5130
  let v5132 : BitVec 32 := Scalar.subi v5129 v5131
  let v5133 : BitVec 1 := Scalar.cmpi .ne v5127 v5132
  let v5134 : BitVec 32 := Scalar.remsi v9 c4_i32_3065
  let c0_i32_3070 : BitVec 32 := 0#32
  let v5135 : BitVec 1 := Scalar.cmpi .ne v5134 c0_i32_3070
  let v5136 : BitVec 1 := Scalar.andi v5133 v5135
  let v5122 : BitVec 32 := Scalar.divsi v9 c4_i32_3065
  let c1_i32_3071 : BitVec 32 := 1#32
  let v5137 : BitVec 32 := Scalar.subi v5122 c1_i32_3071
  let v5138 : BitVec 32 := Scalar.select v5136 v5137 v5122
  let v5139 : BitVec 32 := Scalar.muli c4_i32_3072 v5138
  let c1_i32_3073 : BitVec 32 := 1#32
  let v5140 : BitVec 32 := Scalar.addi v5139 c1_i32_3073
  let c512_i32 : BitVec 32 := 512#32
  let v5141 : BitVec 32 := Scalar.muli v5140 c512_i32
  v5141
def k0_off27 (i : grid0.Coords) (c1_i32_3073 : BitVec 32) : Fin 2 → Nat :=
  let c4_i32_3072 : BitVec 32 := 4#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3066 : BitVec 32 := 0#32
  let v5123 : BitVec 1 := Scalar.cmpi .sgt v9 c0_i32_3066
  let v5124 : BitVec 32 := Scalar.extui v5123
  let c0_i32_3067 : BitVec 32 := 0#32
  let v5125 : BitVec 1 := Scalar.cmpi .slt v9 c0_i32_3067
  let v5126 : BitVec 32 := Scalar.extui v5125
  let v5127 : BitVec 32 := Scalar.subi v5124 v5126
  let c4_i32_3065 : BitVec 32 := 4#32
  let c0_i32_3068 : BitVec 32 := 0#32
  let v5128 : BitVec 1 := Scalar.cmpi .sgt c4_i32_3065 c0_i32_3068
  let v5129 : BitVec 32 := Scalar.extui v5128
  let c0_i32_3069 : BitVec 32 := 0#32
  let v5130 : BitVec 1 := Scalar.cmpi .slt c4_i32_3065 c0_i32_3069
  let v5131 : BitVec 32 := Scalar.extui v5130
  let v5132 : BitVec 32 := Scalar.subi v5129 v5131
  let v5133 : BitVec 1 := Scalar.cmpi .ne v5127 v5132
  let v5134 : BitVec 32 := Scalar.remsi v9 c4_i32_3065
  let c0_i32_3070 : BitVec 32 := 0#32
  let v5135 : BitVec 1 := Scalar.cmpi .ne v5134 c0_i32_3070
  let v5136 : BitVec 1 := Scalar.andi v5133 v5135
  let v5122 : BitVec 32 := Scalar.divsi v9 c4_i32_3065
  let c1_i32_3071 : BitVec 32 := 1#32
  let v5137 : BitVec 32 := Scalar.subi v5122 c1_i32_3071
  let v5138 : BitVec 32 := Scalar.select v5136 v5137 v5122
  let v5139 : BitVec 32 := Scalar.muli c4_i32_3072 v5138
  let v5140 : BitVec 32 := Scalar.addi v5139 c1_i32_3073
  let c512_i32 : BitVec 32 := 512#32
  let v5141 : BitVec 32 := Scalar.muli v5140 c512_i32
  let v5142 : BitVec 32 := v5141
  let v5143 : Index := Scalar.indexCast v5142
  let c0_3074 : Index := 0#32
  ![v5143.toNat, 0]
def k0_off28 (i : grid0.Coords) : Fin 3 → Nat :=
  let c4_i32_3072 : BitVec 32 := 4#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3066 : BitVec 32 := 0#32
  let v5123 : BitVec 1 := Scalar.cmpi .sgt v9 c0_i32_3066
  let v5124 : BitVec 32 := Scalar.extui v5123
  let c0_i32_3067 : BitVec 32 := 0#32
  let v5125 : BitVec 1 := Scalar.cmpi .slt v9 c0_i32_3067
  let v5126 : BitVec 32 := Scalar.extui v5125
  let v5127 : BitVec 32 := Scalar.subi v5124 v5126
  let c4_i32_3065 : BitVec 32 := 4#32
  let c0_i32_3068 : BitVec 32 := 0#32
  let v5128 : BitVec 1 := Scalar.cmpi .sgt c4_i32_3065 c0_i32_3068
  let v5129 : BitVec 32 := Scalar.extui v5128
  let c0_i32_3069 : BitVec 32 := 0#32
  let v5130 : BitVec 1 := Scalar.cmpi .slt c4_i32_3065 c0_i32_3069
  let v5131 : BitVec 32 := Scalar.extui v5130
  let v5132 : BitVec 32 := Scalar.subi v5129 v5131
  let v5133 : BitVec 1 := Scalar.cmpi .ne v5127 v5132
  let v5134 : BitVec 32 := Scalar.remsi v9 c4_i32_3065
  let c0_i32_3070 : BitVec 32 := 0#32
  let v5135 : BitVec 1 := Scalar.cmpi .ne v5134 c0_i32_3070
  let v5136 : BitVec 1 := Scalar.andi v5133 v5135
  let v5122 : BitVec 32 := Scalar.divsi v9 c4_i32_3065
  let c1_i32_3071 : BitVec 32 := 1#32
  let v5137 : BitVec 32 := Scalar.subi v5122 c1_i32_3071
  let v5138 : BitVec 32 := Scalar.select v5136 v5137 v5122
  let v5139 : BitVec 32 := Scalar.muli c4_i32_3072 v5138
  let v5185 : Index := Scalar.indexCast v5139
  let c0_3115 : Index := 0#32
  let c0_3116 : Index := 0#32
  ![v5185.toNat, 0, 0]
def k0_mult11 (i : grid0.Coords) : BitVec 32 :=
  let c4_i32_3072 : BitVec 32 := 4#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3066 : BitVec 32 := 0#32
  let v5123 : BitVec 1 := Scalar.cmpi .sgt v9 c0_i32_3066
  let v5124 : BitVec 32 := Scalar.extui v5123
  let c0_i32_3067 : BitVec 32 := 0#32
  let v5125 : BitVec 1 := Scalar.cmpi .slt v9 c0_i32_3067
  let v5126 : BitVec 32 := Scalar.extui v5125
  let v5127 : BitVec 32 := Scalar.subi v5124 v5126
  let c4_i32_3065 : BitVec 32 := 4#32
  let c0_i32_3068 : BitVec 32 := 0#32
  let v5128 : BitVec 1 := Scalar.cmpi .sgt c4_i32_3065 c0_i32_3068
  let v5129 : BitVec 32 := Scalar.extui v5128
  let c0_i32_3069 : BitVec 32 := 0#32
  let v5130 : BitVec 1 := Scalar.cmpi .slt c4_i32_3065 c0_i32_3069
  let v5131 : BitVec 32 := Scalar.extui v5130
  let v5132 : BitVec 32 := Scalar.subi v5129 v5131
  let v5133 : BitVec 1 := Scalar.cmpi .ne v5127 v5132
  let v5134 : BitVec 32 := Scalar.remsi v9 c4_i32_3065
  let c0_i32_3070 : BitVec 32 := 0#32
  let v5135 : BitVec 1 := Scalar.cmpi .ne v5134 c0_i32_3070
  let v5136 : BitVec 1 := Scalar.andi v5133 v5135
  let v5122 : BitVec 32 := Scalar.divsi v9 c4_i32_3065
  let c1_i32_3071 : BitVec 32 := 1#32
  let v5137 : BitVec 32 := Scalar.subi v5122 c1_i32_3071
  let v5138 : BitVec 32 := Scalar.select v5136 v5137 v5122
  let v5139 : BitVec 32 := Scalar.muli c4_i32_3072 v5138
  let c2_i32_3201 : BitVec 32 := 2#32
  let v5292 : BitVec 32 := Scalar.addi v5139 c2_i32_3201
  let c512_i32_3202 : BitVec 32 := 512#32
  let v5293 : BitVec 32 := Scalar.muli v5292 c512_i32_3202
  v5293
def k0_off29 (i : grid0.Coords) : Fin 3 → Nat :=
  let c4_i32_3072 : BitVec 32 := 4#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3066 : BitVec 32 := 0#32
  let v5123 : BitVec 1 := Scalar.cmpi .sgt v9 c0_i32_3066
  let v5124 : BitVec 32 := Scalar.extui v5123
  let c0_i32_3067 : BitVec 32 := 0#32
  let v5125 : BitVec 1 := Scalar.cmpi .slt v9 c0_i32_3067
  let v5126 : BitVec 32 := Scalar.extui v5125
  let v5127 : BitVec 32 := Scalar.subi v5124 v5126
  let c4_i32_3065 : BitVec 32 := 4#32
  let c0_i32_3068 : BitVec 32 := 0#32
  let v5128 : BitVec 1 := Scalar.cmpi .sgt c4_i32_3065 c0_i32_3068
  let v5129 : BitVec 32 := Scalar.extui v5128
  let c0_i32_3069 : BitVec 32 := 0#32
  let v5130 : BitVec 1 := Scalar.cmpi .slt c4_i32_3065 c0_i32_3069
  let v5131 : BitVec 32 := Scalar.extui v5130
  let v5132 : BitVec 32 := Scalar.subi v5129 v5131
  let v5133 : BitVec 1 := Scalar.cmpi .ne v5127 v5132
  let v5134 : BitVec 32 := Scalar.remsi v9 c4_i32_3065
  let c0_i32_3070 : BitVec 32 := 0#32
  let v5135 : BitVec 1 := Scalar.cmpi .ne v5134 c0_i32_3070
  let v5136 : BitVec 1 := Scalar.andi v5133 v5135
  let v5122 : BitVec 32 := Scalar.divsi v9 c4_i32_3065
  let c1_i32_3071 : BitVec 32 := 1#32
  let v5137 : BitVec 32 := Scalar.subi v5122 c1_i32_3071
  let v5138 : BitVec 32 := Scalar.select v5136 v5137 v5122
  let v5139 : BitVec 32 := Scalar.muli c4_i32_3072 v5138
  let c1_i32_3244 : BitVec 32 := 1#32
  let v5337 : BitVec 32 := Scalar.addi v5139 c1_i32_3244
  let v5338 : Index := Scalar.indexCast v5337
  let c0_3245 : Index := 0#32
  let c0_3246 : Index := 0#32
  ![v5338.toNat, 0, 0]
def k0_cond3 (i : grid0.Coords) : BitVec 1 :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_1798 : BitVec 32 := 2#32
  let c0_i32_1799 : BitVec 32 := 0#32
  let v3409 : BitVec 1 := Scalar.cmpi .eq c2_i32_1798 c0_i32_1799
  let c1_i32_1800 : BitVec 32 := 1#32
  let v3410 : BitVec 32 := Scalar.select v3409 c1_i32_1800 c2_i32_1798
  let v3411 : BitVec 32 := Scalar.remsi v9 v3410
  let c0_i32_1802 : BitVec 32 := 0#32
  let v3413 : BitVec 1 := Scalar.cmpi .slt v3411 c0_i32_1802
  let c0_i32_1803 : BitVec 32 := 0#32
  let v3414 : BitVec 1 := Scalar.cmpi .slt v3410 c0_i32_1803
  let v3415 : BitVec 1 := Scalar.xori v3413 v3414
  let c0_i32_1801 : BitVec 32 := 0#32
  let v3412 : BitVec 1 := Scalar.cmpi .ne v3411 c0_i32_1801
  let v3416 : BitVec 1 := Scalar.andi v3415 v3412
  let v3417 : BitVec 32 := Scalar.addi v3411 v3410
  let v3418 : BitVec 32 := Scalar.select v3416 v3417 v3411
  let c1_i32_1804 : BitVec 32 := 1#32
  let v3419 : BitVec 1 := Scalar.cmpi .eq v3418 c1_i32_1804
  let v3420 : BitVec 32 := Scalar.extui v3419
  let c0_i32_1805 : BitVec 32 := 0#32
  let v3421 : BitVec 1 := Scalar.cmpi .ne v3420 c0_i32_1805
  v3421

def k0_mult12 (i : grid0.Coords) : BitVec 32 :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c512_i32 : BitVec 32 := 512#32
  let v5122 : BitVec 32 := Scalar.muli v9 c512_i32
  v5122
def k0_off30 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c512_i32 : BitVec 32 := 512#32
  let v5122 : BitVec 32 := Scalar.muli v9 c512_i32
  let v5123 : BitVec 32 := v5122
  let v5124 : Index := Scalar.indexCast v5123
  let c0_3065 : Index := 0#32
  ![v5124.toNat, 0]
def k0_off31 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3106 : BitVec 32 := 1#32
  let v5166 : BitVec 32 := Scalar.subi v9 c1_i32_3106
  let v5167 : Index := Scalar.indexCast v5166
  let c0_3107 : Index := 0#32
  let c0_3108 : Index := 0#32
  ![v5167.toNat, 0, 0]
def k0_off32 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4862 : Index := Scalar.indexCast v9
  let c0_2926 : Index := 0#32
  let c0_2927 : Index := 0#32
  ![v4862.toNat, 0, 0]
def k0_off33 (i : grid0.Coords) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_2920 : BitVec 32 := 2#32
  let c0_i32_2921 : BitVec 32 := 0#32
  let v4852 : BitVec 1 := Scalar.cmpi .eq c2_i32_2920 c0_i32_2921
  let c1_i32_2922 : BitVec 32 := 1#32
  let v4853 : BitVec 32 := Scalar.select v4852 c1_i32_2922 c2_i32_2920
  let v4854 : BitVec 32 := Scalar.remsi v9 v4853
  let c0_i32_2924 : BitVec 32 := 0#32
  let v4856 : BitVec 1 := Scalar.cmpi .slt v4854 c0_i32_2924
  let c0_i32_2925 : BitVec 32 := 0#32
  let v4857 : BitVec 1 := Scalar.cmpi .slt v4853 c0_i32_2925
  let v4858 : BitVec 1 := Scalar.xori v4856 v4857
  let c0_i32_2923 : BitVec 32 := 0#32
  let v4855 : BitVec 1 := Scalar.cmpi .ne v4854 c0_i32_2923
  let v4859 : BitVec 1 := Scalar.andi v4858 v4855
  let v4860 : BitVec 32 := Scalar.addi v4854 v4853
  let v4861 : BitVec 32 := Scalar.select v4859 v4860 v4854
  let v4869 : Index := Scalar.indexCast v4861
  let c0_2928 : Index := 0#32
  let c0_2929 : Index := 0#32
  let c0_2930 : Index := 0#32
  ![v4869.toNat, 0, 0, 0]
def k0_off34 (i : grid0.Coords) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_2920 : BitVec 32 := 2#32
  let c0_i32_2921 : BitVec 32 := 0#32
  let v4852 : BitVec 1 := Scalar.cmpi .eq c2_i32_2920 c0_i32_2921
  let c1_i32_2922 : BitVec 32 := 1#32
  let v4853 : BitVec 32 := Scalar.select v4852 c1_i32_2922 c2_i32_2920
  let v4854 : BitVec 32 := Scalar.remsi v9 v4853
  let c0_i32_2924 : BitVec 32 := 0#32
  let v4856 : BitVec 1 := Scalar.cmpi .slt v4854 c0_i32_2924
  let c0_i32_2925 : BitVec 32 := 0#32
  let v4857 : BitVec 1 := Scalar.cmpi .slt v4853 c0_i32_2925
  let v4858 : BitVec 1 := Scalar.xori v4856 v4857
  let c0_i32_2923 : BitVec 32 := 0#32
  let v4855 : BitVec 1 := Scalar.cmpi .ne v4854 c0_i32_2923
  let v4859 : BitVec 1 := Scalar.andi v4858 v4855
  let v4860 : BitVec 32 := Scalar.addi v4854 v4853
  let v4861 : BitVec 32 := Scalar.select v4859 v4860 v4854
  let v4872 : Index := Scalar.indexCast v4861
  let c1_2931 : Index := 1#32
  let c0_2932 : Index := 0#32
  let c0_2933 : Index := 0#32
  ![v4872.toNat, 1, 0, 0]
def k0_off35 (i : grid0.Coords) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_2920 : BitVec 32 := 2#32
  let c0_i32_2921 : BitVec 32 := 0#32
  let v4852 : BitVec 1 := Scalar.cmpi .eq c2_i32_2920 c0_i32_2921
  let c1_i32_2922 : BitVec 32 := 1#32
  let v4853 : BitVec 32 := Scalar.select v4852 c1_i32_2922 c2_i32_2920
  let v4854 : BitVec 32 := Scalar.remsi v9 v4853
  let c0_i32_2924 : BitVec 32 := 0#32
  let v4856 : BitVec 1 := Scalar.cmpi .slt v4854 c0_i32_2924
  let c0_i32_2925 : BitVec 32 := 0#32
  let v4857 : BitVec 1 := Scalar.cmpi .slt v4853 c0_i32_2925
  let v4858 : BitVec 1 := Scalar.xori v4856 v4857
  let c0_i32_2923 : BitVec 32 := 0#32
  let v4855 : BitVec 1 := Scalar.cmpi .ne v4854 c0_i32_2923
  let v4859 : BitVec 1 := Scalar.andi v4858 v4855
  let v4860 : BitVec 32 := Scalar.addi v4854 v4853
  let v4861 : BitVec 32 := Scalar.select v4859 v4860 v4854
  let v4875 : Index := Scalar.indexCast v4861
  let c2_2934 : Index := 2#32
  let c0_2935 : Index := 0#32
  let c0_2936 : Index := 0#32
  ![v4875.toNat, 2, 0, 0]
def k0_off36 (i : grid0.Coords) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_2920 : BitVec 32 := 2#32
  let c0_i32_2921 : BitVec 32 := 0#32
  let v4852 : BitVec 1 := Scalar.cmpi .eq c2_i32_2920 c0_i32_2921
  let c1_i32_2922 : BitVec 32 := 1#32
  let v4853 : BitVec 32 := Scalar.select v4852 c1_i32_2922 c2_i32_2920
  let v4854 : BitVec 32 := Scalar.remsi v9 v4853
  let c0_i32_2924 : BitVec 32 := 0#32
  let v4856 : BitVec 1 := Scalar.cmpi .slt v4854 c0_i32_2924
  let c0_i32_2925 : BitVec 32 := 0#32
  let v4857 : BitVec 1 := Scalar.cmpi .slt v4853 c0_i32_2925
  let v4858 : BitVec 1 := Scalar.xori v4856 v4857
  let c0_i32_2923 : BitVec 32 := 0#32
  let v4855 : BitVec 1 := Scalar.cmpi .ne v4854 c0_i32_2923
  let v4859 : BitVec 1 := Scalar.andi v4858 v4855
  let v4860 : BitVec 32 := Scalar.addi v4854 v4853
  let v4861 : BitVec 32 := Scalar.select v4859 v4860 v4854
  let v4878 : Index := Scalar.indexCast v4861
  let c3_2937 : Index := 3#32
  let c0_2938 : Index := 0#32
  let c0_2939 : Index := 0#32
  ![v4878.toNat, 3, 0, 0]
def cc0_transform_0 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c16_i32_10 : BitVec 32 := 16#32
  let v29 : BitVec 32 := Scalar.divsi arg0 c16_i32_10
  let c0_i32_11 : BitVec 32 := 0#32
  let v30 : BitVec 1 := Scalar.cmpi .sgt arg0 c0_i32_11
  let v31 : BitVec 32 := Scalar.extui v30
  let c0_i32_12 : BitVec 32 := 0#32
  let v32 : BitVec 1 := Scalar.cmpi .slt arg0 c0_i32_12
  let v33 : BitVec 32 := Scalar.extui v32
  let v34 : BitVec 32 := Scalar.subi v31 v33
  let c0_i32_13 : BitVec 32 := 0#32
  let v35 : BitVec 1 := Scalar.cmpi .sgt c16_i32_10 c0_i32_13
  let v36 : BitVec 32 := Scalar.extui v35
  let c0_i32_14 : BitVec 32 := 0#32
  let v37 : BitVec 1 := Scalar.cmpi .slt c16_i32_10 c0_i32_14
  let v38 : BitVec 32 := Scalar.extui v37
  let v39 : BitVec 32 := Scalar.subi v36 v38
  let v40 : BitVec 1 := Scalar.cmpi .ne v34 v39
  let v41 : BitVec 32 := Scalar.remsi arg0 c16_i32_10
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c2_i32 : BitVec 32 := 2#32
  let c0_i32_17 : BitVec 32 := 0#32
  let v46 : BitVec 1 := Scalar.cmpi .eq c2_i32 c0_i32_17
  let c1_i32_18 : BitVec 32 := 1#32
  let v47 : BitVec 32 := Scalar.select v46 c1_i32_18 c2_i32
  let v48 : BitVec 32 := Scalar.remsi v45 v47
  let c0_i32_19 : BitVec 32 := 0#32
  let v49 : BitVec 1 := Scalar.cmpi .ne v48 c0_i32_19
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let v53 : BitVec 1 := Scalar.andi v52 v49
  let v54 : BitVec 32 := Scalar.addi v48 v47
  let v55 : BitVec 32 := Scalar.select v53 v54 v48
  let c0_i32_22 : BitVec 32 := 0#32
  ![v28.toNat, v55.toNat]

def cc0_transform_1 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.divsi arg0 c16_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c16_i32 c0_i32_6
  let v24 : BitVec 32 := Scalar.extui v23
  let c0_i32_7 : BitVec 32 := 0#32
  let v25 : BitVec 1 := Scalar.cmpi .slt c16_i32 c0_i32_7
  let v26 : BitVec 32 := Scalar.extui v25
  let v27 : BitVec 32 := Scalar.subi v24 v26
  let v28 : BitVec 1 := Scalar.cmpi .ne v22 v27
  let v29 : BitVec 32 := Scalar.remsi arg0 c16_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32 : BitVec 32 := 2#32
  let c0_i32_10 : BitVec 32 := 0#32
  let v34 : BitVec 1 := Scalar.cmpi .eq c2_i32 c0_i32_10
  let c1_i32_11 : BitVec 32 := 1#32
  let v35 : BitVec 32 := Scalar.select v34 c1_i32_11 c2_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c2_i32_15 : BitVec 32 := 2#32
  let v44 : BitVec 32 := Scalar.addi c2_i32_15 v43
  let c0_i32_16 : BitVec 32 := 0#32
  ![v16.toNat, v44.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.divsi arg0 c16_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c16_i32 c0_i32_6
  let v24 : BitVec 32 := Scalar.extui v23
  let c0_i32_7 : BitVec 32 := 0#32
  let v25 : BitVec 1 := Scalar.cmpi .slt c16_i32 c0_i32_7
  let v26 : BitVec 32 := Scalar.extui v25
  let v27 : BitVec 32 := Scalar.subi v24 v26
  let v28 : BitVec 1 := Scalar.cmpi .ne v22 v27
  let v29 : BitVec 32 := Scalar.remsi arg0 c16_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32 : BitVec 32 := 2#32
  let c0_i32_10 : BitVec 32 := 0#32
  let v34 : BitVec 1 := Scalar.cmpi .eq c2_i32 c0_i32_10
  let c1_i32_11 : BitVec 32 := 1#32
  let v35 : BitVec 32 := Scalar.select v34 c1_i32_11 c2_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c0_i32_15 : BitVec 32 := 0#32
  let c0_i32_16 : BitVec 32 := 0#32
  ![v16.toNat, v43.toNat, c0_i32_15.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c16_i32_10 : BitVec 32 := 16#32
  let v29 : BitVec 32 := Scalar.divsi arg0 c16_i32_10
  let c0_i32_11 : BitVec 32 := 0#32
  let v30 : BitVec 1 := Scalar.cmpi .sgt arg0 c0_i32_11
  let v31 : BitVec 32 := Scalar.extui v30
  let c0_i32_12 : BitVec 32 := 0#32
  let v32 : BitVec 1 := Scalar.cmpi .slt arg0 c0_i32_12
  let v33 : BitVec 32 := Scalar.extui v32
  let v34 : BitVec 32 := Scalar.subi v31 v33
  let c0_i32_13 : BitVec 32 := 0#32
  let v35 : BitVec 1 := Scalar.cmpi .sgt c16_i32_10 c0_i32_13
  let v36 : BitVec 32 := Scalar.extui v35
  let c0_i32_14 : BitVec 32 := 0#32
  let v37 : BitVec 1 := Scalar.cmpi .slt c16_i32_10 c0_i32_14
  let v38 : BitVec 32 := Scalar.extui v37
  let v39 : BitVec 32 := Scalar.subi v36 v38
  let v40 : BitVec 1 := Scalar.cmpi .ne v34 v39
  let v41 : BitVec 32 := Scalar.remsi arg0 c16_i32_10
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c2_i32 : BitVec 32 := 2#32
  let c0_i32_17 : BitVec 32 := 0#32
  let v46 : BitVec 1 := Scalar.cmpi .eq c2_i32 c0_i32_17
  let c1_i32_18 : BitVec 32 := 1#32
  let v47 : BitVec 32 := Scalar.select v46 c1_i32_18 c2_i32
  let v48 : BitVec 32 := Scalar.remsi v45 v47
  let c0_i32_19 : BitVec 32 := 0#32
  let v49 : BitVec 1 := Scalar.cmpi .ne v48 c0_i32_19
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let v53 : BitVec 1 := Scalar.andi v52 v49
  let v54 : BitVec 32 := Scalar.addi v48 v47
  let v55 : BitVec 32 := Scalar.select v53 v54 v48
  let c0_i32_22 : BitVec 32 := 0#32
  ![v28.toNat, v55.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x2x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x2x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x2x128x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x2x128x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x2x128x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2x128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S16384x1024 : Shape := ⟨2, ![16384, 1024]⟩
abbrev S32x512x512 : Shape := ⟨3, ![32, 512, 512]⟩
abbrev S64 : Shape := ⟨1, ![64]⟩
abbrev S128 : Shape := ⟨1, ![128]⟩
abbrev S8x16384x64 : Shape := ⟨3, ![8, 16384, 64]⟩
abbrev S8x256x64 : Shape := ⟨3, ![8, 256, 64]⟩
abbrev S16384x512 : Shape := ⟨2, ![16384, 512]⟩
abbrev S2x8192x8x64 : Shape := ⟨4, ![2, 8192, 8, 64]⟩
abbrev S2x16x4x128x512 : Shape := ⟨5, ![2, 16, 4, 128, 512]⟩
abbrev S2x16x512x4x128 : Shape := ⟨5, ![2, 16, 512, 4, 128]⟩
abbrev S2x8192x4x128 : Shape := ⟨4, ![2, 8192, 4, 128]⟩
abbrev S_ : Shape := ⟨0, ![]⟩
abbrev S2x8x8192x8192 : Shape := ⟨4, ![2, 8, 8192, 8192]⟩
abbrev S128x1 : Shape := ⟨2, ![128, 1]⟩
abbrev S128x64 : Shape := ⟨2, ![128, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x8x8192 : Shape := ⟨3, ![2, 8, 8192]⟩
abbrev S2x8x8192x1 : Shape := ⟨4, ![2, 8, 8192, 1]⟩
abbrev S2x4x2x8192x8192 : Shape := ⟨5, ![2, 4, 2, 8192, 8192]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S32x512x512, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S8x16384x64, .bf16⟩
  | .hbm, ⟨8, _⟩ => ⟨S8x16384x64, .bf16⟩
  | .hbm, ⟨9, _⟩ => ⟨S8x16384x64, .bf16⟩
  | .hbm, ⟨10, _⟩ => ⟨S8x16384x64, .bf16⟩
  | .hbm, ⟨11, _⟩ => ⟨S8x16384x64, .bf16⟩
  | .hbm, ⟨12, _⟩ => ⟨S8x256x64, .f32⟩
  | .hbm, ⟨13, _⟩ => ⟨S16384x512, .bf16⟩
  | .hbm, ⟨14, _⟩ => ⟨S16384x512, .f32⟩
  | .hbm, ⟨15, _⟩ => ⟨S2x8192x8x64, .f32⟩
  | .hbm, ⟨16, _⟩ => ⟨S16384x512, .bf16⟩
  | .hbm, ⟨17, _⟩ => ⟨S16384x512, .f32⟩
  | .hbm, ⟨18, _⟩ => ⟨S2x8192x8x64, .f32⟩
  | .hbm, ⟨19, _⟩ => ⟨S32x512x512, .f32⟩
  | .hbm, ⟨20, _⟩ => ⟨S2x16x4x128x512, .f32⟩
  | .hbm, ⟨21, _⟩ => ⟨S2x16x512x4x128, .f32⟩
  | .hbm, ⟨22, _⟩ => ⟨S2x8192x4x128, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x8x8192x8192, .f32⟩
  | .hbm, ⟨35, _⟩ => ⟨S128, .i32⟩
  | .hbm, ⟨36, _⟩ => ⟨S128x1, .i32⟩
  | .hbm, ⟨37, _⟩ => ⟨S128x64, .i32⟩
  | .hbm, ⟨38, _⟩ => ⟨S8192, .i32⟩
  | .hbm, ⟨39, _⟩ => ⟨S1x8192, .i32⟩
  | .hbm, ⟨40, _⟩ => ⟨S8192x1, .i32⟩
  | .hbm, ⟨41, _⟩ => ⟨S8192x8192, .i32⟩
  | .hbm, ⟨42, _⟩ => ⟨S8192x8192, .i32⟩
  | .hbm, ⟨43, _⟩ => ⟨S8192x8192, .i1⟩
  | .hbm, ⟨44, _⟩ => ⟨S1x1x8192x8192, .i1⟩
  | .hbm, ⟨45, _⟩ => ⟨S_, .f32⟩
  | .hbm, ⟨46, _⟩ => ⟨S_, .f32⟩
  | .hbm, ⟨47, _⟩ => ⟨S2x8x8192x8192, .i1⟩
  | .hbm, ⟨48, _⟩ => ⟨S2x8x8192x8192, .f32⟩
  | .hbm, ⟨49, _⟩ => ⟨S2x8x8192x8192, .f32⟩
  | .hbm, ⟨50, _⟩ => ⟨S_, .f32⟩
  | .hbm, ⟨51, _⟩ => ⟨S2x8x8192x8192, .f32⟩
  | .hbm, ⟨52, _⟩ => ⟨S_, .f32⟩
  | .hbm, ⟨53, _⟩ => ⟨S2x8x8192, .f32⟩
  | .hbm, ⟨54, _⟩ => ⟨S2x8x8192x1, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S_, .f32⟩
  | .hbm, ⟨59, _⟩ => ⟨S2x8x8192, .f32⟩
  | .hbm, ⟨60, _⟩ => ⟨S2x8x8192x1, .f32⟩
  | .hbm, ⟨61, _⟩ => ⟨S2x8x8192x8192, .f32⟩
  | .hbm, ⟨62, _⟩ => ⟨S2x8x8192x8192, .f32⟩
  | .hbm, ⟨63, _⟩ => ⟨S2x4x2x8192x8192, .f32⟩
  | .hbm, ⟨64, _⟩ => ⟨S2x4x1x8192x8192, .f32⟩
  | .hbm, ⟨65, _⟩ => ⟨S2x4x8192x8192, .f32⟩
  | .hbm, ⟨66, _⟩ => ⟨S2x4x1x8192x8192, .f32⟩
  | .hbm, ⟨67, _⟩ => ⟨S2x4x8192x8192, .f32⟩
  | .hbm, ⟨68, _⟩ => ⟨S2x4x8192x8192, .f32⟩
  | .hbm, ⟨69, _⟩ => ⟨S2x4x8192x8192, .f32⟩
  | .hbm, ⟨70, _⟩ => ⟨S2x4x8192x8192, .f32⟩
  | .hbm, ⟨71, _⟩ => ⟨S2x4x128x8192, .f32⟩
  | .hbm, ⟨72, _⟩ => ⟨S2x8192x4x128, .f32⟩
  | .hbm, ⟨73, _⟩ => ⟨S2x8192x4x128, .f32⟩
  | .hbm, ⟨74, _⟩ => ⟨S_, .f32⟩
  | .hbm, ⟨75, _⟩ => ⟨S2x8192x4, .f32⟩
  | .hbm, ⟨76, _⟩ => ⟨S2x8192x4x1, .f32⟩
  | .hbm, ⟨77, _⟩ => ⟨S_, .f32⟩
  | .hbm, ⟨78, _⟩ => ⟨S2x8192x4x1, .f32⟩
  | .hbm, ⟨79, _⟩ => ⟨S2x8192x4x1, .f32⟩
  | .hbm, ⟨80, _⟩ => ⟨S_, .f32⟩
  | .hbm, ⟨81, _⟩ => ⟨S2x8192x4x1, .f32⟩
  | .hbm, ⟨82, _⟩ => ⟨S2x8192x4x1, .f32⟩
  | .hbm, ⟨83, _⟩ => ⟨S2x8192x4x1, .f32⟩
  | .hbm, ⟨84, _⟩ => ⟨S2x8192x4x128, .f32⟩
  | .hbm, ⟨85, _⟩ => ⟨S2x8192x4x128, .f32⟩
  | .hbm, ⟨86, _⟩ => ⟨S1x1x1x128, .f32⟩
  | .hbm, ⟨87, _⟩ => ⟨S2x8192x4x128, .f32⟩
  | .hbm, ⟨88, _⟩ => ⟨S2x8192x4x128, .f32⟩
  | .hbm, ⟨89, _⟩ => ⟨S_, .f32⟩
  | .hbm, ⟨90, _⟩ => ⟨S2x8192x4x128, .f32⟩
  | .hbm, ⟨91, _⟩ => ⟨S2x8192x4x128, .f32⟩
  | .hbm, ⟨92, _⟩ => ⟨S16384x512, .f32⟩
  | .hbm, ⟨93, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Post.lean ====
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x512 : Shape := ⟨2, ![1, 512]⟩
abbrev S1x1024 : Shape := ⟨2, ![1, 1024]⟩
abbrev S512x1024 : Shape := ⟨2, ![512, 1024]⟩
abbrev S512x512 : Shape := ⟨2, ![512, 512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 18
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .bf16⟩
  | .hbm, ⟨5, _⟩ => ⟨S512, .f32⟩
  | .hbm, ⟨6, _⟩ => ⟨S512, .f32⟩
  | .hbm, ⟨7, _⟩ => ⟨S1024x1024, .bf16⟩
  | .hbm, ⟨8, _⟩ => ⟨S1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1024, .f32⟩
  | .hbm, ⟨13, _⟩ => ⟨S1x512, .f32⟩
  | .hbm, ⟨14, _⟩ => ⟨S1x512, .f32⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostReferenceIdeal.lean ====
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .bf16⟩
  | .hbm, ⟨5, _⟩ => ⟨S512, .f32⟩
  | .hbm, ⟨6, _⟩ => ⟨S512, .f32⟩
  | .hbm, ⟨7, _⟩ => ⟨S1024x1024, .bf16⟩
  | .hbm, ⟨8, _⟩ => ⟨S1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1024, .f32⟩
  | .hbm, ⟨13, _⟩ => ⟨S1x512, .f32⟩
  | .hbm, ⟨14, _⟩ => ⟨S16384x512, .f32⟩
  | .hbm, ⟨15, _⟩ => ⟨S16384x512, .f32⟩
  | .hbm, ⟨16, _⟩ => ⟨S1x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x1024, .f32⟩
  | .hbm, ⟨23, _⟩ => ⟨S1024x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1024x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S_, .f32⟩
  | .hbm, ⟨47, _⟩ => ⟨S16384x2816, .f32⟩
  | .hbm, ⟨48, _⟩ => ⟨S16384x2816, .f32⟩
  | .hbm, ⟨49, _⟩ => ⟨S_, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S1024x2816, .f32⟩
  | .hbm, ⟨54, _⟩ => ⟨S16384x2816, .f32⟩
  | .hbm, ⟨55, _⟩ => ⟨S16384x2816, .f32⟩
  | .hbm, ⟨56, _⟩ => ⟨S2816x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]
-- ==== Proof.PostMath.lean ====
/-
  The output stage as functions of one row: the mixers' rows joined and projected, the residual sum, its RMS norm, the
  gated feed-forward network and the last RMS norm; and the two identities between the kernel's way of computing them and
  the reference's: the gate by a hyperbolic tangent, and a sum over the hidden axis taken in eleven pieces of 256.
-/
module

public import Idealize.ShloMosaic.Lib.Pointwise
public import Idealize.ShloMosaic.Lib.Pipeline.ValueKit.Acc

@[expose] public section

noncomputable section

namespace Cert.PostMath

open Idealize.ShloMosaic

/-- The row of the first mixer's part `k` (its norm's affine map, its bonus, its gate). -/
def gated (yw lnw lnb bonus gate : Fin 512 → EReal) (k : Fin 512) : EReal :=
  (yw k * lnw k + lnb k + bonus k) * gate k

/-- The residual row after the mixers: the two mixers' rows side by side, projected. -/
def mixed (x : Fin 1024 → EReal) (ya yb : Fin 512 → EReal) (w : Fin 1024 → Fin 1024 → EReal) (j : Fin 1024) : EReal :=
  x j + ∑ k : Fin 1024, (if h : k.val < 512 then ya ⟨k.val, h⟩ else yb ⟨k.val - 512, by have := k.isLt; omega⟩) * w k j

/-- The RMS norm of a row, times a weight. -/
def rms (h w : Fin 1024 → EReal) (j : Fin 1024) : EReal :=
  h j * Ideal.rsqrt (Ideal.div (∑ k : Fin 1024, h k * h k) (Ideal.ofBits .f32 0x44800000#32) + Ideal.ofBits .f32 0x358637BD#32) * w j

/-- The gate's nonlinearity `x / (1 + e⁻ˣ)`. -/
def silu (x : EReal) : EReal := x * Ideal.div 1 (1 + Ideal.exp (-x))

/-- The hidden row. -/
def hiddenRow {n : Nat} (u : Fin 1024 → EReal) (wg wu : Fin 1024 → Fin n → EReal) (f : Fin n) : EReal :=
  silu (∑ k : Fin 1024, u k * wg k f) * ∑ k : Fin 1024, u k * wu k f

/-- The hidden row projected back. -/
def down {n : Nat} (u : Fin 1024 → EReal) (wg wu : Fin 1024 → Fin n → EReal) (wd : Fin n → Fin 1024 → EReal) (j : Fin 1024) : EReal :=
  ∑ f : Fin n, hiddenRow u wg wu f * wd f j

/-- The whole stage on one row. -/
def stage (x : Fin 1024 → EReal) (ya yb : Fin 512 → EReal) (w : Fin 1024 → Fin 1024 → EReal) (wn : Fin 1024 → EReal)
    (wg wu : Fin 1024 → Fin 2816 → EReal) (wd : Fin 2816 → Fin 1024 → EReal) (wl : Fin 1024 → EReal) : Fin 1024 → EReal :=
  rms (fun j => mixed x ya yb w j + down (rms (mixed x ya yb w) wn) wg wu wd j) wl

/-- The word `0x3F000000` is one half. -/
theorem half_eq : Ideal.ofBits .f32 0x3F000000#32 = ((1 / 2 : ℝ) : EReal) := by
  simp [Ideal.ofBits, Ideal.ieee]
  rw [← EReal.coe_mul]
  norm_num

/-- `½·tanh(½x) + ½ = 1 / (1 + e⁻ˣ)`, at the infinities too. -/
theorem sigmoid_eq (x : EReal) :
    Ideal.ofBits .f32 0x3F000000#32 * Ideal.tanh (Ideal.ofBits .f32 0x3F000000#32 * x) + Ideal.ofBits .f32 0x3F000000#32
      = Ideal.div 1 (1 + Ideal.exp (-x)) := by
  have hl : Ideal.div 1 (1 + Ideal.exp (-x)) = Ideal.logistic x := rfl
  rw [hl, half_eq]
  induction x with
  | bot =>
    rw [EReal.coe_mul_bot_of_pos (by norm_num), Ideal.tanh_bot, Ideal.logistic_bot, mul_neg, mul_one,
      ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by
      rw [← Real.exp_add]; congr 1; ring
    have e2 : Real.exp (1 / 2 * r) * Real.exp (-(1 / 2 * r)) = 1 := by
      rw [← Real.exp_add]; simp
    have p1 := Real.exp_pos (1 / 2 * r)
    have p2 := Real.exp_pos (-(1 / 2 * r))
    rw [e1]
    generalize Real.exp (1 / 2 * r) = a at *
    generalize Real.exp (-(1 / 2 * r)) = b at *
    have hab : a + b ≠ 0 := by positivity
    have h1 : 1 + b * b ≠ 0 := by positivity
    field_simp
    linear_combination (2 * b) * e2

/-- The kernel's gate. -/
theorem silu_eq (x : EReal) :
    x * (Ideal.ofBits .f32 0x3F000000#32 * Ideal.tanh (Ideal.ofBits .f32 0x3F000000#32 * x) + Ideal.ofBits .f32 0x3F000000#32)
      = silu x := by rw [sigmoid_eq, silu]

/-- A column piece of a matrix. -/
def cols (w : Fin 1024 → Fin 2816 → EReal) (b : Fin 11) (k : Fin 1024) (f : Fin 256) : EReal :=
  w k ⟨b.val * 256 + f.val, by have := b.isLt; have := f.isLt; omega⟩

/-- A row piece of a matrix. -/
def rows (w : Fin 2816 → Fin 1024 → EReal) (b : Fin 11) (f : Fin 256) (j : Fin 1024) : EReal :=
  w ⟨b.val * 256 + f.val, by have := b.isLt; have := f.isLt; omega⟩ j

/-- The hidden axis in eleven pieces. -/
theorem down_pieces (u : Fin 1024 → EReal) (wg wu : Fin 1024 → Fin 2816 → EReal) (wd : Fin 2816 → Fin 1024 → EReal) (j : Fin 1024) :
    down u wg wu wd j = ∑ b : Fin 11, down u (cols wg b) (cols wu b) (rows wd b) j := by
  unfold down
  exact (Fin.sum_mul_add_fin 11 256 (fun f : Fin 2816 => hiddenRow u wg wu f * wd f j) rfl).symm

end Cert.PostMath

end
-- ==== Proof.PostPay.lean ====
/-
  The values the output stage's body computes from its blocks, read at an index: each is the row function of `PostMath` of
  the blocks' rows.
-/
module

public import proofs.«01_k».proof.Proof.PostMath
public import proofs.«01_k».proof.Proof.Gen.PostIdeal.Frame

@[expose] public section

set_option maxRecDepth 16384

noncomputable section

namespace Cert.PostPay

open Cert.PostIdeal Cert.PostIdeal.Gen Cert.PostMath Idealize.ShloMosaic

theorem pay2_apply (v0 : Vec Ideal S512x512 .f32) (v1 v5 : Vec Ideal S1x512 .f32) (v9 v11 : Vec Ideal S512x512 .f32)
    (v14 : Vec Ideal S512x512 .bf16) (v16 : Vec Ideal S512x1024 .f32) (v17 : Vec Ideal S1024x1024 .bf16) (r : Fin 512) (j : Fin 1024) :
    k0_pay2 v0 v1 v5 v9 v11 v14 v16 v17 (ix2 r j)
      = mixed (fun j => v16 (ix2 r j))
          (gated (fun k => v0 (ix2 r k)) (fun k => v1 (ix2 0 k)) (fun k => v5 (ix2 0 k)) (fun k => v9 (ix2 r k)) (fun k => v11 (ix2 r k)))
          (fun k => v14 (ix2 r k)) (fun k j => v17 (ix2 k j)) j := by
  pointwise [k0_pay2, mixed, gated]

theorem pay3_apply (v0 : Vec Ideal S512x512 .f32) (v1 v5 : Vec Ideal S1x512 .f32) (v9 v11 : Vec Ideal S512x512 .f32)
    (v14 : Vec Ideal S512x512 .bf16) (v16 : Vec Ideal S512x1024 .f32) (v17 : Vec Ideal S1024x1024 .bf16) (v20 : Vec Ideal S1x1024 .f32)
    (r : Fin 512) (j : Fin 1024) :
    k0_pay3 v0 v1 v5 v9 v11 v14 v16 v17 v20 (ix2 r j)
      = rms (fun j => k0_pay2 v0 v1 v5 v9 v11 v14 v16 v17 (ix2 r j)) (fun j => v20 (ix2 0 j)) j := by
  unfold k0_pay3
  generalize k0_pay2 v0 v1 v5 v9 v11 v14 v16 v17 = h
  pointwise [rms]

/-- One piece of the hidden axis, as the body computes it. -/
abbrev piece (u : FVec Ideal S512x1024 .bf16) (g w : Vec Ideal S1024x256 .bf16) (d : Vec Ideal S256x1024 .bf16) (r : Fin 512) (j : Fin 1024) : EReal :=
  down (fun k => u (ix2 r k)) (fun k f => g (ix2 k f)) (fun k f => w (ix2 k f)) (fun f j => d (ix2 f j)) j

theorem pay4_apply (r : Fin 512) (j : Fin 1024) : k0_pay4 (F := Ideal) (ix2 r j) = 0 := by
  pointwise [k0_pay4]

theorem pay5_apply (u : FVec Ideal S512x1024 .bf16) (acc : FVec Ideal S512x1024 .f32) (g w : Vec Ideal S1024x256 .bf16)
    (d : Vec Ideal S256x1024 .bf16) (g' w' : Vec Ideal S1024x256 .bf16) (d' : Vec Ideal S256x1024 .bf16) (r : Fin 512) (j : Fin 1024) :
    k0_pay5 u acc g w d g' w' d' (ix2 r j) = acc (ix2 r j) + piece u g w d r j + piece u g' w' d' r j := by
  pointwise [k0_pay5, silu_eq, piece, down, hiddenRow]

theorem pay6_apply (u : FVec Ideal S512x1024 .bf16) (acc : FVec Ideal S512x1024 .f32) (g w : Vec Ideal S1024x256 .bf16)
    (d : Vec Ideal S256x1024 .bf16) (g' w' : Vec Ideal S1024x256 .bf16) (d' : Vec Ideal S256x1024 .bf16) (r : Fin 512) (j : Fin 1024) :
    k0_pay6 u acc g w d g' w' d' (ix2 r j) = acc (ix2 r j) + piece u g w d r j + piece u g' w' d' r j := by
  pointwise [k0_pay6, silu_eq, piece, down, hiddenRow]

theorem pay7_apply (u : FVec Ideal S512x1024 .bf16) (acc : FVec Ideal S512x1024 .f32) (g w : Vec Ideal S1024x256 .bf16)
    (d : Vec Ideal S256x1024 .bf16) (g' w' : Vec Ideal S1024x256 .bf16) (d' : Vec Ideal S256x1024 .bf16) (r : Fin 512) (j : Fin 1024) :
    k0_pay7 u acc g (constant S512x256 .f32 0x00000000#32) w d g' w' d' (ix2 r j)
      = acc (ix2 r j) + piece u g w d r j + piece u g' w' d' r j := by
  pointwise [k0_pay7, silu_eq, piece, down, hiddenRow]

theorem pay9_apply (u : FVec Ideal S512x1024 .bf16) (acc : FVec Ideal S512x1024 .f32) (g w : Vec Ideal S1024x256 .bf16)
    (d : Vec Ideal S256x1024 .bf16) (g' w' : Vec Ideal S1024x256 .bf16) (d' : Vec Ideal S256x1024 .bf16) (r : Fin 512) (j : Fin 1024) :
    k0_pay9 u acc (k0_pay8 u g) w d g' w' d' (ix2 r j) = acc (ix2 r j) + piece u g w d r j + piece u g' w' d' r j := by
  pointwise [k0_pay9, k0_pay8, silu_eq, piece, down, hiddenRow]

theorem pay11_apply (u : FVec Ideal S512x1024 .bf16) (acc : FVec Ideal S512x1024 .f32) (g w : Vec Ideal S1024x256 .bf16)
    (d : Vec Ideal S256x1024 .bf16) (g' w' : Vec Ideal S1024x256 .bf16) (d' : Vec Ideal S256x1024 .bf16) (r : Fin 512) (j : Fin 1024) :
    k0_pay11 u acc (k0_pay10 u g) w d g' w' d' (ix2 r j) = acc (ix2 r j) + piece u g w d r j + piece u g' w' d' r j := by
  pointwise [k0_pay11, k0_pay10, silu_eq, piece, down, hiddenRow]

theorem pay1_apply (h : FVec Ideal S512x1024 .f32) (u : FVec Ideal S512x1024 .bf16) (acc : FVec Ideal S512x1024 .f32)
    (g w : Vec Ideal S1024x256 .bf16) (d : Vec Ideal S256x1024 .bf16) (wl : Vec Ideal S1x1024 .f32) (r : Fin 512) (j : Fin 1024) :
    k0_pay1 h acc (k0_pay12 u g) (k0_pay13 u w) d wl (ix2 r j)
      = rms (fun j => h (ix2 r j) + (acc (ix2 r j) + piece u g w d r j)) (fun j => wl (ix2 0 j)) j := by
  pointwise [k0_pay1, k0_pay12, k0_pay13, silu_eq, piece, down, hiddenRow, rms]

end Cert.PostPay

end
-- ==== Proof.PostBlock.lean ====
/-
  What the output stage's body leaves in its output block, read at an index: the stage's row function of the blocks' rows.
-/
module

public import proofs.«01_k».proof.Proof.PostPay

@[expose] public section

set_option maxRecDepth 16384

noncomputable section

namespace Cert.PostBlock

open Cert.PostIdeal Cert.PostIdeal.Gen Cert.PostMath Cert.PostPay Idealize.ShloMosaic

theorem hz : (![0, 0] : Fin 2 → Nat) = fun _ => 0 := funext fun a => by fin_cases a <;> rfl

/-- A load of 256 columns is a column piece. -/
theorem ld_cols (X : Vec Ideal S1024x2816 .bf16) (b : Fin 11) (o : Nat) (ho : o = b.val * 256) (inb) :
    (fun (k : Fin 1024) (f : Fin 256) => View.ld X (Rect.unit (s := S1024x2816) ![0, o] S1024x256.size inb) (ix2 k f))
      = cols (fun k f => X (ix2 k f)) b := by
  subst ho
  funext k f
  pointwise [cols]

/-- A load of 256 rows is a row piece. -/
theorem ld_rows (X : Vec Ideal S2816x1024 .bf16) (b : Fin 11) (o : Nat) (ho : o = b.val * 256) (inb) :
    (fun (f : Fin 256) (j : Fin 1024) => View.ld X (Rect.unit (s := S2816x1024) ![o, 0] S256x1024.size inb) (ix2 f j))
      = rows (fun f j => X (ix2 f j)) b := by
  subst ho
  funext f j
  pointwise [rows]

/-- One piece of the feed-forward product, from loaded pieces of the weights. -/
theorem down_ld (b : Fin 11) (u : Fin 1024 → EReal) (G U : Vec Ideal S1024x2816 .bf16) (D : Vec Ideal S2816x1024 .bf16) (j : Fin 1024)
    (o : Nat) (ho : o = b.val * 256) (inb) (inb') :
    down u (fun k f => View.ld G (Rect.unit (s := S1024x2816) ![0, o] S1024x256.size inb) (ix2 k f))
        (fun k f => View.ld U (Rect.unit (s := S1024x2816) ![0, o] S1024x256.size inb) (ix2 k f))
        (fun f j => View.ld D (Rect.unit (s := S2816x1024) ![o, 0] S256x1024.size inb') (ix2 f j)) j
      = down u (cols (fun k f => G (ix2 k f)) b) (cols (fun k f => U (ix2 k f)) b) (rows (fun f j => D (ix2 f j)) b) j := by
  rw [← ld_cols G b o ho inb, ← ld_cols U b o ho inb, ← ld_rows D b o ho inb']

theorem sum_eleven (f : Fin 11 → EReal) :
    ∑ b, f b = f 0 + (f 1 + (f 2 + (f 3 + (f 4 + (f 5 + (f 6 + (f 7 + (f 8 + (f 9 + f 10))))))))) := by
  simp only [Fin.sum_univ_succ, Fin.sum_univ_zero, add_zero]
  rfl

/-- The block the body leaves. -/
theorem out_apply (x0 : Vec Ideal S512x1024 .f32) (x1 x2 x3 : Vec Ideal S512x512 .f32) (x4 : Vec Ideal S512x512 .bf16)
    (x5 x6 : Vec Ideal S1x512 .f32) (x7 : Vec Ideal S1024x1024 .bf16) (x8 : Vec Ideal S1x1024 .f32) (x9 x10 : Vec Ideal S1024x2816 .bf16)
    (x11 : Vec Ideal S2816x1024 .bf16) (x12 : Vec Ideal S1x1024 .f32) (r : Fin 512) (j : Fin 1024) :
    out0_13 x0 x1 x2 x3 x4 x5 x6 x7 x8 x9 x10 x11 x12 (ix2 r j)
      = stage (fun j => x0 (ix2 r j))
          (gated (fun k => x1 (ix2 r k)) (fun k => x5 (ix2 0 k)) (fun k => x6 (ix2 0 k)) (fun k => x2 (ix2 r k)) (fun k => x3 (ix2 r k)))
          (fun k => x4 (ix2 r k)) (fun k j => x7 (ix2 k j)) (fun j => x8 (ix2 0 j)) (fun k f => x9 (ix2 k f)) (fun k f => x10 (ix2 k f))
          (fun f j => x11 (ix2 f j)) (fun j => x12 (ix2 0 j)) j := by
  unfold_out out0_13
  rw [View.canon_unit_zero hz]
  simp only [View.ld_unit_zero (S := S512x512) hz, View.ld_unit_zero (S := S1x512) hz, View.ld_unit_zero (S := S512x1024) hz,
    View.ld_unit_zero (S := S1024x1024) hz, View.ld_unit_zero (S := S1x1024) hz]
  rw [pay1_apply]
  unfold stage
  congr 1
  funext j
  simp only [pay11_apply, pay9_apply, pay7_apply, pay6_apply, pay5_apply, pay4_apply, pay2_apply, zero_add]
  have hu : (fun k : Fin 1024 => k0_pay3 x1 x5 x6 x2 x3 x4 x0 x7 x8 (ix2 r k))
      = rms (mixed (fun j => x0 (ix2 r j))
          (gated (fun k => x1 (ix2 r k)) (fun k => x5 (ix2 0 k)) (fun k => x6 (ix2 0 k)) (fun k => x2 (ix2 r k)) (fun k => x3 (ix2 r k)))
          (fun k => x4 (ix2 r k)) (fun k j => x7 (ix2 k j))) (fun j => x8 (ix2 0 j)) := by
    funext k
    rw [pay3_apply]
    congr 1
    funext j
    exact pay2_apply ..
  unfold PostPay.piece
  rw [hu, down_pieces]
  generalize rms (mixed (fun j => x0 (ix2 r j)) _ _ _) (fun j => x8 (ix2 0 j)) = u
  rw [sum_eleven]
  simp only [add_assoc]
  refine congrArg _ ?_
  exact congrArg₂ _ (down_ld 0 u x9 x10 x11 j _ rfl _ _) (congrArg₂ _ (down_ld 1 u x9 x10 x11 j _ rfl _ _)
    (congrArg₂ _ (down_ld 2 u x9 x10 x11 j _ rfl _ _) (congrArg₂ _ (down_ld 3 u x9 x10 x11 j _ rfl _ _)
    (congrArg₂ _ (down_ld 4 u x9 x10 x11 j _ rfl _ _) (congrArg₂ _ (down_ld 5 u x9 x10 x11 j _ rfl _ _)
    (congrArg₂ _ (down_ld 6 u x9 x10 x11 j _ rfl _ _) (congrArg₂ _ (down_ld 7 u x9 x10 x11 j _ rfl _ _)
    (congrArg₂ _ (down_ld 8 u x9 x10 x11 j _ rfl _ _) (congrArg₂ _ (down_ld 9 u x9 x10 x11 j _ rfl _ _)
    (down_ld 10 u x9 x10 x11 j _ rfl _ _))))))))))

end Cert.PostBlock

end
-- ==== Proof.PostArray.lean ====
/-
  The array the output stage's launch leaves: the stage's row function of the arguments' rows.
-/
module

public import proofs.«01_k».proof.Proof.PostBlock
public import proofs.«01_k».proof.Proof.Gen.PostIdeal.Value
public import Idealize.ShloMosaic.Lib.Pipeline.Value
public import Idealize.ShloMosaic.Lib.Pipeline.ValueKit.Point

@[expose] public section

set_option maxRecDepth 16384

noncomputable section

namespace Cert.PostArray

open Cert.PostIdeal Cert.PostIdeal.Gen Cert.PostMath Idealize.ShloMosaic Idealize.ShloMosaic.TcCoe

variable (m : (ℓ : Loc nD τ sig) → Buf (Elt Ideal) ℓ)

/-- Row by row, the stage of the arguments' rows. -/
def fn (x : FVec Ideal S16384x1024 .f32) (yw bonus gate : FVec Ideal S16384x512 .f32) (yb : FVec Ideal S16384x512 .bf16)
    (lnw lnb : FVec Ideal S512 .f32) (w : FVec Ideal S1024x1024 .bf16) (wn : FVec Ideal S1024 .f32) (wg wu : FVec Ideal S1024x2816 .bf16)
    (wd : FVec Ideal S2816x1024 .bf16) (wl : FVec Ideal S1024 .f32) : FVec Ideal S16384x1024 .f32 := fun i =>
  stage (fun j => x (ix2 (i 0) j))
    (gated (fun k => yw (ix2 (i 0) k)) (fun k => lnw (ix1 k)) (fun k => lnb (ix1 k)) (fun k => bonus (ix2 (i 0) k)) (fun k => gate (ix2 (i 0) k)))
    (fun k => yb (ix2 (i 0) k)) (fun k j => w (ix2 k j)) (fun j => wn (ix1 j)) (fun k f => wg (ix2 k f)) (fun k f => wu (ix2 k f))
    (fun f j => wd (ix2 f j)) (fun j => wl (ix1 j)) (i 1)

/-- The output array as a function of the memory at entry. -/
def G (c : Dev nD) : FVec Ideal S16384x1024 .f32 :=
  fn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- The windows that move with the grid point move along the rows, and the others stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

/-- Row `r` of the block of grid point `t`. -/
def row (t : Fin cfg0.N) (r : Fin 512) : Fin 16384 :=
  ⟨512 * t.val + r.val, by have := lt_of_lt_of_eq t.isLt Gen.N_0; omega⟩

theorem blk0 (c : Dev nD) (t : Fin cfg0.N) (r : Fin 512) (j : Fin 1024) :
    iblk m c 0 t (ix2 r j) = m ((c : Thread nD τ).loc main_arg0) (ix2 (row t r) j) := by
  blk_ext! [iblk, V, row, (idx t).1]

theorem blk1 (c : Dev nD) (t : Fin cfg0.N) (r : Fin 512) (j : Fin 512) :
    iblk m c 1 t (ix2 r j) = m ((c : Thread nD τ).loc main_arg1) (ix2 (row t r) j) := by
  blk_ext! [iblk, V, row, (idx t).2.1]

theorem blk2 (c : Dev nD) (t : Fin cfg0.N) (r : Fin 512) (j : Fin 512) :
    iblk m c 2 t (ix2 r j) = m ((c : Thread nD τ).loc main_arg2) (ix2 (row t r) j) := by
  blk_ext! [iblk, V, row, (idx t).2.2.1]

theorem blk3 (c : Dev nD) (t : Fin cfg0.N) (r : Fin 512) (j : Fin 512) :
    iblk m c 3 t (ix2 r j) = m ((c : Thread nD τ).loc main_arg3) (ix2 (row t r) j) := by
  blk_ext! [iblk, V, row, (idx t).2.2.2.1]

theorem blk4 (c : Dev nD) (t : Fin cfg0.N) (r : Fin 512) (j : Fin 512) :
    iblk m c 4 t (ix2 r j) = m ((c : Thread nD τ).loc main_arg4) (ix2 (row t r) j) := by
  blk_ext! [iblk, V, row, (idx t).2.2.2.2.1]

theorem blk5 (c : Dev nD) (t : Fin cfg0.N) (j : Fin 512) :
    iblk m c 5 t (ix2 0 j) = m ((c : Thread nD τ).loc main_arg5) (ix1 j) := by
  blk_ext! [iblk, V, (idx t).2.2.2.2.2.1]

theorem blk6 (c : Dev nD) (t : Fin cfg0.N) (j : Fin 512) :
    iblk m c 6 t (ix2 0 j) = m ((c : Thread nD τ).loc main_arg6) (ix1 j) := by
  blk_ext! [iblk, V, (idx t).2.2.2.2.2.2.1]

theorem blk8 (c : Dev nD) (t : Fin cfg0.N) (j : Fin 1024) :
    iblk m c 8 t (ix2 0 j) = m ((c : Thread nD τ).loc main_arg8) (ix1 j) := by
  blk_ext! [iblk, V, (idx t).2.2.2.2.2.2.2.2.1]

theorem blk12 (c : Dev nD) (t : Fin cfg0.N) (j : Fin 1024) :
    iblk m c 12 t (ix2 0 j) = m ((c : Thread nD τ).loc main_arg12) (ix1 j) := by
  blk_ext! [iblk, V, (idx t).2.2.2.2.2.2.2.2.2.2.2.2.1]

theorem blk7 (c : Dev nD) (t : Fin cfg0.N) (k : Fin 1024) (j : Fin 1024) :
    iblk m c 7 t (ix2 k j) = m ((c : Thread nD τ).loc main_arg7) (ix2 k j) := by
  blk_ext! [iblk, V, (idx t).2.2.2.2.2.2.2.1]

theorem blk9 (c : Dev nD) (t : Fin cfg0.N) (k : Fin 1024) (j : Fin 2816) :
    iblk m c 9 t (ix2 k j) = m ((c : Thread nD τ).loc main_arg9) (ix2 k j) := by
  blk_ext! [iblk, V, (idx t).2.2.2.2.2.2.2.2.2.1]

theorem blk10 (c : Dev nD) (t : Fin cfg0.N) (k : Fin 1024) (j : Fin 2816) :
    iblk m c 10 t (ix2 k j) = m ((c : Thread nD τ).loc main_arg10) (ix2 k j) := by
  blk_ext! [iblk, V, (idx t).2.2.2.2.2.2.2.2.2.2.1]

theorem blk11 (c : Dev nD) (t : Fin cfg0.N) (k : Fin 2816) (j : Fin 1024) :
    iblk m c 11 t (ix2 k j) = m ((c : Thread nD τ).loc main_arg11) (ix2 k j) := by
  blk_ext! [iblk, V, (idx t).2.2.2.2.2.2.2.2.2.2.2.1]

/-- What grid point `t` writes. -/
theorem block_apply (c : Dev nD) (t : Fin cfg0.N) (r : Fin 512) (j : Fin 1024) :
    out0_13 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 r j)
      = G m c (ix2 (row t r) j) := by
  refine (PostBlock.out_apply ..).trans ?_
  simp only [blk0, blk1, blk2, blk3, blk4, blk5, blk6, blk7, blk8, blk9, blk10, blk11, blk12]
  rfl

/-- The array after the run. -/
theorem final (c : Dev nD) : (dats m 0 c).arrAt 13 cfg0.N = G m c := by
  refine (dats m 0 c).arrAt_eq_of_covers 13 _ (by decide +kernel) fun t hf y => ?_
  blk_simp
  rw [after0_13]
  idx_vars y
  exact (block_apply m c t _ _).trans (congrArg (G m c) (by blk_ext [row, (idx t).2.2.2.2.2.2.2.2.2.2.2.2.2]))

end Cert.PostArray

end
-- ==== Proof.PostRef.lean ====
/-
  The reference of the output stage, read at an index: the stage's row function of the arguments' rows.
-/
module

public import proofs.«01_k».proof.Proof.PostMath
public import proofs.«01_k».proof.Proof.Gen.PostReferenceIdeal.Run
public import Idealize.ShloMosaic.Lib.Tactic.CleanTypes

@[expose] public section

set_option maxRecDepth 16384

noncomputable section

namespace Cert.PostRef

open Cert.PostReferenceIdeal Cert.PostReferenceIdeal.Gen Cert.PostMath Idealize.ShloMosaic Idealize.ShloMosaic.TcCoe

/-- The reference's value as a function of its arguments. -/
def fn (x : FVec Ideal S16384x1024 .f32) (yw bonus gate : FVec Ideal S16384x512 .f32) (yb : FVec Ideal S16384x512 .bf16)
    (lnw lnb : FVec Ideal S512 .f32) (w : FVec Ideal S1024x1024 .bf16) (wn : FVec Ideal S1024 .f32) (wg wu : FVec Ideal S1024x2816 .bf16)
    (wd : FVec Ideal S2816x1024 .bf16) (wl : FVec Ideal S1024 .f32) : FVec Ideal S16384x1024 .f32 := fun i =>
  stage (fun j => x (ix2 (i 0) j))
    (gated (fun k => yw (ix2 (i 0) k)) (fun k => lnw (ix1 k)) (fun k => lnb (ix1 k)) (fun k => bonus (ix2 (i 0) k)) (fun k => gate (ix2 (i 0) k)))
    (fun k => yb (ix2 (i 0) k)) (fun k j => w (ix2 k j)) (fun j => wn (ix1 j)) (fun k f => wg (ix2 k f)) (fun k f => wu (ix2 k f))
    (fun f j => wd (ix2 f j)) (fun j => wl (ix1 j)) (i 1)

theorem res_eq (m : (ℓ : Loc nD τ sig) → Buf (Elt Ideal) ℓ) (c : Dev nD) :
    Cert.PostReferenceIdeal.Value.res_out0 m c
      = fn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.PostReferenceIdeal.Value.res_out0 Cert.PostReferenceIdeal.Value.res_main_v47
  generalize m ((c.tc : Thread nD τ).loc main_arg0) = x
  generalize m ((c.tc : Thread nD τ).loc main_arg1) = yw
  generalize m ((c.tc : Thread nD τ).loc main_arg2) = bonus
  generalize m ((c.tc : Thread nD τ).loc main_arg3) = gate
  generalize m ((c.tc : Thread nD τ).loc main_arg4) = yb
  generalize m ((c.tc : Thread nD τ).loc main_arg5) = lnw
  generalize m ((c.tc : Thread nD τ).loc main_arg6) = lnb
  generalize m ((c.tc : Thread nD τ).loc main_arg7) = w
  generalize m ((c.tc : Thread nD τ).loc main_arg8) = wn
  generalize m ((c.tc : Thread nD τ).loc main_arg9) = wg
  generalize m ((c.tc : Thread nD τ).loc main_arg10) = wu
  generalize m ((c.tc : Thread nD τ).loc main_arg11) = wd
  generalize m ((c.tc : Thread nD τ).loc main_arg12) = wl
  clean_types
  funext i
  idx_vars i
  pointwise [fn, stage, mixed, gated, rms, down, hiddenRow, silu]

end Cert.PostRef

end
-- ==== Proof.PostClaims.lean ====
/-
  The claims about the output stage: its frames, that nothing is rewritten in its ideal reading, and that it computes what its
  reference computes.
-/
module

public import proofs.«01_k».proof.Defs
public import proofs.«01_k».proof.Proof.Gen.Post.Frame
public import proofs.«01_k».proof.Proof.PostArray
public import proofs.«01_k».proof.Proof.PostRef
public import Idealize.ShloMosaic.Lib.Quiescent
public import Idealize.ShloMosaic.Lib.Claim

@[expose] public section

set_option maxRecDepth 16384

noncomputable section

namespace Cert.PostClaims

open Idealize.ShloMosaic Idealize.SL.Sem

theorem frame : Cert.quiescent_Post := fun m ρ _ => Cert.Post.Gen.frame m ρ

theorem frame_ideal : Cert.quiescent_PostIdeal := fun m ρ _ => Cert.PostIdeal.Gen.frame m ρ

theorem frame_reference : Cert.quiescent_PostReferenceIdeal := fun m ρ _ =>
  (θ_run Cert.PostReferenceIdeal.defs _ _).mono (fun r h => ⟨fun c => (h c).2, sem_eq_zero_of_no_sems (by decide) r.2⟩)
    (Cert.PostReferenceIdeal.Value.run (F := Ideal) m ρ)

theorem preserves : Cert.preserves_Post_PostIdeal := trivial

/-- The kernel's output array and the reference's are the same function of the arguments. -/
theorem algebraic : Cert.algebraic_PostIdeal_PostReferenceIdeal := by
  pair_intro
  · run_from Cert.PostIdeal.Value.run_blocks m g
  · run_from Cert.PostReferenceIdeal.Value.run m' g'
    rw [Cert.PostArray.final m c]
    refine (Cert.PostRef.res_eq m' c).trans ?_
    obtain ⟨a0, a1, a2, a3, a4, a5, a6, a7, a8, a9, a10, a11, a12⟩ := hagree c
    rw [a0, a1, a2, a3, a4, a5, a6, a7, a8, a9, a10, a11, a12]
    rfl

end Cert.PostClaims

end
-- ==== Proof.MixIdealRun.lean ====
/-
  The body of the sequence mixer at one grid point, run from any contents of its buffers: it faults nowhere and hands every
  buffer back.
-/
module

public import proofs.«01_k».proof.Proof.Gen.KernelIdeal.Frame
public import proofs.«01_k».proof.Proof.Gen.KernelIdeal.Loops

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Every buffer of the body held whole, at contents nothing names. -/
def Held (c : Dev nD) (arg1 : Memref sig .tc .vmem S512x256 .bf16) (arg2 : Memref sig .tc .vmem S8192x256 .bf16) (arg3 : Memref sig .tc .vmem S16x256x512 .bf16) (arg4 : Memref sig .tc .vmem S1x64 .f32) (arg5 : Memref sig .tc .vmem S1x64 .f32) (arg6 : Memref sig .tc .vmem S1x64 .f32) (arg7 : Memref sig .tc .vmem S1x64 .f32) (arg8 : Memref sig .tc .vmem S1x128 .f32) (arg9 : Memref sig .tc .vmem S8x2x128x64 .bf16) (arg10 : Memref sig .tc .vmem S8x2x128x64 .bf16) (arg11 : Memref sig .tc .vmem S8x2x128x64 .bf16) (arg12 : Memref sig .tc .vmem S8x2x128x64 .bf16) (arg13 : Memref sig .tc .vmem S8x2x128x64 .bf16) (arg14 : Memref sig .tc .vmem S8x2x128x64 .f32) (arg15 : Memref sig .tc .vmem S512x256 .bf16) (arg16 : Memref sig .tc .vmem S2x128x512 .f32) (arg17 : Memref sig .tc .vmem S4x1x512 .f32) (arg18 : Memref sig .tc .vmem S4x144x512 .f32) (arg19 : Memref sig .tc .vmem S2x4x512x512 .f32) (arg20 : Memref sig .tc .vmem S2x4x1x512 .f32) (arg21 : Memref sig .tc .vmem S16x64x64 .f32) (arg22 : Memref sig .tc .vmem S32x64x128 .bf16) (arg23 : Memref sig .tc .vmem S32x64x128 .bf16) (arg24 : Memref sig .tc .vmem S32x64x128 .bf16) (arg25 : Memref sig .tc .vmem S32x64x64 .f32) : sProp 𝕄 :=
  iprop((∃ f, arg1.view.loc (c : Thread nD τ) ↦[arg1.view.set]{fullShare} f) ∗ (∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f))

/-- The body from any contents. -/
theorem body_safe (c : Dev nD) (E : Set ℕ) (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole) (K : PUnit → sProp 𝕄) :
    iprop(Held (F := F) c arg1 arg2 arg3 arg4 arg5 arg6 arg7 arg8 arg9 arg10 arg11 arg12 arg13 arg14 arg15 arg16 arg17 arg18 arg19 arg20 arg21 arg22 arg23 arg24 arg25
      ∗ (Held (F := F) c arg1 arg2 arg3 arg4 arg5 arg6 arg7 arg8 arg9 arg10 arg11 arg12 arg13 arg14 arg15 arg16 arg17 arg18 arg19 arg20 arg21 arg22 arg23 arg24 arg25 -∗ K ⟨⟩))
      ⊢ wp frame (wpE (defs₀ (F := F)) Variants.none c none) E (cc0_seq_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold Held
  simp only [cc0_seq_mix_eq_skeleton]; unfold cc0_seq_mix_skel
  iintro ⟨⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩, Hk⟩
  sl_exec_parts
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iexists _; iexact H25

end Cert.KernelIdeal.Mix

end
-- ==== Proof.MixIdealFrame.lean ====
/-
  The sequence mixer's launch with nothing said of what it writes: every argument array ends as it began, and every
  semaphore counter at zero.
-/
module

public import proofs.«01_k».proof.Proof.MixIdealRun
public import Idealize.ShloMosaic.Lib.Pipeline.Frame
public import Idealize.ShloMosaic.Lib.Pipeline.FrameSuffix

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window's contents are named. -/
def forgets : Fin 16 → Bool := fun _ => true

/-- The buffer the lines after the region write. -/
def kept : Finset (Ref sig .tc) := {main_v12}

/-- The proof data: each array as the region finds it, nothing named of what the body leaves. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with and what it returns. -/
def bodyPre (c : Dev nD) (t : Fin cfg0.N) : sProp 𝕄 :=
  iprop((dats m 0 c).Φ t.castSucc ∗ (dats m 0 c).owesAt () t.castSucc ∗ ((∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X)))
def bodyPost (c : Dev nD) (t : Fin cfg0.N) : sProp 𝕄 :=
  iprop((dats m 0 c).Φ t.succ ∗ (dats m 0 c).owesAt () t.succ ∗ ((∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X)))

/-- A memref's points-to is its ownership. -/
theorem owns_close (c : Dev nD) {s : Shape} {e : EltTy} (a : Memref sig .tc .vmem s e) (f : BufTy.Contents (Elt F) a.view.ty) :
    (a.view.loc (c : Thread nD τ) ↦[a.view.set]{fullShare} f : sProp 𝕄) ⊢ iprop(∃ X, owns (c : Thread nD τ) a fullShare X) := by
  unfold owns
  iintro H
  iexists (a.view.read (Elt F) f), f
  isplitr; · ipureintro; rfl
  iexact H

/-- And back. -/
theorem owns_open (c : Dev nD) {s : Shape} {e : EltTy} (a : Memref sig .tc .vmem s e) :
    (iprop(∃ X, owns (c : Thread nD τ) a fullShare X) : sProp 𝕄) ⊢ iprop(∃ f, a.view.loc (c : Thread nD τ) ↦[a.view.set]{fullShare} f) := by
  unfold owns
  iintro ⟨%X, %f, %_, H⟩
  iexists f
  iexact H

/-- A whole buffer's points-to is its memref's. -/
theorem whole_open (c : Dev nD) (b : Ref sig .tc) :
    (iprop(∃ f : b.ty.Contents (Elt F), (c : Thread nD τ).loc b ↦{fullShare} f) : sProp 𝕄)
      ⊢ iprop(∃ f, (Memref.whole b).view.loc (c : Thread nD τ) ↦[(Memref.whole b).view.set]{fullShare} f) := by
  simp only [View.set_whole, Memref.view_whole]
  exact .rfl

/-- And back. -/
theorem whole_close (c : Dev nD) (b : Ref sig .tc) :
    (iprop(∃ f, (Memref.whole b).view.loc (c : Thread nD τ) ↦[(Memref.whole b).view.set]{fullShare} f) : sProp 𝕄)
      ⊢ iprop(∃ f : b.ty.Contents (Elt F), (c : Thread nD τ).loc b ↦{fullShare} f) := by
  simp only [View.set_whole, Memref.view_whole]
  exact .rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨S0, S1, S2, S3, S4, S5, S6, S7, S8⟩, Hg⟩, HO, H0, H1, H2, H3, H4, H5, H6, H7, H8, H9, H10, H11, H12, H13, H14, H15⟩
  iapply (body_safe c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _))
  unfold Held
  isplitr [Hg HO]
  · skip
    isplitl [H0]; · iapply (owns_open c (win0_0.stage (cfg0.slots t 0))); iexact H0
    isplitl [H1]; · iapply (owns_open c (win0_1.stage (cfg0.slots t 1))); iexact H1
    isplitl [H2]; · iapply (owns_open c (win0_2.stage (cfg0.slots t 2))); iexact H2
    isplitl [H3]; · iapply (owns_open c (win0_3.stage (cfg0.slots t 3))); iexact H3
    isplitl [H4]; · iapply (owns_open c (win0_4.stage (cfg0.slots t 4))); iexact H4
    isplitl [H5]; · iapply (owns_open c (win0_5.stage (cfg0.slots t 5))); iexact H5
    isplitl [H6]; · iapply (owns_open c (win0_6.stage (cfg0.slots t 6))); iexact H6
    isplitl [H7]; · iapply (owns_open c (win0_7.stage (cfg0.slots t 7))); iexact H7
    isplitl [H8]; · iapply (owns_open c (win0_8.stage (cfg0.slots t 8))); iexact H8
    isplitl [H9]; · iapply (owns_open c (win0_9.stage (cfg0.slots t 9))); iexact H9
    isplitl [H10]; · iapply (owns_open c (win0_10.stage (cfg0.slots t 10))); iexact H10
    isplitl [H11]; · iapply (owns_open c (win0_11.stage (cfg0.slots t 11))); iexact H11
    isplitl [H12]; · iapply (owns_open c (win0_12.stage (cfg0.slots t 12))); iexact H12
    isplitl [H13]; · iapply (owns_open c (win0_13.stage (cfg0.slots t 13))); iexact H13
    isplitl [H14]; · iapply (owns_open c (win0_14.stage (cfg0.slots t 14))); iexact H14
    isplitl [H15]; · iapply (owns_open c (win0_15.stage (cfg0.slots t 15))); iexact H15
    isplitl [S0]; · iapply (whole_open c cc0_scratch0); iexact S0
    isplitl [S1]; · iapply (whole_open c cc0_scratch1); iexact S1
    isplitl [S2]; · iapply (whole_open c cc0_scratch2); iexact S2
    isplitl [S3]; · iapply (whole_open c cc0_scratch3); iexact S3
    isplitl [S4]; · iapply (whole_open c cc0_scratch4); iexact S4
    isplitl [S5]; · iapply (whole_open c cc0_scratch5); iexact S5
    isplitl [S6]; · iapply (whole_open c cc0_scratch6); iexact S6
    isplitl [S7]; · iapply (whole_open c cc0_scratch7); iexact S7
    iapply (whole_open c cc0_scratch8); iexact S8
  iintro ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, S0, S1, S2, S3, S4, S5, S6, S7, S8⟩
  isplitl [Hg S0 S1 S2 S3 S4 S5 S6 S7 S8]
  · isplitr [Hg]
    · skip
      isplitl [S0]; · iapply (whole_close c cc0_scratch0); iexact S0
      isplitl [S1]; · iapply (whole_close c cc0_scratch1); iexact S1
      isplitl [S2]; · iapply (whole_close c cc0_scratch2); iexact S2
      isplitl [S3]; · iapply (whole_close c cc0_scratch3); iexact S3
      isplitl [S4]; · iapply (whole_close c cc0_scratch4); iexact S4
      isplitl [S5]; · iapply (whole_close c cc0_scratch5); iexact S5
      isplitl [S6]; · iapply (whole_close c cc0_scratch6); iexact S6
      isplitl [S7]; · iapply (whole_close c cc0_scratch7); iexact S7
      iapply (whole_close c cc0_scratch8); iexact S8
    · iexact Hg
  isplitl [HO]; · iexact HO
  isplitl [H0]; · iapply (owns_close c (win0_0.stage (cfg0.slots t 0)) g0); iexact H0
  isplitl [H1]; · iapply (owns_close c (win0_1.stage (cfg0.slots t 1)) g1); iexact H1
  isplitl [H2]; · iapply (owns_close c (win0_2.stage (cfg0.slots t 2)) g2); iexact H2
  isplitl [H3]; · iapply (owns_close c (win0_3.stage (cfg0.slots t 3)) g3); iexact H3
  isplitl [H4]; · iapply (owns_close c (win0_4.stage (cfg0.slots t 4)) g4); iexact H4
  isplitl [H5]; · iapply (owns_close c (win0_5.stage (cfg0.slots t 5)) g5); iexact H5
  isplitl [H6]; · iapply (owns_close c (win0_6.stage (cfg0.slots t 6)) g6); iexact H6
  isplitl [H7]; · iapply (owns_close c (win0_7.stage (cfg0.slots t 7)) g7); iexact H7
  isplitl [H8]; · iapply (owns_close c (win0_8.stage (cfg0.slots t 8)) g8); iexact H8
  isplitl [H9]; · iapply (owns_close c (win0_9.stage (cfg0.slots t 9)) g9); iexact H9
  isplitl [H10]; · iapply (owns_close c (win0_10.stage (cfg0.slots t 10)) g10); iexact H10
  isplitl [H11]; · iapply (owns_close c (win0_11.stage (cfg0.slots t 11)) g11); iexact H11
  isplitl [H12]; · iapply (owns_close c (win0_12.stage (cfg0.slots t 12)) g12); iexact H12
  isplitl [H13]; · iapply (owns_close c (win0_13.stage (cfg0.slots t 13)) g13); iexact H13
  isplitl [H14]; · iapply (owns_close c (win0_14.stage (cfg0.slots t 14)) g14); iexact H14
  iapply (owns_close c (win0_15.stage (cfg0.slots t 15)) g15); iexact H15

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The whole run. -/
theorem run_main :
    θ_run defs (onTc (τ := τ) (main (F := F))) (s₀ m ρ)
      (fun r => Pipeline.RDat.FramePostR (cfgs 0) (fun c => (dats m 0 c).toRForget forgets) kept (V m) r ∧ r.2.sem = fun _ => 0) :=
  Pipeline.θ_run_frame_around_T_forget_shared (Q' := _) cfgs (dats m) (0 : Fin 1) launch₀0 defs₀ Variants.none forgets kept m ρ main
    (hbody := body_obligation m) (hq := fun _ _ _ => rfl) (howed := fun _ _ => rfl) (V₀ := V0 m) (opss := [hostOps1])
    (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      rw [Proc.devRef_injective (τ := τ) _ hb]
      exact Finset.mem_singleton_self _)
    (hmain := Gen.hmain m Variants.none) (hA := A_eq m) (hΦ := fun _ _ => rfl)

variable {m}

theorem end_arg0 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg0) = m ((c : Thread nD τ).loc main_arg0) :=
  (h.arr_in c 0 rfl).trans (V_main_arg0 m c)

theorem end_arg1 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg1) = m ((c : Thread nD τ).loc main_arg1) :=
  (h.arr_in c 2 rfl).trans (V_main_arg1 m c)

theorem end_arg2 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg2) = m ((c : Thread nD τ).loc main_arg2) :=
  ((h c).2 main_arg2 (Finset.mem_sdiff.mpr ⟨Pipeline.mem_restRefs_of main_arg2 (by decide) (by decide), by decide⟩)).trans (V_main_arg2 m c)

theorem end_arg3 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg3) = m ((c : Thread nD τ).loc main_arg3) :=
  ((h c).2 main_arg3 (Finset.mem_sdiff.mpr ⟨Pipeline.mem_restRefs_of main_arg3 (by decide) (by decide), by decide⟩)).trans (V_main_arg3 m c)

theorem end_arg4 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg4) = m ((c : Thread nD τ).loc main_arg4) :=
  ((h c).2 main_arg4 (Finset.mem_sdiff.mpr ⟨Pipeline.mem_restRefs_of main_arg4 (by decide) (by decide), by decide⟩)).trans (V_main_arg4 m c)

theorem end_arg5 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg5) = m ((c : Thread nD τ).loc main_arg5) :=
  ((h c).2 main_arg5 (Finset.mem_sdiff.mpr ⟨Pipeline.mem_restRefs_of main_arg5 (by decide) (by decide), by decide⟩)).trans (V_main_arg5 m c)

theorem end_arg6 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg6) = m ((c : Thread nD τ).loc main_arg6) :=
  ((h c).2 main_arg6 (Finset.mem_sdiff.mpr ⟨Pipeline.mem_restRefs_of main_arg6 (by decide) (by decide), by decide⟩)).trans (V_main_arg6 m c)

theorem end_arg7 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg7) = m ((c : Thread nD τ).loc main_arg7) :=
  ((h c).2 main_arg7 (Finset.mem_sdiff.mpr ⟨Pipeline.mem_restRefs_of main_arg7 (by decide) (by decide), by decide⟩)).trans (V_main_arg7 m c)

theorem end_arg8 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg8) = m ((c : Thread nD τ).loc main_arg8) :=
  ((h c).2 main_arg8 (Finset.mem_sdiff.mpr ⟨Pipeline.mem_restRefs_of main_arg8 (by decide) (by decide), by decide⟩)).trans (V_main_arg8 m c)

theorem end_arg9 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg9) = m ((c : Thread nD τ).loc main_arg9) :=
  ((h c).2 main_arg9 (Finset.mem_sdiff.mpr ⟨Pipeline.mem_restRefs_of main_arg9 (by decide) (by decide), by decide⟩)).trans (V_main_arg9 m c)

theorem end_arg10 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg10) = m ((c : Thread nD τ).loc main_arg10) :=
  ((h c).2 main_arg10 (Finset.mem_sdiff.mpr ⟨Pipeline.mem_restRefs_of main_arg10 (by decide) (by decide), by decide⟩)).trans (V_main_arg10 m c)

theorem end_arg11 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg11) = m ((c : Thread nD τ).loc main_arg11) :=
  ((h c).2 main_arg11 (Finset.mem_sdiff.mpr ⟨Pipeline.mem_restRefs_of main_arg11 (by decide) (by decide), by decide⟩)).trans (V_main_arg11 m c)

theorem end_arg12 {r : PUnit × MemSt nD τ sig (Elt F)}
    (h : Pipeline.RDat.FramePostR (cfgs 0) (fun c => (dats (F := F) m 0 c).toRForget forgets) kept (V m) r) (c : Dev nD) :
    r.2.mem ((c : Thread nD τ).loc main_arg12) = m ((c : Thread nD τ).loc main_arg12) :=
  ((h c).2 main_arg12 (Finset.mem_sdiff.mpr ⟨Pipeline.mem_restRefs_of main_arg12 (by decide) (by decide), by decide⟩)).trans (V_main_arg12 m c)

variable (m)

/-- The frame: the arguments end as launched, the counters at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨end_arg0 h.1 c, end_arg1 h.1 c, end_arg2 h.1 c, end_arg3 h.1 c, end_arg4 h.1 c, end_arg5 h.1 c, end_arg6 h.1 c, end_arg7 h.1 c, end_arg8 h.1 c, end_arg9 h.1 c, end_arg10 h.1 c, end_arg11 h.1 c, end_arg12 h.1 c⟩, h.2⟩) (run_main m ρ)

end Cert.KernelIdeal.Mix

end
-- ==== Proof.MixHalf.lean ====
/-
  One step of the attention sweep: the scores of the next key block against the four query streams are stored in one slot,
  and the block whose scores stand in the other slot is folded into the running maximum and the running sums.
-/
module

public import proofs.«01_k».proof.Proof.Gen.KernelIdeal.Skeleton

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Plane `(s, j)` of the score buffer is in range. -/
theorem in19 (s j : ℕ) (hs : s < 2) (hj : j < 4) : ∀ a, (![s, j, 0, 0] : Fin 4 → ℕ) a + S1x1x512x512.size a ≤ S2x4x512x512.size a := by
  intro a
  match a with
  | 0 => show s + 1 ≤ 2; omega
  | 1 => show j + 1 ≤ 4; omega
  | 2 => exact le_refl 512
  | 3 => exact le_refl 512

/-- Plane `(s, j)` of the buffer of block maxima is in range. -/
theorem in20 (s j : ℕ) (hs : s < 2) (hj : j < 4) : ∀ a, (![s, j, 0, 0] : Fin 4 → ℕ) a + S1x1x1x512.size a ≤ S2x4x1x512.size a := by
  intro a
  match a with
  | 0 => show s + 1 ≤ 2; omega
  | 1 => show j + 1 ≤ 4; omega
  | 2 => exact le_refl 1
  | 3 => exact le_refl 512

/-- Plane `j` of the running maxima. -/
theorem in17 (j : ℕ) (hj : j < 4) : ∀ a, (![j, 0, 0] : Fin 3 → ℕ) a + S1x1x512.size a ≤ S4x1x512.size a := by
  intro a
  match a with
  | 0 => show j + 1 ≤ 4; omega
  | 1 => exact le_refl 1
  | 2 => exact le_refl 512

/-- Plane `j` of the running sums. -/
theorem in18 (j : ℕ) (hj : j < 4) : ∀ a, (![j, 0, 0] : Fin 3 → ℕ) a + S1x144x512.size a ≤ S4x144x512.size a := by
  intro a
  match a with
  | 0 => show j + 1 ≤ 4; omega
  | 1 => exact le_refl 144
  | 2 => exact le_refl 512

/-- Reading plane `(s, j)` of the score buffer. -/
def load19 (arg19 : Memref sig .tc .vmem S2x4x512x512 .f32) (s j : ℕ) (hs : s < 2) (hj : j < 4) : Prog (TpuEff nD τ sig (Elt F) Λ₀ .tc) (Vec F S1x1x512x512 .f32) :=
  Prog.lift (.load arg19 (Rect.unit (s := S2x4x512x512) ![s, j, 0, 0] S1x1x512x512.size (in19 s j hs hj)).toLoadRect (View.loadsAt_vmem h_S1x1x512x512))

/-- Storing plane `(s, j)` of the score buffer. -/
def store19 (arg19 : Memref sig .tc .vmem S2x4x512x512 .f32) (s j : ℕ) (hs : s < 2) (hj : j < 4) (x : Vec F S1x1x512x512 .f32) : Prog (TpuEff nD τ sig (Elt F) Λ₀ .tc) PUnit :=
  Prog.lift (.store arg19 (Rect.unit (s := S2x4x512x512) ![s, j, 0, 0] S1x1x512x512.size (in19 s j hs hj)) x Finset.univ (View.stores_vmem_bits_univ h_S1x1x512x512 rfl) (.inl rfl))

/-- Reading plane `(s, j)` of the block maxima. -/
def load20 (arg20 : Memref sig .tc .vmem S2x4x1x512 .f32) (s j : ℕ) (hs : s < 2) (hj : j < 4) : Prog (TpuEff nD τ sig (Elt F) Λ₀ .tc) (Vec F S1x1x1x512 .f32) :=
  Prog.lift (.load arg20 (Rect.unit (s := S2x4x1x512) ![s, j, 0, 0] S1x1x1x512.size (in20 s j hs hj)).toLoadRect (View.loadsAt_vmem h_S1x1x1x512))

/-- Storing plane `(s, j)` of the block maxima. -/
def store20 (arg20 : Memref sig .tc .vmem S2x4x1x512 .f32) (s j : ℕ) (hs : s < 2) (hj : j < 4) (x : Vec F S1x1x1x512 .f32) : Prog (TpuEff nD τ sig (Elt F) Λ₀ .tc) PUnit :=
  Prog.lift (.store arg20 (Rect.unit (s := S2x4x1x512) ![s, j, 0, 0] S1x1x1x512.size (in20 s j hs hj)) x Finset.univ (View.stores_vmem_bits_univ h_S1x1x1x512 rfl) (.inl rfl))

/-- Reading plane `j` of the running maxima. -/
def load17 (arg17 : Memref sig .tc .vmem S4x1x512 .f32) (j : ℕ) (hj : j < 4) : Prog (TpuEff nD τ sig (Elt F) Λ₀ .tc) (Vec F S1x1x512 .f32) :=
  Prog.lift (.load arg17 (Rect.unit (s := S4x1x512) ![j, 0, 0] S1x1x512.size (in17 j hj)).toLoadRect (View.loadsAt_vmem h_S1x1x512))

/-- Storing plane `j` of the running maxima. -/
def store17 (arg17 : Memref sig .tc .vmem S4x1x512 .f32) (j : ℕ) (hj : j < 4) (x : Vec F S1x1x512 .f32) : Prog (TpuEff nD τ sig (Elt F) Λ₀ .tc) PUnit :=
  Prog.lift (.store arg17 (Rect.unit (s := S4x1x512) ![j, 0, 0] S1x1x512.size (in17 j hj)) x Finset.univ (View.stores_vmem_bits_univ h_S1x1x512 rfl) (.inl rfl))

/-- Reading plane `j` of the running sums. -/
def load18 (arg18 : Memref sig .tc .vmem S4x144x512 .f32) (j : ℕ) (hj : j < 4) : Prog (TpuEff nD τ sig (Elt F) Λ₀ .tc) (Vec F S1x144x512 .f32) :=
  Prog.lift (.load arg18 (Rect.unit (s := S4x144x512) ![j, 0, 0] S1x144x512.size (in18 j hj)).toLoadRect (View.loadsAt_vmem h_S1x144x512))

/-- Storing plane `j` of the running sums. -/
def store18 (arg18 : Memref sig .tc .vmem S4x144x512 .f32) (j : ℕ) (hj : j < 4) (x : Vec F S1x144x512 .f32) : Prog (TpuEff nD τ sig (Elt F) Λ₀ .tc) PUnit :=
  Prog.lift (.store arg18 (Rect.unit (s := S4x144x512) ![j, 0, 0] S1x144x512.size (in18 j hj)) x Finset.univ (View.stores_vmem_bits_univ h_S1x144x512 rfl) (.inl rfl))

/-- Scores of a key block against one query stream, stored in slot `n` with their maximum over the keys. -/
def scoreStep (arg19 : Memref sig .tc .vmem S2x4x512x512 .f32) (arg20 : Memref sig .tc .vmem S2x4x1x512 .f32) (n j : ℕ) (hn : n < 2) (hj : j < 4)
    (st : FVec F S512x512 .f32) : Prog (TpuEff nD τ sig (Elt F) Λ₀ .tc) PUnit := do
  let _ ← load19 (F := F) arg19 n j hn hj
  store19 arg19 n j hn hj (k0_pay9 st)
  let _ ← load20 (F := F) arg20 n j hn hj
  store20 arg20 n j hn hj (k0_pay10 st)

/-- One stream of the folding step: the new sums and the new maximum stored. -/
def foldStep (arg17 : Memref sig .tc .vmem S4x1x512 .f32) (arg18 : Memref sig .tc .vmem S4x144x512 .f32) (j : ℕ) (hj : j < 4)
    (vt : FVec F S144x512 .bf16) (st : FVec F S512x512 .f32) (m0 m1 : FVec F S1x512 .f32) : Prog (TpuEff nD τ sig (Elt F) Λ₀ .tc) PUnit := do
  let a ← load18 (F := F) arg18 j hj
  let _ ← load18 (F := F) arg18 j hj
  store18 arg18 j hj (k0_pay33 vt st m0 m1 a)
  let _ ← load17 (F := F) arg17 j hj
  store17 arg17 j hj (k0_pay34 m1)

/-- The whole step: the scores of the key block at `ko` into slot `n`; the block standing in slot `o`, with the values at
    `vo`, folded into the running maxima and sums. -/
def half (arg2 : Memref sig .tc .vmem S8192x256 .bf16) (arg3 : Memref sig .tc .vmem S16x256x512 .bf16) (arg17 : Memref sig .tc .vmem S4x1x512 .f32)
    (arg18 : Memref sig .tc .vmem S4x144x512 .f32) (arg19 : Memref sig .tc .vmem S2x4x512x512 .f32) (arg20 : Memref sig .tc .vmem S2x4x1x512 .f32)
    (q0 q1 q2 q3 : FVec F S512x128 .bf16) (ones : FVec F S16x512 .bf16)
    (ko : Fin 2 → ℕ) (hko : ∀ a, ko a + S512x256.size a ≤ S8192x256.size a) (vo : Fin 3 → ℕ) (hvo : ∀ a, vo a + S1x256x512.size a ≤ S16x256x512.size a)
    (n o : ℕ) (hn : n < 2) (ho : o < 2) : Prog (TpuEff nD τ sig (Elt F) Λ₀ .tc) PUnit := do
  let kb : Vec F S512x256 .bf16 ← Prog.lift (.load arg2 (Rect.unit (s := S8192x256) ko S512x256.size hko).toLoadRect (View.loadsAt_vmem h_S512x256))
  scoreStep arg19 arg20 n 0 hn (by omega) (k0_pay2 q0 kb)
  scoreStep arg19 arg20 n 1 hn (by omega) (k0_pay2 q1 kb)
  scoreStep arg19 arg20 n 2 hn (by omega) (k0_pay8 q2 kb)
  scoreStep arg19 arg20 n 3 hn (by omega) (k0_pay8 q3 kb)
  let vb : Vec F S1x256x512 .bf16 ← Prog.lift (.load arg3 (Rect.unit (s := S16x256x512) vo S1x256x512.size hvo).toLoadRect (View.loadsAt_vmem h_S1x256x512))
  let s0 ← load19 (F := F) arg19 o 0 ho (by omega)
  let s1 ← load19 (F := F) arg19 o 1 ho (by omega)
  let s2 ← load19 (F := F) arg19 o 2 ho (by omega)
  let s3 ← load19 (F := F) arg19 o 3 ho (by omega)
  let b0 ← load20 (F := F) arg20 o 0 ho (by omega)
  let b1 ← load20 (F := F) arg20 o 1 ho (by omega)
  let b2 ← load20 (F := F) arg20 o 2 ho (by omega)
  let b3 ← load20 (F := F) arg20 o 3 ho (by omega)
  let m0 ← load17 (F := F) arg17 0 (by omega)
  let m1 ← load17 (F := F) arg17 1 (by omega)
  let m2 ← load17 (F := F) arg17 2 (by omega)
  let m3 ← load17 (F := F) arg17 3 (by omega)
  foldStep arg17 arg18 0 (by omega) (k0_pay15 ones vb) (k0_pay17 s0) (k0_pay21 m0) (k0_pay25 b0 m0)
  foldStep arg17 arg18 1 (by omega) (k0_pay15 ones vb) (k0_pay17 s1) (k0_pay21 m1) (k0_pay25 b1 m1)
  foldStep arg17 arg18 2 (by omega) (k0_pay16 ones vb) (k0_pay17 s2) (k0_pay21 m2) (k0_pay25 b2 m2)
  foldStep arg17 arg18 3 (by omega) (k0_pay16 ones vb) (k0_pay17 s3) (k0_pay21 m3) (k0_pay25 b3 m3)

end Cert.KernelIdeal.Mix

end
-- ==== Proof.MixMem.lean ====
/-
  The four scratch buffers of the sweep as planes, and what a load, a store and a whole step do to them.
-/
module

public import Idealize.ShloMosaic.Lib.WritesUnit
public import proofs.«01_k».proof.Proof.MixHalf
public import proofs.«01_k».proof.Proof.Gen.KernelIdeal.Frame

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Pieces

variable {κ : Kind} {sp : Space} {s : Shape} {e : EltTy} {Val : EltTy → Type}

/-- A load of the rectangle written last reads what was written. -/
theorem load_hit (v : View sig κ sp s e) (f : v.ty.Contents Val) {off size : Fin s.rank → ℕ} (inb inb' : ∀ a, off a + size a ≤ s.size a)
    (w : (Rect.unit off size inb').shape.Idx → Val e) (L : List (View.Piece Val s e)) :
    v.readAt Val (Rect.unit off size inb).toLoadRect (v.writes Val f ((⟨Rect.unit off size inb', w⟩ : View.Piece Val s e) :: L)) = w :=
  funext fun y => View.read_writes_cons_emb v f (Rect.unit off size inb') w L y

/-- A load apart from the rectangle written last reads what stood before. -/
theorem load_miss (v : View sig κ sp s e) (f : v.ty.Contents Val) {off off' size size' : Fin s.rank → ℕ} (inb : ∀ a, off a + size a ≤ s.size a)
    (inb' : ∀ a, off' a + size' a ≤ s.size a) (w : (Rect.unit off' size' inb').shape.Idx → Val e) (L : List (View.Piece Val s e))
    (a : Fin s.rank) (ha : off a + size a ≤ off' a ∨ off' a + size' a ≤ off a) :
    v.readAt Val (Rect.unit off size inb).toLoadRect (v.writes Val f ((⟨Rect.unit off' size' inb', w⟩ : View.Piece Val s e) :: L))
      = v.readAt Val (Rect.unit off size inb).toLoadRect (v.writes Val f L) :=
  funext fun y => View.read_writes_cons_unit_of_not_mem v f inb' w L ((Rect.unit off size inb).emb y) rfl a (by
    have h : ((Rect.unit off size inb).emb y a).val = off a + 1 * (y a).val := rfl
    have hy : (y a).val < size a := (y a).isLt
    omega)

end Pieces

/-- What the four scratch buffers hold, plane by plane. -/
@[ext] structure State (F : FTy → Type) [FloatOps F] where
  /-- the running maxima -/
  m : Fin 4 → Vec F S1x1x512 .f32
  /-- the running sums -/
  a : Fin 4 → Vec F S1x144x512 .f32
  /-- the scores, by slot and stream -/
  s : Fin 2 → Fin 4 → Vec F S1x1x512x512 .f32
  /-- their maxima over the keys -/
  b : Fin 2 → Fin 4 → Vec F S1x1x1x512 .f32

/-- A plane of the score buffer. -/
def plane19 (arg19 : Memref sig .tc .vmem S2x4x512x512 .f32) (f : BufTy.Contents (Elt F) arg19.view.ty) (s : Fin 2) (j : Fin 4) : Vec F S1x1x512x512 .f32 :=
  View.readAt (Elt F) arg19.view (Rect.unit (s := S2x4x512x512) ![s.val, j.val, 0, 0] S1x1x512x512.size (in19 s.val j.val s.isLt j.isLt)).toLoadRect f

/-- The score buffer held, with the given planes. -/
def own19 (c : Dev nD) (arg19 : Memref sig .tc .vmem S2x4x512x512 .f32) (S : Fin 2 → Fin 4 → Vec F S1x1x512x512 .f32) : sProp 𝕄 :=
  iprop(∃ f, ⌜plane19 (F := F) arg19 f = S⌝ ∗ arg19.view.loc (c : Thread nD τ) ↦[arg19.view.set]{fullShare} f)

theorem load19_wp (c : Dev nD) (E : Set ℕ) (arg19 : Memref sig .tc .vmem S2x4x512x512 .f32) (S : Fin 2 → Fin 4 → Vec F S1x1x512x512 .f32) (s : Fin 2) (j : Fin 4) :
    own19 c arg19 S ⊢ (wp frame (wpE (defs₀ (F := F)) Variants.none (c : Thread nD τ) none) E (load19 arg19 s.val j.val s.isLt j.isLt)
      (fun v => iprop(⌜v = S s j⌝ ∗ own19 c arg19 S)) : sProp 𝕄) := by
  unfold own19 load19
  iintro ⟨%f, %hf, H⟩
  sl_exec
  sl_step
  isplitr
  · ipureintro
    subst hf
    rfl
  · iexists f
    isplitr
    · ipureintro; exact hf
    · iexact H

theorem plane19_write (arg19 : Memref sig .tc .vmem S2x4x512x512 .f32) (f : BufTy.Contents (Elt F) arg19.view.ty) (S : Fin 2 → Fin 4 → Vec F S1x1x512x512 .f32) (hf : plane19 arg19 f = S) (s : Fin 2) (j : Fin 4) (x : Vec F S1x1x512x512 .f32) :
    plane19 arg19 (arg19.view.writes (Elt F) f [⟨Rect.unit (s := S2x4x512x512) ![s.val, j.val, 0, 0] S1x1x512x512.size (in19 s.val j.val s.isLt j.isLt), x⟩]) = Function.update S s (Function.update (S s) j x) := by
  funext s' j'
  by_cases hs : s' = s
  · subst hs
    rw [Function.update_self]
    by_cases hj : j' = j
    · subst hj
      rw [Function.update_self]
      exact load_hit _ f _ _ x []
    · rw [Function.update_of_ne hj, ← hf]
      exact load_miss _ f _ _ x [] 1 (by
        have := Fin.val_ne_of_ne hj
        show j'.val + 1 ≤ j.val ∨ j.val + 1 ≤ j'.val
        omega)
  · rw [Function.update_of_ne hs, ← hf]
    exact load_miss _ f _ _ x [] 0 (by
      have := Fin.val_ne_of_ne hs
      show s'.val + 1 ≤ s.val ∨ s.val + 1 ≤ s'.val
      omega)

theorem store19_wp (c : Dev nD) (E : Set ℕ) (arg19 : Memref sig .tc .vmem S2x4x512x512 .f32) (S : Fin 2 → Fin 4 → Vec F S1x1x512x512 .f32) (s : Fin 2) (j : Fin 4) (x : Vec F S1x1x512x512 .f32) :
    own19 c arg19 S ⊢ (wp frame (wpE (defs₀ (F := F)) Variants.none (c : Thread nD τ) none) E (store19 arg19 s.val j.val s.isLt j.isLt x)
      (fun _ => own19 c arg19 (Function.update S s (Function.update (S s) j x))) : sProp 𝕄) := by
  unfold own19 store19
  iintro ⟨%f, %hf, H⟩
  sl_exec
  sl_step
  iexists _
  isplitr
  · ipureintro; exact plane19_write arg19 f S hf s j x
  · iexact H

/-- A plane of the buffer of block maxima. -/
def plane20 (arg20 : Memref sig .tc .vmem S2x4x1x512 .f32) (f : BufTy.Contents (Elt F) arg20.view.ty) (s : Fin 2) (j : Fin 4) : Vec F S1x1x1x512 .f32 :=
  View.readAt (Elt F) arg20.view (Rect.unit (s := S2x4x1x512) ![s.val, j.val, 0, 0] S1x1x1x512.size (in20 s.val j.val s.isLt j.isLt)).toLoadRect f

/-- The buffer of block maxima held, with the given planes. -/
def own20 (c : Dev nD) (arg20 : Memref sig .tc .vmem S2x4x1x512 .f32) (S : Fin 2 → Fin 4 → Vec F S1x1x1x512 .f32) : sProp 𝕄 :=
  iprop(∃ f, ⌜plane20 (F := F) arg20 f = S⌝ ∗ arg20.view.loc (c : Thread nD τ) ↦[arg20.view.set]{fullShare} f)

theorem load20_wp (c : Dev nD) (E : Set ℕ) (arg20 : Memref sig .tc .vmem S2x4x1x512 .f32) (S : Fin 2 → Fin 4 → Vec F S1x1x1x512 .f32) (s : Fin 2) (j : Fin 4) :
    own20 c arg20 S ⊢ (wp frame (wpE (defs₀ (F := F)) Variants.none (c : Thread nD τ) none) E (load20 arg20 s.val j.val s.isLt j.isLt)
      (fun v => iprop(⌜v = S s j⌝ ∗ own20 c arg20 S)) : sProp 𝕄) := by
  unfold own20 load20
  iintro ⟨%f, %hf, H⟩
  sl_exec
  sl_step
  isplitr
  · ipureintro
    subst hf
    rfl
  · iexists f
    isplitr
    · ipureintro; exact hf
    · iexact H

theorem plane20_write (arg20 : Memref sig .tc .vmem S2x4x1x512 .f32) (f : BufTy.Contents (Elt F) arg20.view.ty) (S : Fin 2 → Fin 4 → Vec F S1x1x1x512 .f32) (hf : plane20 arg20 f = S) (s : Fin 2) (j : Fin 4) (x : Vec F S1x1x1x512 .f32) :
    plane20 arg20 (arg20.view.writes (Elt F) f [⟨Rect.unit (s := S2x4x1x512) ![s.val, j.val, 0, 0] S1x1x1x512.size (in20 s.val j.val s.isLt j.isLt), x⟩]) = Function.update S s (Function.update (S s) j x) := by
  funext s' j'
  by_cases hs : s' = s
  · subst hs
    rw [Function.update_self]
    by_cases hj : j' = j
    · subst hj
      rw [Function.update_self]
      exact load_hit _ f _ _ x []
    · rw [Function.update_of_ne hj, ← hf]
      exact load_miss _ f _ _ x [] 1 (by
        have := Fin.val_ne_of_ne hj
        show j'.val + 1 ≤ j.val ∨ j.val + 1 ≤ j'.val
        omega)
  · rw [Function.update_of_ne hs, ← hf]
    exact load_miss _ f _ _ x [] 0 (by
      have := Fin.val_ne_of_ne hs
      show s'.val + 1 ≤ s.val ∨ s.val + 1 ≤ s'.val
      omega)

theorem store20_wp (c : Dev nD) (E : Set ℕ) (arg20 : Memref sig .tc .vmem S2x4x1x512 .f32) (S : Fin 2 → Fin 4 → Vec F S1x1x1x512 .f32) (s : Fin 2) (j : Fin 4) (x : Vec F S1x1x1x512 .f32) :
    own20 c arg20 S ⊢ (wp frame (wpE (defs₀ (F := F)) Variants.none (c : Thread nD τ) none) E (store20 arg20 s.val j.val s.isLt j.isLt x)
      (fun _ => own20 c arg20 (Function.update S s (Function.update (S s) j x))) : sProp 𝕄) := by
  unfold own20 store20
  iintro ⟨%f, %hf, H⟩
  sl_exec
  sl_step
  iexists _
  isplitr
  · ipureintro; exact plane20_write arg20 f S hf s j x
  · iexact H

/-- A plane of the running maxima. -/
def plane17 (arg17 : Memref sig .tc .vmem S4x1x512 .f32) (f : BufTy.Contents (Elt F) arg17.view.ty) (j : Fin 4) : Vec F S1x1x512 .f32 :=
  View.readAt (Elt F) arg17.view (Rect.unit (s := S4x1x512) ![j.val, 0, 0] S1x1x512.size (in17 j.val j.isLt)).toLoadRect f

/-- The running maxima held, with the given planes. -/
def own17 (c : Dev nD) (arg17 : Memref sig .tc .vmem S4x1x512 .f32) (S : Fin 4 → Vec F S1x1x512 .f32) : sProp 𝕄 :=
  iprop(∃ f, ⌜plane17 (F := F) arg17 f = S⌝ ∗ arg17.view.loc (c : Thread nD τ) ↦[arg17.view.set]{fullShare} f)

theorem load17_wp (c : Dev nD) (E : Set ℕ) (arg17 : Memref sig .tc .vmem S4x1x512 .f32) (S : Fin 4 → Vec F S1x1x512 .f32) (j : Fin 4) :
    own17 c arg17 S ⊢ (wp frame (wpE (defs₀ (F := F)) Variants.none (c : Thread nD τ) none) E (load17 arg17 j.val j.isLt)
      (fun v => iprop(⌜v = S j⌝ ∗ own17 c arg17 S)) : sProp 𝕄) := by
  unfold own17 load17
  iintro ⟨%f, %hf, H⟩
  sl_exec
  sl_step
  isplitr
  · ipureintro
    subst hf
    rfl
  · iexists f
    isplitr
    · ipureintro; exact hf
    · iexact H

theorem plane17_write (arg17 : Memref sig .tc .vmem S4x1x512 .f32) (f : BufTy.Contents (Elt F) arg17.view.ty) (S : Fin 4 → Vec F S1x1x512 .f32) (hf : plane17 arg17 f = S) (j : Fin 4) (x : Vec F S1x1x512 .f32) :
    plane17 arg17 (arg17.view.writes (Elt F) f [⟨Rect.unit (s := S4x1x512) ![j.val, 0, 0] S1x1x512.size (in17 j.val j.isLt), x⟩]) = Function.update S j x := by
  funext j'
  by_cases hj : j' = j
  · subst hj
    rw [Function.update_self]
    exact load_hit _ f _ _ x []
  · rw [Function.update_of_ne hj, ← hf]
    exact load_miss _ f _ _ x [] 0 (by
      have := Fin.val_ne_of_ne hj
      show j'.val + 1 ≤ j.val ∨ j.val + 1 ≤ j'.val
      omega)

theorem store17_wp (c : Dev nD) (E : Set ℕ) (arg17 : Memref sig .tc .vmem S4x1x512 .f32) (S : Fin 4 → Vec F S1x1x512 .f32) (j : Fin 4) (x : Vec F S1x1x512 .f32) :
    own17 c arg17 S ⊢ (wp frame (wpE (defs₀ (F := F)) Variants.none (c : Thread nD τ) none) E (store17 arg17 j.val j.isLt x)
      (fun _ => own17 c arg17 (Function.update S j x)) : sProp 𝕄) := by
  unfold own17 store17
  iintro ⟨%f, %hf, H⟩
  sl_exec
  sl_step
  iexists _
  isplitr
  · ipureintro; exact plane17_write arg17 f S hf j x
  · iexact H

/-- A plane of the running sums. -/
def plane18 (arg18 : Memref sig .tc .vmem S4x144x512 .f32) (f : BufTy.Contents (Elt F) arg18.view.ty) (j : Fin 4) : Vec F S1x144x512 .f32 :=
  View.readAt (Elt F) arg18.view (Rect.unit (s := S4x144x512) ![j.val, 0, 0] S1x144x512.size (in18 j.val j.isLt)).toLoadRect f

/-- The running sums held, with the given planes. -/
def own18 (c : Dev nD) (arg18 : Memref sig .tc .vmem S4x144x512 .f32) (S : Fin 4 → Vec F S1x144x512 .f32) : sProp 𝕄 :=
  iprop(∃ f, ⌜plane18 (F := F) arg18 f = S⌝ ∗ arg18.view.loc (c : Thread nD τ) ↦[arg18.view.set]{fullShare} f)

theorem load18_wp (c : Dev nD) (E : Set ℕ) (arg18 : Memref sig .tc .vmem S4x144x512 .f32) (S : Fin 4 → Vec F S1x144x512 .f32) (j : Fin 4) :
    own18 c arg18 S ⊢ (wp frame (wpE (defs₀ (F := F)) Variants.none (c : Thread nD τ) none) E (load18 arg18 j.val j.isLt)
      (fun v => iprop(⌜v = S j⌝ ∗ own18 c arg18 S)) : sProp 𝕄) := by
  unfold own18 load18
  iintro ⟨%f, %hf, H⟩
  sl_exec
  sl_step
  isplitr
  · ipureintro
    subst hf
    rfl
  · iexists f
    isplitr
    · ipureintro; exact hf
    · iexact H

theorem plane18_write (arg18 : Memref sig .tc .vmem S4x144x512 .f32) (f : BufTy.Contents (Elt F) arg18.view.ty) (S : Fin 4 → Vec F S1x144x512 .f32) (hf : plane18 arg18 f = S) (j : Fin 4) (x : Vec F S1x144x512 .f32) :
    plane18 arg18 (arg18.view.writes (Elt F) f [⟨Rect.unit (s := S4x144x512) ![j.val, 0, 0] S1x144x512.size (in18 j.val j.isLt), x⟩]) = Function.update S j x := by
  funext j'
  by_cases hj : j' = j
  · subst hj
    rw [Function.update_self]
    exact load_hit _ f _ _ x []
  · rw [Function.update_of_ne hj, ← hf]
    exact load_miss _ f _ _ x [] 0 (by
      have := Fin.val_ne_of_ne hj
      show j'.val + 1 ≤ j.val ∨ j.val + 1 ≤ j'.val
      omega)

theorem store18_wp (c : Dev nD) (E : Set ℕ) (arg18 : Memref sig .tc .vmem S4x144x512 .f32) (S : Fin 4 → Vec F S1x144x512 .f32) (j : Fin 4) (x : Vec F S1x144x512 .f32) :
    own18 c arg18 S ⊢ (wp frame (wpE (defs₀ (F := F)) Variants.none (c : Thread nD τ) none) E (store18 arg18 j.val j.isLt x)
      (fun _ => own18 c arg18 (Function.update S j x)) : sProp 𝕄) := by
  unfold own18 store18
  iintro ⟨%f, %hf, H⟩
  sl_exec
  sl_step
  iexists _
  isplitr
  · ipureintro; exact plane18_write arg18 f S hf j x
  · iexact H

/-- The keys and the values at given contents, the four scratch buffers at a given state. -/
def holds (c : Dev nD) (arg2 : Memref sig .tc .vmem S8192x256 .bf16) (arg3 : Memref sig .tc .vmem S16x256x512 .bf16) (arg17 : Memref sig .tc .vmem S4x1x512 .f32)
    (arg18 : Memref sig .tc .vmem S4x144x512 .f32) (arg19 : Memref sig .tc .vmem S2x4x512x512 .f32) (arg20 : Memref sig .tc .vmem S2x4x1x512 .f32)
    (f2 : BufTy.Contents (Elt F) arg2.view.ty) (f3 : BufTy.Contents (Elt F) arg3.view.ty) (st : State F) : sProp 𝕄 :=
  iprop((arg2.view.loc (c : Thread nD τ) ↦[arg2.view.set]{fullShare} f2) ∗ (arg3.view.loc (c : Thread nD τ) ↦[arg3.view.set]{fullShare} f3)
    ∗ own17 c arg17 st.m ∗ own18 c arg18 st.a ∗ own19 c arg19 st.s ∗ own20 c arg20 st.b)

section Rules

variable (c : Dev nD) (E : Set ℕ) (arg2 : Memref sig .tc .vmem S8192x256 .bf16) (arg3 : Memref sig .tc .vmem S16x256x512 .bf16) (arg17 : Memref sig .tc .vmem S4x1x512 .f32)
    (arg18 : Memref sig .tc .vmem S4x144x512 .f32) (arg19 : Memref sig .tc .vmem S2x4x512x512 .f32) (arg20 : Memref sig .tc .vmem S2x4x1x512 .f32)
    (f2 : BufTy.Contents (Elt F) arg2.view.ty) (f3 : BufTy.Contents (Elt F) arg3.view.ty) (st : State F)

/-- A load of a plane of the score buffer, followed by the rest. -/
theorem load19_then (s : Fin 2) (j : Fin 4) {α : Type} (k : Vec F S1x1x512x512 .f32 → Prog (TpuEff nD τ sig (Elt F) Λ₀ .tc) α) (Q : α → sProp 𝕄)
    (h : holds c arg2 arg3 arg17 arg18 arg19 arg20 f2 f3 st ⊢ (wp frame (wpE (defs₀ (F := F)) Variants.none (c : Thread nD τ) none) E (k (st.s s j)) Q : sProp 𝕄)) :
    holds c arg2 arg3 arg17 arg18 arg19 arg20 f2 f3 st ⊢ (wp frame (wpE (defs₀ (F := F)) Variants.none (c : Thread nD τ) none) E (load19 arg19 s.val j.val s.isLt j.isLt >>= k) Q : sProp 𝕄) := by
  rw [wp_bind]
  unfold holds
  iintro ⟨H2, H3, H17, H18, H19, H20⟩
  iapply (wp_wand_r frame (wpE (defs₀ (F := F)) Variants.none (c : Thread nD τ) none) E)
  isplitl [H19]
  · iapply (load19_wp c E arg19 st.s s j); iexact H19
  · iintro %v ⟨%hv, H19⟩
    subst hv
    iapply h
    unfold holds
    isplitl [H2]; · iexact H2
    isplitl [H3]; · iexact H3
    isplitl [H17]; · iexact H17
    isplitl [H18]; · iexact H18
    isplitl [H19]; · iexact H19
    iexact H20

/-- A store of a plane of the score buffer, followed by the rest. -/
theorem store19_then (s : Fin 2) (j : Fin 4) (x : Vec F S1x1x512x512 .f32) {α : Type} (k : PUnit → Prog (TpuEff nD τ sig (Elt F) Λ₀ .tc) α) (Q : α → sProp 𝕄)
    (h : holds c arg2 arg3 arg17 arg18 arg19 arg20 f2 f3 { st with s := Function.update st.s s (Function.update (st.s s) j x) } ⊢ (wp frame (wpE (defs₀ (F := F)) Variants.none (c : Thread nD τ) none) E (k ⟨⟩) Q : sProp 𝕄)) :
    holds c arg2 arg3 arg17 arg18 arg19 arg20 f2 f3 st ⊢ (wp frame (wpE (defs₀ (F := F)) Variants.none (c : Thread nD τ) none) E (store19 arg19 s.val j.val s.isLt j.isLt x >>= k) Q : sProp 𝕄) := by
  rw [wp_bind]
  unfold holds
  iintro ⟨H2, H3, H17, H18, H19, H20⟩
  iapply (wp_wand_r frame (wpE (defs₀ (F := F)) Variants.none (c : Thread nD τ) none) E)
  isplitl [H19]
  · iapply (store19_wp c E arg19 st.s s j x); iexact H19
  · iintro %v H19
    iapply h
    unfold holds
    isplitl [H2]; · iexact H2
    isplitl [H3]; · iexact H3
    isplitl [H17]; · iexact H17
    isplitl [H18]; · iexact H18
    isplitl [H19]; · iexact H19
    iexact H20

/-- A load of a plane of the buffer of block maxima, followed by the rest. -/
theorem load20_then (s : Fin 2) (j : Fin 4) {α : Type} (k : Vec F S1x1x1x512 .f32 → Prog (TpuEff nD τ sig (Elt F) Λ₀ .tc) α) (Q : α → sProp 𝕄)
    (h : holds c arg2 arg3 arg17 arg18 arg19 arg20 f2 f3 st ⊢ (wp frame (wpE (defs₀ (F := F)) Variants.none (c : Thread nD τ) none) E (k (st.b s j)) Q : sProp 𝕄)) :
    holds c arg2 arg3 arg17 arg18 arg19 arg20 f2 f3 st ⊢ (wp frame (wpE (defs₀ (F := F)) Variants.none (c : Thread nD τ) none) E (load20 arg20 s.val j.val s.isLt j.isLt >>= k) Q : sProp 𝕄) := by
  rw [wp_bind]
  unfold holds
  iintro ⟨H2, H3, H17, H18, H19, H20⟩
  iapply (wp_wand_r frame (wpE (defs₀ (F := F)) Variants.none (c : Thread nD τ) none) E)
  isplitl [H20]
  · iapply (load20_wp c E arg20 st.b s j); iexact H20
  · iintro %v ⟨%hv, H20⟩
    subst hv
    iapply h
    unfold holds
    isplitl [H2]; · iexact H2
    isplitl [H3]; · iexact H3
    isplitl [H17]; · iexact H17
    isplitl [H18]; · iexact H18
    isplitl [H19]; · iexact H19
    iexact H20

/-- A store of a plane of the buffer of block maxima, followed by the rest. -/
theorem store20_then (s : Fin 2) (j : Fin 4) (x : Vec F S1x1x1x512 .f32) {α : Type} (k : PUnit → Prog (TpuEff nD τ sig (Elt F) Λ₀ .tc) α) (Q : α → sProp 𝕄)
    (h : holds c arg2 arg3 arg17 arg18 arg19 arg20 f2 f3 { st with b := Function.update st.b s (Function.update (st.b s) j x) } ⊢ (wp frame (wpE (defs₀ (F := F)) Variants.none (c : Thread nD τ) none) E (k ⟨⟩) Q : sProp 𝕄)) :
    holds c arg2 arg3 arg17 arg18 arg19 arg20 f2 f3 st ⊢ (wp frame (wpE (defs₀ (F := F)) Variants.none (c : Thread nD τ) none) E (store20 arg20 s.val j.val s.isLt j.isLt x >>= k) Q : sProp 𝕄) := by
  rw [wp_bind]
  unfold holds
  iintro ⟨H2, H3, H17, H18, H19, H20⟩
  iapply (wp_wand_r frame (wpE (defs₀ (F := F)) Variants.none (c : Thread nD τ) none) E)
  isplitl [H20]
  · iapply (store20_wp c E arg20 st.b s j x); iexact H20
  · iintro %v H20
    iapply h
    unfold holds
    isplitl [H2]; · iexact H2
    isplitl [H3]; · iexact H3
    isplitl [H17]; · iexact H17
    isplitl [H18]; · iexact H18
    isplitl [H19]; · iexact H19
    iexact H20

/-- A load of a plane of the running maxima, followed by the rest. -/
theorem load17_then (j : Fin 4) {α : Type} (k : Vec F S1x1x512 .f32 → Prog (TpuEff nD τ sig (Elt F) Λ₀ .tc) α) (Q : α → sProp 𝕄)
    (h : holds c arg2 arg3 arg17 arg18 arg19 arg20 f2 f3 st ⊢ (wp frame (wpE (defs₀ (F := F)) Variants.none (c : Thread nD τ) none) E (k (st.m j)) Q : sProp 𝕄)) :
    holds c arg2 arg3 arg17 arg18 arg19 arg20 f2 f3 st ⊢ (wp frame (wpE (defs₀ (F := F)) Variants.none (c : Thread nD τ) none) E (load17 arg17 j.val j.isLt >>= k) Q : sProp 𝕄) := by
  rw [wp_bind]
  unfold holds
  iintro ⟨H2, H3, H17, H18, H19, H20⟩
  iapply (wp_wand_r frame (wpE (defs₀ (F := F)) Variants.none (c : Thread nD τ) none) E)
  isplitl [H17]
  · iapply (load17_wp c E arg17 st.m j); iexact H17
  · iintro %v ⟨%hv, H17⟩
    subst hv
    iapply h
    unfold holds
    isplitl [H2]; · iexact H2
    isplitl [H3]; · iexact H3
    isplitl [H17]; · iexact H17
    isplitl [H18]; · iexact H18
    isplitl [H19]; · iexact H19
    iexact H20

/-- A store of a plane of the running maxima, followed by the rest. -/
theorem store17_then (j : Fin 4) (x : Vec F S1x1x512 .f32) {α : Type} (k : PUnit → Prog (TpuEff nD τ sig (Elt F) Λ₀ .tc) α) (Q : α → sProp 𝕄)
    (h : holds c arg2 arg3 arg17 arg18 arg19 arg20 f2 f3 { st with m := Function.update st.m j x } ⊢ (wp frame (wpE (defs₀ (F := F)) Variants.none (c : Thread nD τ) none) E (k ⟨⟩) Q : sProp 𝕄)) :
    holds c arg2 arg3 arg17 arg18 arg19 arg20 f2 f3 st ⊢ (wp frame (wpE (defs₀ (F := F)) Variants.none (c : Thread nD τ) none) E (store17 arg17 j.val j.isLt x >>= k) Q : sProp 𝕄) := by
  rw [wp_bind]
  unfold holds
  iintro ⟨H2, H3, H17, H18, H19, H20⟩
  iapply (wp_wand_r frame (wpE (defs₀ (F := F)) Variants.none (c : Thread nD τ) none) E)
  isplitl [H17]
  · iapply (store17_wp c E arg17 st.m j x); iexact H17
  · iintro %v H17
    iapply h
    unfold holds
    isplitl [H2]; · iexact H2
    isplitl [H3]; · iexact H3
    isplitl [H17]; · iexact H17
    isplitl [H18]; · iexact H18
    isplitl [H19]; · iexact H19
    iexact H20

/-- A load of a plane of the running sums, followed by the rest. -/
theorem load18_then (j : Fin 4) {α : Type} (k : Vec F S1x144x512 .f32 → Prog (TpuEff nD τ sig (Elt F) Λ₀ .tc) α) (Q : α → sProp 𝕄)
    (h : holds c arg2 arg3 arg17 arg18 arg19 arg20 f2 f3 st ⊢ (wp frame (wpE (defs₀ (F := F)) Variants.none (c : Thread nD τ) none) E (k (st.a j)) Q : sProp 𝕄)) :
    holds c arg2 arg3 arg17 arg18 arg19 arg20 f2 f3 st ⊢ (wp frame (wpE (defs₀ (F := F)) Variants.none (c : Thread nD τ) none) E (load18 arg18 j.val j.isLt >>= k) Q : sProp 𝕄) := by
  rw [wp_bind]
  unfold holds
  iintro ⟨H2, H3, H17, H18, H19, H20⟩
  iapply (wp_wand_r frame (wpE (defs₀ (F := F)) Variants.none (c : Thread nD τ) none) E)
  isplitl [H18]
  · iapply (load18_wp c E arg18 st.a j); iexact H18
  · iintro %v ⟨%hv, H18⟩
    subst hv
    iapply h
    unfold holds
    isplitl [H2]; · iexact H2
    isplitl [H3]; · iexact H3
    isplitl [H17]; · iexact H17
    isplitl [H18]; · iexact H18
    isplitl [H19]; · iexact H19
    iexact H20

/-- A store of a plane of the running sums, followed by the rest. -/
theorem store18_then (j : Fin 4) (x : Vec F S1x144x512 .f32) {α : Type} (k : PUnit → Prog (TpuEff nD τ sig (Elt F) Λ₀ .tc) α) (Q : α → sProp 𝕄)
    (h : holds c arg2 arg3 arg17 arg18 arg19 arg20 f2 f3 { st with a := Function.update st.a j x } ⊢ (wp frame (wpE (defs₀ (F := F)) Variants.none (c : Thread nD τ) none) E (k ⟨⟩) Q : sProp 𝕄)) :
    holds c arg2 arg3 arg17 arg18 arg19 arg20 f2 f3 st ⊢ (wp frame (wpE (defs₀ (F := F)) Variants.none (c : Thread nD τ) none) E (store18 arg18 j.val j.isLt x >>= k) Q : sProp 𝕄) := by
  rw [wp_bind]
  unfold holds
  iintro ⟨H2, H3, H17, H18, H19, H20⟩
  iapply (wp_wand_r frame (wpE (defs₀ (F := F)) Variants.none (c : Thread nD τ) none) E)
  isplitl [H18]
  · iapply (store18_wp c E arg18 st.a j x); iexact H18
  · iintro %v H18
    iapply h
    unfold holds
    isplitl [H2]; · iexact H2
    isplitl [H3]; · iexact H3
    isplitl [H17]; · iexact H17
    isplitl [H18]; · iexact H18
    isplitl [H19]; · iexact H19
    iexact H20

end Rules

end Cert.KernelIdeal.Mix

end
-- ==== Proof.MixRule.lean ====
/-
  A step of the sweep takes the scratch buffers from one state to the next.
-/
module

public import proofs.«01_k».proof.Proof.MixMem

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A slab of 512 keys. -/
def slab2 (arg2 : Memref sig .tc .vmem S8192x256 .bf16) (f2 : BufTy.Contents (Elt F) arg2.view.ty) (ko : Fin 2 → ℕ)
    (hko : ∀ a, ko a + S512x256.size a ≤ S8192x256.size a) : Vec F S512x256 .bf16 :=
  View.readAt (Elt F) arg2.view (Rect.unit (s := S8192x256) ko S512x256.size hko).toLoadRect f2

/-- The values of 512 keys, feature by key. -/
def slab3 (arg3 : Memref sig .tc .vmem S16x256x512 .bf16) (f3 : BufTy.Contents (Elt F) arg3.view.ty) (vo : Fin 3 → ℕ)
    (hvo : ∀ a, vo a + S1x256x512.size a ≤ S16x256x512.size a) : Vec F S1x256x512 .bf16 :=
  View.readAt (Elt F) arg3.view (Rect.unit (s := S16x256x512) vo S1x256x512.size hvo).toLoadRect f3

/-- The scores of a slab of keys against the four query streams. -/
def scoresOf (q0 q1 q2 q3 : FVec F S512x128 .bf16) (kb : Vec F S512x256 .bf16) : Fin 4 → FVec F S512x512 .f32 :=
  ![k0_pay2 q0 kb, k0_pay2 q1 kb, k0_pay8 q2 kb, k0_pay8 q3 kb]

/-- The values a stream is summed with: its head's rows, then the rows of ones. -/
def valuesOf (ones : FVec F S16x512 .bf16) (vb : Vec F S1x256x512 .bf16) : Fin 4 → FVec F S144x512 .bf16 :=
  ![k0_pay15 ones vb, k0_pay15 ones vb, k0_pay16 ones vb, k0_pay16 ones vb]

/-- The state after a step: slab `kb` scored into slot `n`, slot `o` folded with the values `vb`. -/
def State.next (q0 q1 q2 q3 : FVec F S512x128 .bf16) (ones : FVec F S16x512 .bf16) (kb : Vec F S512x256 .bf16) (vb : Vec F S1x256x512 .bf16)
    (n o : Fin 2) (st : State F) : State F where
  m := fun j => k0_pay34 (k0_pay25 (st.b o j) (st.m j))
  a := fun j => k0_pay33 (valuesOf ones vb j) (k0_pay17 (st.s o j)) (k0_pay21 (st.m j)) (k0_pay25 (st.b o j) (st.m j)) (st.a j)
  s := Function.update st.s n fun j => k0_pay9 (scoresOf q0 q1 q2 q3 kb j)
  b := Function.update st.b n fun j => k0_pay10 (scoresOf q0 q1 q2 q3 kb j)

section Rules

variable (c : Dev nD) (E : Set ℕ) (arg2 : Memref sig .tc .vmem S8192x256 .bf16) (arg3 : Memref sig .tc .vmem S16x256x512 .bf16) (arg17 : Memref sig .tc .vmem S4x1x512 .f32)
    (arg18 : Memref sig .tc .vmem S4x144x512 .f32) (arg19 : Memref sig .tc .vmem S2x4x512x512 .f32) (arg20 : Memref sig .tc .vmem S2x4x1x512 .f32)
    (f2 : BufTy.Contents (Elt F) arg2.view.ty) (f3 : BufTy.Contents (Elt F) arg3.view.ty) (st : State F)

/-- A load of a slab of keys, followed by the rest. -/
theorem load2_then (ko : Fin 2 → ℕ) (hko : ∀ a, ko a + S512x256.size a ≤ S8192x256.size a) {α : Type}
    (k : Vec F S512x256 .bf16 → Prog (TpuEff nD τ sig (Elt F) Λ₀ .tc) α) (Q : α → sProp 𝕄)
    (h : holds c arg2 arg3 arg17 arg18 arg19 arg20 f2 f3 st ⊢ (wp frame (wpE (defs₀ (F := F)) Variants.none (c : Thread nD τ) none) E (k (slab2 arg2 f2 ko hko)) Q : sProp 𝕄)) :
    holds c arg2 arg3 arg17 arg18 arg19 arg20 f2 f3 st ⊢ (wp frame (wpE (defs₀ (F := F)) Variants.none (c : Thread nD τ) none) E (Prog.lift (.load arg2 (Rect.unit (s := S8192x256) ko S512x256.size hko).toLoadRect (View.loadsAt_vmem h_S512x256)) >>= k) Q : sProp 𝕄) := by
  unfold holds at h ⊢
  iintro ⟨H2, H3, H⟩
  sl_exec
  iapply h
  isplitl [H2]; · iexact H2
  isplitl [H3]; · iexact H3
  iexact H

/-- A load of the values of a slab, followed by the rest. -/
theorem load3_then (vo : Fin 3 → ℕ) (hvo : ∀ a, vo a + S1x256x512.size a ≤ S16x256x512.size a) {α : Type}
    (k : Vec F S1x256x512 .bf16 → Prog (TpuEff nD τ sig (Elt F) Λ₀ .tc) α) (Q : α → sProp 𝕄)
    (h : holds c arg2 arg3 arg17 arg18 arg19 arg20 f2 f3 st ⊢ (wp frame (wpE (defs₀ (F := F)) Variants.none (c : Thread nD τ) none) E (k (slab3 arg3 f3 vo hvo)) Q : sProp 𝕄)) :
    holds c arg2 arg3 arg17 arg18 arg19 arg20 f2 f3 st ⊢ (wp frame (wpE (defs₀ (F := F)) Variants.none (c : Thread nD τ) none) E (Prog.lift (.load arg3 (Rect.unit (s := S16x256x512) vo S1x256x512.size hvo).toLoadRect (View.loadsAt_vmem h_S1x256x512)) >>= k) Q : sProp 𝕄) := by
  unfold holds at h ⊢
  iintro ⟨H2, H3, H⟩
  sl_exec
  iapply h
  isplitl [H2]; · iexact H2
  isplitl [H3]; · iexact H3
  iexact H

theorem scoreStep_then (n : Fin 2) (j : Fin 4) (x : FVec F S512x512 .f32) {α : Type} (k : PUnit → Prog (TpuEff nD τ sig (Elt F) Λ₀ .tc) α) (Q : α → sProp 𝕄)
    (h : holds c arg2 arg3 arg17 arg18 arg19 arg20 f2 f3 { st with s := Function.update st.s n (Function.update (st.s n) j (k0_pay9 x)), b := Function.update st.b n (Function.update (st.b n) j (k0_pay10 x)) }
      ⊢ (wp frame (wpE (defs₀ (F := F)) Variants.none (c : Thread nD τ) none) E (k ⟨⟩) Q : sProp 𝕄)) :
    holds c arg2 arg3 arg17 arg18 arg19 arg20 f2 f3 st ⊢ (wp frame (wpE (defs₀ (F := F)) Variants.none (c : Thread nD τ) none) E (scoreStep arg19 arg20 n.val j.val n.isLt j.isLt x >>= k) Q : sProp 𝕄) := by
  unfold scoreStep
  simp only [bind_assoc]
  refine load19_then c E arg2 arg3 arg17 arg18 arg19 arg20 f2 f3 st n j _ Q ?_
  refine store19_then c E arg2 arg3 arg17 arg18 arg19 arg20 f2 f3 st n j _ _ Q ?_
  refine load20_then c E arg2 arg3 arg17 arg18 arg19 arg20 f2 f3 _ n j _ Q ?_
  exact store20_then c E arg2 arg3 arg17 arg18 arg19 arg20 f2 f3 _ n j _ _ Q h

theorem foldStep_then (j : Fin 4) (vt : FVec F S144x512 .bf16) (x : FVec F S512x512 .f32) (m0 m1 : FVec F S1x512 .f32) {α : Type} (k : PUnit → Prog (TpuEff nD τ sig (Elt F) Λ₀ .tc) α) (Q : α → sProp 𝕄)
    (h : holds c arg2 arg3 arg17 arg18 arg19 arg20 f2 f3 { st with m := Function.update st.m j (k0_pay34 m1), a := Function.update st.a j (k0_pay33 vt x m0 m1 (st.a j)) }
      ⊢ (wp frame (wpE (defs₀ (F := F)) Variants.none (c : Thread nD τ) none) E (k ⟨⟩) Q : sProp 𝕄)) :
    holds c arg2 arg3 arg17 arg18 arg19 arg20 f2 f3 st ⊢ (wp frame (wpE (defs₀ (F := F)) Variants.none (c : Thread nD τ) none) E (foldStep arg17 arg18 j.val j.isLt vt x m0 m1 >>= k) Q : sProp 𝕄) := by
  unfold foldStep
  simp only [bind_assoc]
  refine load18_then c E arg2 arg3 arg17 arg18 arg19 arg20 f2 f3 st j _ Q ?_
  refine load18_then c E arg2 arg3 arg17 arg18 arg19 arg20 f2 f3 st j _ Q ?_
  refine store18_then c E arg2 arg3 arg17 arg18 arg19 arg20 f2 f3 st j _ _ Q ?_
  refine load17_then c E arg2 arg3 arg17 arg18 arg19 arg20 f2 f3 _ j _ Q ?_
  exact store17_then c E arg2 arg3 arg17 arg18 arg19 arg20 f2 f3 _ j _ _ Q h

theorem half_then (q0 q1 q2 q3 : FVec F S512x128 .bf16) (ones : FVec F S16x512 .bf16) (ko : Fin 2 → ℕ) (hko : ∀ a, ko a + S512x256.size a ≤ S8192x256.size a)
    (vo : Fin 3 → ℕ) (hvo : ∀ a, vo a + S1x256x512.size a ≤ S16x256x512.size a) (n o : Fin 2) (hno : o ≠ n) {α : Type}
    (k : PUnit → Prog (TpuEff nD τ sig (Elt F) Λ₀ .tc) α) (Q : α → sProp 𝕄)
    (h : holds c arg2 arg3 arg17 arg18 arg19 arg20 f2 f3 (st.next q0 q1 q2 q3 ones (slab2 arg2 f2 ko hko) (slab3 arg3 f3 vo hvo) n o) ⊢ (wp frame (wpE (defs₀ (F := F)) Variants.none (c : Thread nD τ) none) E (k ⟨⟩) Q : sProp 𝕄)) :
    holds c arg2 arg3 arg17 arg18 arg19 arg20 f2 f3 st ⊢ (wp frame (wpE (defs₀ (F := F)) Variants.none (c : Thread nD τ) none) E (half arg2 arg3 arg17 arg18 arg19 arg20 q0 q1 q2 q3 ones ko hko vo hvo n.val o.val n.isLt o.isLt >>= k) Q : sProp 𝕄) := by
  have fin : ∀ st' : State F, st' = st.next q0 q1 q2 q3 ones (slab2 arg2 f2 ko hko) (slab3 arg3 f3 vo hvo) n o →
      (holds c arg2 arg3 arg17 arg18 arg19 arg20 f2 f3 st' ⊢ (wp frame (wpE (defs₀ (F := F)) Variants.none (c : Thread nD τ) none) E (k ⟨⟩) Q : sProp 𝕄)) := fun st' e => by
    subst e
    exact h
  unfold half
  simp only [bind_assoc]
  refine load2_then c E arg2 arg3 arg17 arg18 arg19 arg20 f2 f3 _ ko hko _ Q ?_
  refine scoreStep_then c E arg2 arg3 arg17 arg18 arg19 arg20 f2 f3 _ n 0 _ _ Q ?_
  refine scoreStep_then c E arg2 arg3 arg17 arg18 arg19 arg20 f2 f3 _ n 1 _ _ Q ?_
  refine scoreStep_then c E arg2 arg3 arg17 arg18 arg19 arg20 f2 f3 _ n 2 _ _ Q ?_
  refine scoreStep_then c E arg2 arg3 arg17 arg18 arg19 arg20 f2 f3 _ n 3 _ _ Q ?_
  simp only [Function.update_self, Function.update_idem]
  refine load3_then c E arg2 arg3 arg17 arg18 arg19 arg20 f2 f3 _ vo hvo _ Q ?_
  refine load19_then c E arg2 arg3 arg17 arg18 arg19 arg20 f2 f3 _ o 0 _ Q ?_
  refine load19_then c E arg2 arg3 arg17 arg18 arg19 arg20 f2 f3 _ o 1 _ Q ?_
  refine load19_then c E arg2 arg3 arg17 arg18 arg19 arg20 f2 f3 _ o 2 _ Q ?_
  refine load19_then c E arg2 arg3 arg17 arg18 arg19 arg20 f2 f3 _ o 3 _ Q ?_
  refine load20_then c E arg2 arg3 arg17 arg18 arg19 arg20 f2 f3 _ o 0 _ Q ?_
  refine load20_then c E arg2 arg3 arg17 arg18 arg19 arg20 f2 f3 _ o 1 _ Q ?_
  refine load20_then c E arg2 arg3 arg17 arg18 arg19 arg20 f2 f3 _ o 2 _ Q ?_
  refine load20_then c E arg2 arg3 arg17 arg18 arg19 arg20 f2 f3 _ o 3 _ Q ?_
  refine load17_then c E arg2 arg3 arg17 arg18 arg19 arg20 f2 f3 _ 0 _ Q ?_
  refine load17_then c E arg2 arg3 arg17 arg18 arg19 arg20 f2 f3 _ 1 _ Q ?_
  refine load17_then c E arg2 arg3 arg17 arg18 arg19 arg20 f2 f3 _ 2 _ Q ?_
  refine load17_then c E arg2 arg3 arg17 arg18 arg19 arg20 f2 f3 _ 3 _ Q ?_
  simp only [Function.update_of_ne hno]
  refine foldStep_then c E arg2 arg3 arg17 arg18 arg19 arg20 f2 f3 _ 0 _ _ _ _ _ Q ?_
  refine foldStep_then c E arg2 arg3 arg17 arg18 arg19 arg20 f2 f3 _ 1 _ _ _ _ _ Q ?_
  refine foldStep_then c E arg2 arg3 arg17 arg18 arg19 arg20 f2 f3 _ 2 _ _ _ _ _ Q ?_
  refine foldStep_then c E arg2 arg3 arg17 arg18 arg19 arg20 f2 f3 _ 3 _ _ _ _ _ Q ?_
  refine fin _ ?_
  unfold State.next
  ext1
  · funext j; fin_cases j <;> rfl
  · funext j; fin_cases j <;> rfl
  · refine congrArg (Function.update st.s n) ?_
    funext j; fin_cases j <;> rfl
  · refine congrArg (Function.update st.b n) ?_
    funext j; fin_cases j <;> rfl

end Rules

end Cert.KernelIdeal.Mix

end
-- ==== Proof.MixSteps.lean ====
/-
  The sweep's loop body and its two conditional tails are such steps, one after another.
-/
module

public import proofs.«01_k».proof.Proof.MixHalf

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A trip of the sweep's loop: four steps. -/
def quad (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole) (v9 : BitVec 32) (v19 : FVec F S512x128 .bf16) (v24 : FVec F S512x128 .bf16) (v29 : FVec F S512x128 .bf16) (v34 : FVec F S512x128 .bf16) (v35 : FVec F S16x512 .bf16) (k : Fin (k0_t1_loop i).trips) : Prog (TpuEff nD τ sig (Elt F) Λ₀ .tc) PUnit := do
  half (F := F) arg2 arg3 arg17 arg18 arg19 arg20 v19 v24 v29 v34 v35 (k0_off17 i k 1#32) (k0_off17_inb i k 0) (k0_off18 i k) (k0_off18_inb i k) 1 0 (by omega) (by omega)
  half (F := F) arg2 arg3 arg17 arg18 arg19 arg20 v19 v24 v29 v34 v35 (k0_off17 i k 2#32) (k0_off17_inb i k 1) (k0_off19 i k 1#32) (k0_off19_inb i k 0) 0 1 (by omega) (by omega)
  half (F := F) arg2 arg3 arg17 arg18 arg19 arg20 v19 v24 v29 v34 v35 (k0_off20 i k 1#32) (k0_off20_inb i k 0) (k0_off19 i k 2#32) (k0_off19_inb i k 1) 1 0 (by omega) (by omega)
  half (F := F) arg2 arg3 arg17 arg18 arg19 arg20 v19 v24 v29 v34 v35 (k0_off20 i k 2#32) (k0_off20_inb i k 1) (k0_off21 i k) (k0_off21_inb i k) 0 1 (by omega) (by omega)

theorem quad_eq (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole) (v9 : BitVec 32) (v19 : FVec F S512x128 .bf16) (v24 : FVec F S512x128 .bf16) (v29 : FVec F S512x128 .bf16) (v34 : FVec F S512x128 .bf16) (v35 : FVec F S16x512 .bf16) (c0_i32_1779 v3378 : BitVec 32) (k : Fin (k0_t1_loop i).trips) (u : Unit) :
    k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 c0_i32_1779 v3378 k u = quad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 k := by
  rfl

/-- The two steps after the loop, taken when two more blocks stand before the diagonal. -/
def tailTwo (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole) (v9 : BitVec 32) (v19 : FVec F S512x128 .bf16) (v24 : FVec F S512x128 .bf16) (v29 : FVec F S512x128 .bf16) (v34 : FVec F S512x128 .bf16) (v35 : FVec F S16x512 .bf16) : Prog (TpuEff nD τ sig (Elt F) Λ₀ .tc) PUnit :=
  if k0_h2 : k0_cond2 i = 1#1 then do
    half (F := F) arg2 arg3 arg17 arg18 arg19 arg20 v19 v24 v29 v34 v35 (k0_off27 i 1#32) (k0_off27_inb i k0_h2 0) (k0_off28 i) (k0_off28_inb i k0_h2) 1 0 (by omega) (by omega)
    half (F := F) arg2 arg3 arg17 arg18 arg19 arg20 v19 v24 v29 v34 v35 (k0_off27 i 2#32) (k0_off27_inb i k0_h2 1) (k0_off29 i) (k0_off29_inb i k0_h2) 0 1 (by omega) (by omega)
  else pure ⟨⟩

/-- The single step before the diagonal block, taken when the query block's number is odd. -/
def tailOne (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole) (v9 : BitVec 32) (v19 : FVec F S512x128 .bf16) (v24 : FVec F S512x128 .bf16) (v29 : FVec F S512x128 .bf16) (v34 : FVec F S512x128 .bf16) (v35 : FVec F S16x512 .bf16) : Prog (TpuEff nD τ sig (Elt F) Λ₀ .tc) PUnit :=
  if k0_h3 : k0_cond3 i = 1#1 then
    half (F := F) arg2 arg3 arg17 arg18 arg19 arg20 v19 v24 v29 v34 v35 (k0_off30 i) (k0_off30_inb i k0_h3) (k0_off31 i) (k0_off31_inb i k0_h3) 1 0 (by omega) (by omega)
  else pure ⟨⟩

theorem part145_eq (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole) (v9 : BitVec 32) (v19 : FVec F S512x128 .bf16) (v24 : FVec F S512x128 .bf16) (v29 : FVec F S512x128 .bf16) (v34 : FVec F S512x128 .bf16) (v35 : FVec F S16x512 .bf16) (c0_i32_1779 v3378 : BitVec 32) :
    k0_part145 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 c0_i32_1779 v3378 = (do
  Scf.Loop.for (k0_t1_loop i) (k0_t1_ok i) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 c0_i32_1779 v3378)
  Scf.Loop.for (k0_t2_loop i) (k0_t2_ok i) ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 c0_i32_1779 v3378)
  tailTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35
  let v3409 : BitVec 1 := Scalar.cmpi .eq 2#32 0#32
  let v3410 : BitVec 32 := Scalar.select v3409 1#32 2#32
  let v3411 : BitVec 32 := Scalar.remsi v9 v3410
  let v3412 : BitVec 1 := Scalar.cmpi .ne v3411 0#32
  let v3413 : BitVec 1 := Scalar.cmpi .slt v3411 0#32
  pure ⟨v3410, v3411, v3412, v3413⟩ : Prog (TpuEff nD τ sig (Elt F) Λ₀ .tc) (Σ' (v3410 : BitVec 32) (v3411 : BitVec 32) (v3412 : BitVec 1), BitVec 1)) := by
  rw [k0_part145_eq_skeleton]
  unfold k0_part145_skel tailTwo
  by_cases h : k0_cond2 i = 1#1
  · simp only [dif_pos h]
    rfl
  · simp only [dif_neg h]
    rfl

theorem part146_eq (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole) (v9 : BitVec 32) (v19 : FVec F S512x128 .bf16) (v24 : FVec F S512x128 .bf16) (v29 : FVec F S512x128 .bf16) (v34 : FVec F S512x128 .bf16) (v35 : FVec F S16x512 .bf16) (v3410 v3411 : BitVec 32) (v3412 v3413 : BitVec 1) :
    k0_part146 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 v3410 v3411 v3412 v3413 = (do
  tailOne i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35
  let v3428 : Vec F S1x64x64 .f32 ← Prog.lift (.load arg21 (Rect.unit (s := S16x64x64) ![0, 0, 0] S1x64x64.size inb_S16x64x64_S1x64x64_0_0_0).toLoadRect (View.loadsAt_vmem h_S1x64x64))
  let v3430 : Vec F S1x64x64 .f32 ← Prog.lift (.load arg21 (Rect.unit (s := S16x64x64) ![1, 0, 0] S1x64x64.size inb_S16x64x64_S1x64x64_1_0_0).toLoadRect (View.loadsAt_vmem h_S1x64x64))
  let v3432 : Vec F S1x64x64 .f32 ← Prog.lift (.load arg21 (Rect.unit (s := S16x64x64) ![2, 0, 0] S1x64x64.size inb_S16x64x64_S1x64x64_2_0_0).toLoadRect (View.loadsAt_vmem h_S1x64x64))
  let v3434 : Vec F S1x64x64 .f32 ← Prog.lift (.load arg21 (Rect.unit (s := S16x64x64) ![3, 0, 0] S1x64x64.size inb_S16x64x64_S1x64x64_3_0_0).toLoadRect (View.loadsAt_vmem h_S1x64x64))
  let v3436 : Vec F S1x64x64 .f32 ← Prog.lift (.load arg21 (Rect.unit (s := S16x64x64) ![4, 0, 0] S1x64x64.size inb_S16x64x64_S1x64x64_4_0_0).toLoadRect (View.loadsAt_vmem h_S1x64x64))
  let v3438 : Vec F S1x64x64 .f32 ← Prog.lift (.load arg21 (Rect.unit (s := S16x64x64) ![5, 0, 0] S1x64x64.size inb_S16x64x64_S1x64x64_5_0_0).toLoadRect (View.loadsAt_vmem h_S1x64x64))
  let v3440 : Vec F S1x64x64 .f32 ← Prog.lift (.load arg21 (Rect.unit (s := S16x64x64) ![6, 0, 0] S1x64x64.size inb_S16x64x64_S1x64x64_6_0_0).toLoadRect (View.loadsAt_vmem h_S1x64x64))
  let v3442 : Vec F S1x64x64 .f32 ← Prog.lift (.load arg21 (Rect.unit (s := S16x64x64) ![7, 0, 0] S1x64x64.size inb_S16x64x64_S1x64x64_7_0_0).toLoadRect (View.loadsAt_vmem h_S1x64x64))
  pure ⟨k0_pay1746 (F := F), k0_pay1747 v3428, k0_pay1748 v3430, k0_pay1749 v3432, k0_pay1750 v3434, k0_pay1751 v3436, k0_pay1752 v3438, k0_pay1753 v3440, k0_pay1754 v3442⟩ : Prog (TpuEff nD τ sig (Elt F) Λ₀ .tc) (Σ' (v3427 : FVec F S64x64 .bf16) (v3429 : FVec F S64x64 .f32) (v3431 : FVec F S64x64 .f32) (v3433 : FVec F S64x64 .f32) (v3435 : FVec F S64x64 .f32) (v3437 : FVec F S64x64 .f32) (v3439 : FVec F S64x64 .f32) (v3441 : FVec F S64x64 .f32), FVec F S64x64 .f32)) := by
  rw [k0_part146_eq_skeleton]
  unfold k0_part146_skel tailOne
  by_cases h : k0_cond3 i = 1#1
  · simp only [dif_pos h]
    rfl
  · simp only [dif_neg h]
    rfl

end Cert.KernelIdeal.Mix

end
-- ==== Proof.MixOffsets.lean ====
/-
  Where the steps of the sweep read, in plain numbers: the query block's number `qi`, the loop's trips, the offsets.
-/
module

public import proofs.«01_k».proof.Proof.Gen.KernelIdeal.Skeleton

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The query block's number within its sequence. -/
def qi (i : grid0.Coords) : ℕ := (i 0).val % 16

theorem trips_eq : ∀ i : grid0.Coords, (k0_t1_loop i).trips = qi i / 4 := by decide +kernel

theorem trips2_eq : ∀ i : grid0.Coords, (k0_t2_loop i).trips = 0 := by decide +kernel

theorem cond2_iff : ∀ i : grid0.Coords, k0_cond2 i = 1#1 ↔ qi i / 2 % 2 = 1 := by decide +kernel

theorem cond3_iff : ∀ i : grid0.Coords, k0_cond3 i = 1#1 ↔ qi i % 2 = 1 := by decide +kernel

theorem off17_eq_1 : ∀ (i : grid0.Coords) (k : Fin (k0_t1_loop i).trips), k0_off17 i k 1#32 = ![512 * (4 * k.val + 1), 0] := by decide +kernel

theorem off17_eq_2 : ∀ (i : grid0.Coords) (k : Fin (k0_t1_loop i).trips), k0_off17 i k 2#32 = ![512 * (4 * k.val + 2), 0] := by decide +kernel

theorem off18_eq : ∀ (i : grid0.Coords) (k : Fin (k0_t1_loop i).trips), k0_off18 i k = ![4 * k.val, 0, 0] := by decide +kernel

theorem off19_eq_1 : ∀ (i : grid0.Coords) (k : Fin (k0_t1_loop i).trips), k0_off19 i k 1#32 = ![4 * k.val + 1, 0, 0] := by decide +kernel

theorem off19_eq_2 : ∀ (i : grid0.Coords) (k : Fin (k0_t1_loop i).trips), k0_off19 i k 2#32 = ![4 * k.val + 2, 0, 0] := by decide +kernel

theorem off20_eq_1 : ∀ (i : grid0.Coords) (k : Fin (k0_t1_loop i).trips), k0_off20 i k 1#32 = ![512 * (4 * k.val + 3), 0] := by decide +kernel

theorem off20_eq_2 : ∀ (i : grid0.Coords) (k : Fin (k0_t1_loop i).trips), k0_off20 i k 2#32 = ![512 * (4 * k.val + 4), 0] := by decide +kernel

theorem off21_eq : ∀ (i : grid0.Coords) (k : Fin (k0_t1_loop i).trips), k0_off21 i k = ![4 * k.val + 3, 0, 0] := by decide +kernel

theorem off27_eq_1 : ∀ i : grid0.Coords, k0_cond2 i = 1#1 → k0_off27 i 1#32 = ![512 * (4 * (qi i / 4) + 1), 0] := by decide +kernel

theorem off27_eq_2 : ∀ i : grid0.Coords, k0_cond2 i = 1#1 → k0_off27 i 2#32 = ![512 * (4 * (qi i / 4) + 2), 0] := by decide +kernel

theorem off28_eq : ∀ i : grid0.Coords, k0_cond2 i = 1#1 → k0_off28 i = ![4 * (qi i / 4), 0, 0] := by decide +kernel

theorem off29_eq : ∀ i : grid0.Coords, k0_cond2 i = 1#1 → k0_off29 i = ![4 * (qi i / 4) + 1, 0, 0] := by decide +kernel

theorem off30_eq : ∀ i : grid0.Coords, k0_cond3 i = 1#1 → k0_off30 i = ![512 * qi i, 0] := by decide +kernel

theorem off31_eq : ∀ i : grid0.Coords, k0_cond3 i = 1#1 → k0_off31 i = ![qi i - 1, 0, 0] := by decide +kernel

end Cert.KernelIdeal.Mix

end
-- ==== Proof.MixSweep.lean ====
/-
  The sweep over the key blocks before the diagonal: the loop and its two tails as one recursion.
-/
module

public import proofs.«01_k».proof.Proof.MixRule
public import proofs.«01_k».proof.Proof.MixSteps
public import proofs.«01_k».proof.Proof.MixOffsets
public import Idealize.ShloMosaic.Lib.LoopRemainder

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem in2 (j : ℕ) : ∀ a, (![512 * min j 15, 0] : Fin 2 → ℕ) a + S512x256.size a ≤ S8192x256.size a := by
  intro a
  match a with
  | 0 => show 512 * min j 15 + 512 ≤ 8192; omega
  | 1 => exact le_refl 256

theorem in3 (j : ℕ) : ∀ a, (![min j 15, 0, 0] : Fin 3 → ℕ) a + S1x256x512.size a ≤ S16x256x512.size a := by
  intro a
  match a with
  | 0 => show min j 15 + 1 ≤ 16; omega
  | 1 => exact le_refl 256
  | 2 => exact le_refl 512

/-- Key block `j`. -/
def keySlab (arg2 : Memref sig .tc .vmem S8192x256 .bf16) (f2 : BufTy.Contents (Elt F) arg2.view.ty) (j : ℕ) : Vec F S512x256 .bf16 :=
  slab2 arg2 f2 ![512 * min j 15, 0] (in2 j)

/-- Value block `j`. -/
def valSlab (arg3 : Memref sig .tc .vmem S16x256x512 .bf16) (f3 : BufTy.Contents (Elt F) arg3.view.ty) (j : ℕ) : Vec F S1x256x512 .bf16 :=
  slab3 arg3 f3 ![min j 15, 0, 0] (in3 j)

theorem keySlab_eq (arg2 : Memref sig .tc .vmem S8192x256 .bf16) (f2 : BufTy.Contents (Elt F) arg2.view.ty) {j : ℕ} (hj : j ≤ 15) {ko : Fin 2 → ℕ}
    (h : ko = ![512 * j, 0]) (hko : ∀ a, ko a + S512x256.size a ≤ S8192x256.size a) : slab2 arg2 f2 ko hko = keySlab arg2 f2 j := by
  have e : ko = ![512 * min j 15, 0] := by rw [h, min_eq_left hj]
  subst e
  rfl

theorem valSlab_eq (arg3 : Memref sig .tc .vmem S16x256x512 .bf16) (f3 : BufTy.Contents (Elt F) arg3.view.ty) {j : ℕ} (hj : j ≤ 15) {vo : Fin 3 → ℕ}
    (h : vo = ![j, 0, 0]) (hvo : ∀ a, vo a + S1x256x512.size a ≤ S16x256x512.size a) : slab3 arg3 f3 vo hvo = valSlab arg3 f3 j := by
  have e : vo = ![min j 15, 0, 0] := by rw [h, min_eq_left hj]
  subst e
  rfl

/-- The slot block `j`'s scores stand in. -/
def slot (j : ℕ) : Fin 2 := ⟨j % 2, Nat.mod_lt _ (by decide)⟩

/-- `n` steps from block `j` on. -/
def sweepFrom (v19 : FVec F S512x128 .bf16) (v24 : FVec F S512x128 .bf16) (v29 : FVec F S512x128 .bf16) (v34 : FVec F S512x128 .bf16) (v35 : FVec F S16x512 .bf16) (kb : ℕ → Vec F S512x256 .bf16) (vb : ℕ → Vec F S1x256x512 .bf16) (j : ℕ) (st : State F) : ℕ → State F
  | 0 => st
  | n + 1 => (sweepFrom v19 v24 v29 v34 v35 kb vb j st n).next v19 v24 v29 v34 v35 (kb (j + n + 1)) (vb (j + n)) (slot (j + n + 1)) (slot (j + n))

section Rules

variable (c : Dev nD) (E : Set ℕ) (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole)
    (f2 : BufTy.Contents (Elt F) arg2.view.ty) (f3 : BufTy.Contents (Elt F) arg3.view.ty) (st : State F) (v9 : BitVec 32) (v19 : FVec F S512x128 .bf16) (v24 : FVec F S512x128 .bf16) (v29 : FVec F S512x128 .bf16) (v34 : FVec F S512x128 .bf16) (v35 : FVec F S16x512 .bf16)

/-- One step of the sweep, followed by the rest. -/
theorem step_then (j₀ d j : ℕ) (hd : j₀ + d = j) (hj : j + 1 ≤ 15) {ko : Fin 2 → ℕ} (hko : ∀ a, ko a + S512x256.size a ≤ S8192x256.size a)
    {vo : Fin 3 → ℕ} (hvo : ∀ a, vo a + S1x256x512.size a ≤ S16x256x512.size a) (ek : ko = ![512 * (j + 1), 0]) (ev : vo = ![j, 0, 0])
    (n o : Fin 2) (hn : n = slot (j + 1)) (ho : o = slot j) {α : Type}
    (k : PUnit → Prog (TpuEff nD τ sig (Elt F) Λ₀ .tc) α) (Q : α → sProp 𝕄)
    (h : holds c arg2 arg3 arg17 arg18 arg19 arg20 f2 f3 (sweepFrom v19 v24 v29 v34 v35 (keySlab arg2 f2) (valSlab arg3 f3) j₀ st (d + 1)) ⊢ (wp frame (wpE (defs₀ (F := F)) Variants.none (c : Thread nD τ) none) E (k ⟨⟩) Q : sProp 𝕄)) :
    holds c arg2 arg3 arg17 arg18 arg19 arg20 f2 f3 (sweepFrom v19 v24 v29 v34 v35 (keySlab arg2 f2) (valSlab arg3 f3) j₀ st d) ⊢ (wp frame (wpE (defs₀ (F := F)) Variants.none (c : Thread nD τ) none) E (half (F := F) arg2 arg3 arg17 arg18 arg19 arg20 v19 v24 v29 v34 v35 ko hko vo hvo n.val o.val n.isLt o.isLt >>= k) Q : sProp 𝕄) := by
  have hno : o ≠ n := by
    intro e
    have e' := congrArg Fin.val ((ho.symm.trans e).trans hn)
    have e'' : j % 2 = (j + 1) % 2 := e'
    omega
  refine half_then c E arg2 arg3 arg17 arg18 arg19 arg20 f2 f3 _ v19 v24 v29 v34 v35 ko hko vo hvo n o hno k Q ?_
  rw [keySlab_eq arg2 f2 hj ek hko, valSlab_eq arg3 f3 (by omega) ev hvo, hn, ho]
  subst hd
  exact h

/-- The end of a run. -/
theorem done (Q : sProp 𝕄) : Q ⊢ (wp frame (wpE (defs₀ (F := F)) Variants.none (c : Thread nD τ) none) E (pure ⟨⟩ : Prog (TpuEff nD τ sig (Elt F) Λ₀ .tc) PUnit) (fun _ => Q) : sProp 𝕄) := by
  iintro H
  sl_step
  iexact H

theorem quad_wp (k : Fin (k0_t1_loop i).trips) :
    holds c arg2 arg3 arg17 arg18 arg19 arg20 f2 f3 (sweepFrom v19 v24 v29 v34 v35 (keySlab arg2 f2) (valSlab arg3 f3) 0 st (4 * k.val)) ⊢ (wp frame (wpE (defs₀ (F := F)) Variants.none (c : Thread nD τ) none) E (quad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 k) (fun _ => holds c arg2 arg3 arg17 arg18 arg19 arg20 f2 f3 (sweepFrom v19 v24 v29 v34 v35 (keySlab arg2 f2) (valSlab arg3 f3) 0 st (4 * (k.val + 1)))) : sProp 𝕄) := by
  have hk : k.val < qi i / 4 := lt_of_lt_of_eq k.isLt (trips_eq i)
  have hq : qi i < 16 := Nat.mod_lt _ (by decide)
  unfold quad
  refine step_then c E arg2 arg3 arg17 arg18 arg19 arg20 f2 f3 st v19 v24 v29 v34 v35 0 (4 * k.val) (4 * k.val) (by omega) (by omega) _ _ (off17_eq_1 i k) (off18_eq i k) 1 0 (Fin.ext (by show 1 = (4 * k.val + 1) % 2; omega)) (Fin.ext (by show 0 = (4 * k.val) % 2; omega)) _ _ ?_
  refine step_then c E arg2 arg3 arg17 arg18 arg19 arg20 f2 f3 st v19 v24 v29 v34 v35 0 (4 * k.val + 1) (4 * k.val + 1) (by omega) (by omega) _ _ (off17_eq_2 i k) (off19_eq_1 i k) 0 1 (Fin.ext (by show 0 = (4 * k.val + 1 + 1) % 2; omega)) (Fin.ext (by show 1 = (4 * k.val + 1) % 2; omega)) _ _ ?_
  refine step_then c E arg2 arg3 arg17 arg18 arg19 arg20 f2 f3 st v19 v24 v29 v34 v35 0 (4 * k.val + 2) (4 * k.val + 2) (by omega) (by omega) _ _ (off20_eq_1 i k) (off19_eq_2 i k) 1 0 (Fin.ext (by show 1 = (4 * k.val + 2 + 1) % 2; omega)) (Fin.ext (by show 0 = (4 * k.val + 2) % 2; omega)) _ _ ?_
  rw [← bind_pure (half (F := F) arg2 arg3 arg17 arg18 arg19 arg20 v19 v24 v29 v34 v35 (k0_off20 i k 2#32) _ _ _ _ _ _ _)]
  refine step_then c E arg2 arg3 arg17 arg18 arg19 arg20 f2 f3 st v19 v24 v29 v34 v35 0 (4 * k.val + 3) (4 * k.val + 3) (by omega) (by omega) _ _ (off20_eq_2 i k) (off21_eq i k) 0 1 (Fin.ext (by show 0 = (4 * k.val + 3 + 1) % 2; omega)) (Fin.ext (by show 1 = (4 * k.val + 3) % 2; omega)) _ _ ?_
  exact done c E _

theorem tailTwo_wp :
    holds c arg2 arg3 arg17 arg18 arg19 arg20 f2 f3 (sweepFrom v19 v24 v29 v34 v35 (keySlab arg2 f2) (valSlab arg3 f3) 0 st (4 * (qi i / 4))) ⊢ (wp frame (wpE (defs₀ (F := F)) Variants.none (c : Thread nD τ) none) E (tailTwo i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35) (fun _ => holds c arg2 arg3 arg17 arg18 arg19 arg20 f2 f3 (sweepFrom v19 v24 v29 v34 v35 (keySlab arg2 f2) (valSlab arg3 f3) 0 st (2 * (qi i / 2)))) : sProp 𝕄) := by
  have hq : qi i < 16 := Nat.mod_lt _ (by decide)
  unfold tailTwo
  by_cases h : k0_cond2 i = 1#1
  · have h2 := (cond2_iff i).1 h
    rw [dif_pos h]
    refine step_then c E arg2 arg3 arg17 arg18 arg19 arg20 f2 f3 st v19 v24 v29 v34 v35 0 (4 * (qi i / 4)) (4 * (qi i / 4)) (by omega) (by omega) _ _ (off27_eq_1 i h) (off28_eq i h) 1 0 (Fin.ext (by show 1 = (4 * (qi i / 4) + 1) % 2; omega)) (Fin.ext (by show 0 = (4 * (qi i / 4)) % 2; omega)) _ _ ?_
    rw [← bind_pure (half (F := F) arg2 arg3 arg17 arg18 arg19 arg20 v19 v24 v29 v34 v35 (k0_off27 i 2#32) _ _ _ _ _ _ _)]
    refine step_then c E arg2 arg3 arg17 arg18 arg19 arg20 f2 f3 st v19 v24 v29 v34 v35 0 (4 * (qi i / 4) + 1) (4 * (qi i / 4) + 1) (by omega) (by omega) _ _ (off27_eq_2 i h) (off29_eq i h) 0 1 (Fin.ext (by show 0 = (4 * (qi i / 4) + 1 + 1) % 2; omega)) (Fin.ext (by show 1 = (4 * (qi i / 4) + 1) % 2; omega)) _ _ ?_
    rw [show 4 * (qi i / 4) + 1 + 1 = 2 * (qi i / 2) by omega]
    exact done c E _
  · have h2 := mt (cond2_iff i).2 h
    rw [dif_neg h, show 4 * (qi i / 4) = 2 * (qi i / 2) by omega]
    exact done c E _

theorem tailOne_wp :
    holds c arg2 arg3 arg17 arg18 arg19 arg20 f2 f3 (sweepFrom v19 v24 v29 v34 v35 (keySlab arg2 f2) (valSlab arg3 f3) (2 * (qi i / 2)) st 0) ⊢ (wp frame (wpE (defs₀ (F := F)) Variants.none (c : Thread nD τ) none) E (tailOne i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35) (fun _ => holds c arg2 arg3 arg17 arg18 arg19 arg20 f2 f3 (sweepFrom v19 v24 v29 v34 v35 (keySlab arg2 f2) (valSlab arg3 f3) (2 * (qi i / 2)) st (qi i % 2))) : sProp 𝕄) := by
  have hq : qi i < 16 := Nat.mod_lt _ (by decide)
  unfold tailOne
  by_cases h : k0_cond3 i = 1#1
  · have h2 := (cond3_iff i).1 h
    rw [dif_pos h, ← bind_pure (half (F := F) arg2 arg3 arg17 arg18 arg19 arg20 v19 v24 v29 v34 v35 (k0_off30 i) _ _ _ _ _ _ _)]
    refine step_then c E arg2 arg3 arg17 arg18 arg19 arg20 f2 f3 st v19 v24 v29 v34 v35 (2 * (qi i / 2)) 0 (2 * (qi i / 2)) (by omega) (by omega) _ _ ((off30_eq i h).trans (by rw [show 2 * (qi i / 2) + 1 = qi i by omega])) ((off31_eq i h).trans (by rw [show 2 * (qi i / 2) = qi i - 1 by omega])) 1 0 (Fin.ext (by show 1 = (2 * (qi i / 2) + 1) % 2; omega)) (Fin.ext (by show 0 = (2 * (qi i / 2)) % 2; omega)) _ _ ?_
    rw [show qi i % 2 = 0 + 1 by omega]
    exact done c E _
  · have h2 := mt (cond3_iff i).2 h
    rw [dif_neg h, show qi i % 2 = 0 by omega]
    exact done c E _

theorem part145_wp (c0_i32_1779 v3378 : BitVec 32) :
    holds c arg2 arg3 arg17 arg18 arg19 arg20 f2 f3 st ⊢ (wp frame (wpE (defs₀ (F := F)) Variants.none (c : Thread nD τ) none) E (k0_part145 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 c0_i32_1779 v3378) (fun _ => holds c arg2 arg3 arg17 arg18 arg19 arg20 f2 f3 (sweepFrom v19 v24 v29 v34 v35 (keySlab arg2 f2) (valSlab arg3 f3) 0 st (2 * (qi i / 2)))) : sProp 𝕄) := by
  rw [part145_eq, wp_bind, Scf.Loop.for, Scf.Loop.for, Scf.for_eq_ret _ _ _ (k0_t2_ok i) _ _ (trips2_eq i)]
  iintro H
  iapply (Scf.wp_for frame (wpE (defs₀ (F := F)) Variants.none (c : Thread nD τ) none) E _ _ _ (k0_t1_ok i) ⟨⟩ _
    (fun k _ => holds c arg2 arg3 arg17 arg18 arg19 arg20 f2 f3 (sweepFrom v19 v24 v29 v34 v35 (keySlab arg2 f2) (valSlab arg3 f3) 0 st (4 * k))) (fun k acc => by rw [quad_eq]; exact quad_wp c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f2 f3 st v9 v19 v24 v29 v34 v35 k))
  isplitl [H]; · iexact H
  have ht : Scf.trips (k0_t1_loop i).lb (k0_t1_loop i).ub (k0_t1_loop i).st = qi i / 4 := trips_eq i
  rw [ht]
  iintro %acc H
  rw [wp_bind, wp_ret]
  imodintro
  rw [wp_bind]
  iapply (wp_wand_r frame (wpE (defs₀ (F := F)) Variants.none (c : Thread nD τ) none) E)
  isplitl [H]
  · iapply (tailTwo_wp c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f2 f3 st v9 v19 v24 v29 v34 v35); iexact H
  · iintro %_ H
    dsimp only
    sl_step
    iexact H

theorem part146_wp (v3410 v3411 : BitVec 32) (v3412 v3413 : BitVec 1) :
    iprop(holds c arg2 arg3 arg17 arg18 arg19 arg20 f2 f3 st ∗ (∃ f, arg21.view.loc (c : Thread nD τ) ↦[arg21.view.set]{fullShare} f)) ⊢ (wp frame (wpE (defs₀ (F := F)) Variants.none (c : Thread nD τ) none) E (k0_part146 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 v3410 v3411 v3412 v3413)
      (fun _ => iprop(holds c arg2 arg3 arg17 arg18 arg19 arg20 f2 f3 (sweepFrom v19 v24 v29 v34 v35 (keySlab arg2 f2) (valSlab arg3 f3) (2 * (qi i / 2)) st (qi i % 2)) ∗ (∃ f, arg21.view.loc (c : Thread nD τ) ↦[arg21.view.set]{fullShare} f))) : sProp 𝕄) := by
  rw [part146_eq, wp_bind]
  iintro ⟨H, ⟨%f, H21⟩⟩
  iapply (wp_wand_r frame (wpE (defs₀ (F := F)) Variants.none (c : Thread nD τ) none) E)
  isplitl [H]
  · iapply (tailOne_wp c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f2 f3 st v9 v19 v24 v29 v34 v35); iexact H
  · iintro %_ H
    sl_exec
    sl_step
    isplitl [H]; · iexact H
    iexists f; iexact H21

end Rules

end Cert.KernelIdeal.Mix

end
-- ==== Proof.MixCuts.lean ====
/-
  The two parts of the body that hold the sweep, stated over the buffers' contents.
-/
module

public import proofs.«01_k».proof.Proof.MixSweep

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state four contents stand for. -/
def stateOf (arg17 : Memref sig .tc .vmem S4x1x512 .f32) (arg18 : Memref sig .tc .vmem S4x144x512 .f32) (arg19 : Memref sig .tc .vmem S2x4x512x512 .f32)
    (arg20 : Memref sig .tc .vmem S2x4x1x512 .f32) (f17 : BufTy.Contents (Elt F) arg17.view.ty) (f18 : BufTy.Contents (Elt F) arg18.view.ty)
    (f19 : BufTy.Contents (Elt F) arg19.view.ty) (f20 : BufTy.Contents (Elt F) arg20.view.ty) : State F :=
  ⟨plane17 arg17 f17, plane18 arg18 f18, plane19 arg19 f19, plane20 arg20 f20⟩

section Cuts

variable (c : Dev nD) (E : Set ℕ) (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole) (v9 : BitVec 32) (v19 : FVec F S512x128 .bf16) (v24 : FVec F S512x128 .bf16) (v29 : FVec F S512x128 .bf16) (v34 : FVec F S512x128 .bf16) (v35 : FVec F S16x512 .bf16)
    (f2 : BufTy.Contents (Elt F) arg2.view.ty) (f3 : BufTy.Contents (Elt F) arg3.view.ty) (f17 : BufTy.Contents (Elt F) arg17.view.ty)
    (f18 : BufTy.Contents (Elt F) arg18.view.ty) (f19 : BufTy.Contents (Elt F) arg19.view.ty) (f20 : BufTy.Contents (Elt F) arg20.view.ty)

theorem part145_raw (c0_i32_1779 v3378 : BitVec 32) :
    iprop((arg2.view.loc (c : Thread nD τ) ↦[arg2.view.set]{fullShare} f2) ∗ (arg3.view.loc (c : Thread nD τ) ↦[arg3.view.set]{fullShare} f3) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20))
      ⊢ (wp frame (wpE (defs₀ (F := F)) Variants.none (c : Thread nD τ) none) E (k0_part145 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 c0_i32_1779 v3378)
        (fun _ => iprop(∃ g17 g18 g19 g20, (arg2.view.loc (c : Thread nD τ) ↦[arg2.view.set]{fullShare} f2) ∗ (arg3.view.loc (c : Thread nD τ) ↦[arg3.view.set]{fullShare} f3) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20)
          ∗ ⌜stateOf arg17 arg18 arg19 arg20 g17 g18 g19 g20 = sweepFrom v19 v24 v29 v34 v35 (keySlab arg2 f2) (valSlab arg3 f3) 0 (stateOf arg17 arg18 arg19 arg20 f17 f18 f19 f20) (2 * (qi i / 2))⌝)) : sProp 𝕄) := by
  iintro ⟨H2, H3, H17, H18, H19, H20⟩
  iapply (wp_wand_r frame (wpE (defs₀ (F := F)) Variants.none (c : Thread nD τ) none) E)
  isplitl [H2 H3 H17 H18 H19 H20]
  · iapply (part145_wp c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f2 f3 (stateOf arg17 arg18 arg19 arg20 f17 f18 f19 f20) v9 v19 v24 v29 v34 v35 c0_i32_1779 v3378)
    unfold holds own17 own18 own19 own20
    isplitl [H2]; · iexact H2
    isplitl [H3]; · iexact H3
    isplitl [H17]
    · iexists f17
      isplitr
      · ipureintro; rfl
      · iexact H17
    isplitl [H18]
    · iexists f18
      isplitr
      · ipureintro; rfl
      · iexact H18
    isplitl [H19]
    · iexists f19
      isplitr
      · ipureintro; rfl
      · iexact H19
    iexists f20
    isplitr
    · ipureintro; rfl
    · iexact H20
  · unfold holds own17 own18 own19 own20
    iintro %_ ⟨H2, H3, ⟨%g17, %e17, H17⟩, ⟨%g18, %e18, H18⟩, ⟨%g19, %e19, H19⟩, ⟨%g20, %e20, H20⟩⟩
    iexists g17
    iexists g18
    iexists g19
    iexists g20
    isplitl [H2]; · iexact H2
    isplitl [H3]; · iexact H3
    isplitl [H17]; · iexact H17
    isplitl [H18]; · iexact H18
    isplitl [H19]; · iexact H19
    isplitl [H20]; · iexact H20
    ipureintro
    exact State.ext e17 e18 e19 e20

theorem part146_raw (f21 : BufTy.Contents (Elt F) arg21.view.ty) (v3410 v3411 : BitVec 32) (v3412 v3413 : BitVec 1) :
    iprop((arg2.view.loc (c : Thread nD τ) ↦[arg2.view.set]{fullShare} f2) ∗ (arg3.view.loc (c : Thread nD τ) ↦[arg3.view.set]{fullShare} f3) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21))
      ⊢ (wp frame (wpE (defs₀ (F := F)) Variants.none (c : Thread nD τ) none) E (k0_part146 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 v3410 v3411 v3412 v3413)
        (fun _ => iprop(∃ g17 g18 g19 g20 g21, (arg2.view.loc (c : Thread nD τ) ↦[arg2.view.set]{fullShare} f2) ∗ (arg3.view.loc (c : Thread nD τ) ↦[arg3.view.set]{fullShare} f3) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21)
          ∗ ⌜stateOf arg17 arg18 arg19 arg20 g17 g18 g19 g20 = sweepFrom v19 v24 v29 v34 v35 (keySlab arg2 f2) (valSlab arg3 f3) (2 * (qi i / 2)) (stateOf arg17 arg18 arg19 arg20 f17 f18 f19 f20) (qi i % 2)⌝)) : sProp 𝕄) := by
  iintro ⟨H2, H3, H17, H18, H19, H20, H21⟩
  iapply (wp_wand_r frame (wpE (defs₀ (F := F)) Variants.none (c : Thread nD τ) none) E)
  isplitl [H2 H3 H17 H18 H19 H20 H21]
  · iapply (part146_wp c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f2 f3 (stateOf arg17 arg18 arg19 arg20 f17 f18 f19 f20) v9 v19 v24 v29 v34 v35 v3410 v3411 v3412 v3413)
    unfold holds own17 own18 own19 own20
    isplitr [H21]
    · isplitl [H2]; · iexact H2
      isplitl [H3]; · iexact H3
      isplitl [H17]
      · iexists f17
        isplitr
        · ipureintro; rfl
        · iexact H17
      isplitl [H18]
      · iexists f18
        isplitr
        · ipureintro; rfl
        · iexact H18
      isplitl [H19]
      · iexists f19
        isplitr
        · ipureintro; rfl
        · iexact H19
      iexists f20
      isplitr
      · ipureintro; rfl
      · iexact H20
    · iexists f21; iexact H21
  · unfold holds own17 own18 own19 own20
    iintro %_ ⟨⟨H2, H3, ⟨%g17, %e17, H17⟩, ⟨%g18, %e18, H18⟩, ⟨%g19, %e19, H19⟩, ⟨%g20, %e20, H20⟩⟩, ⟨%g21, H21⟩⟩
    iexists g17
    iexists g18
    iexists g19
    iexists g20
    iexists g21
    isplitl [H2]; · iexact H2
    isplitl [H3]; · iexact H3
    isplitl [H17]; · iexact H17
    isplitl [H18]; · iexact H18
    isplitl [H19]; · iexact H19
    isplitl [H20]; · iexact H20
    isplitl [H21]; · iexact H21
    ipureintro
    exact State.ext e17 e18 e19 e20

end Cuts

end Cert.KernelIdeal.Mix

end
-- ==== Proof.MixTail.lean ====
/-
  The block on the diagonal, what is read out of the sums after it, and how the sweep starts.
-/
module

public import Idealize.ShloMosaic.Lib.Pointwise
public import proofs.«01_k».proof.Proof.MixCuts

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load inside the rectangle written last reads the payload there. -/
theorem load_sub {κ : Kind} {sp : Space} {s : Shape} {e : EltTy} {Val : EltTy → Type} (v : View sig κ sp s e) (f : v.ty.Contents Val)
    {off off' size size' : Fin s.rank → ℕ} (inb : ∀ a, off a + size a ≤ s.size a) (inb' : ∀ a, off' a + size' a ≤ s.size a)
    (w : (Rect.unit off' size' inb').shape.Idx → Val e) (L : List (View.Piece Val s e))
    (g : (Rect.unit off size inb).shape.Idx → (Rect.unit off' size' inb').shape.Idx) (hg : ∀ y a, off a + (y a).val = off' a + (g y a).val) :
    v.readAt Val (Rect.unit off size inb).toLoadRect (v.writes Val f ((⟨Rect.unit off' size' inb', w⟩ : View.Piece Val s e) :: L))
      = fun y => w (g y) :=
  funext fun y => View.read_writes_cons_unit_of_mem v f inb' w L ((Rect.unit off size inb).emb y) (g y) rfl (fun a => by
    have h : ((Rect.unit off size inb).emb y a).val = off a + 1 * (y a).val := rfl
    rw [h, Nat.one_mul]; exact hg y a)

/-- Scores with the keys of later chunks put at minus infinity. -/
def masked (x : FVec F S512x512 .f32) : FVec F S512x512 .f32 :=
  k0_pay2129 x k0_pay2122 (iota .tc S512x512 32 [1] iota_S512x512_d1_w32) 64#32 k0_pay2123 k0_pay2124 0#32

/-- Their maxima over the keys. -/
def maskedTop (x : FVec F S512x512 .f32) : FVec F S1x512 .f32 :=
  k0_pay2133 x k0_pay2122 (iota .tc S512x512 32 [1] iota_S512x512_d1_w32) 64#32 k0_pay2123 k0_pay2124 0#32

/-- A stream's sums after the block on the diagonal. -/
def endA (vals : FVec F S144x512 .bf16) (s : Vec F S1x1x512x512 .f32) (m : Vec F S1x1x512 .f32) (a : Vec F S1x144x512 .f32) : Vec F S1x144x512 .f32 :=
  k0_pay33 vals (masked (k0_pay17 s)) (k0_pay21 m) (maximumf (k0_pay21 m) (maskedTop (k0_pay17 s))) a

/-- The same from a state. -/
def State.endOf (st : State F) (ones : FVec F S16x512 .bf16) (vb : Vec F S1x256x512 .bf16) (o : Fin 2) (j : Fin 4) : Vec F S1x144x512 .f32 :=
  endA (valuesOf ones vb j) (st.s o j) (st.m j) (st.a j)

/-- The 128 numerators of a stream's sums. -/
def topRows (A : Vec F S1x144x512 .f32) : Vec F S1x128x512 .f32 :=
  fun y => A (ix3 ⟨(y 0).val, (y 0).isLt⟩ ⟨(y 1).val, lt_of_lt_of_le (y 1).isLt (show 128 ≤ 144 by decide)⟩ ⟨(y 2).val, (y 2).isLt⟩)

/-- Their denominator. -/
def oneRow (A : Vec F S1x144x512 .f32) : Vec F S1x1x512 .f32 :=
  fun y => A (ix3 ⟨(y 0).val, (y 0).isLt⟩ ⟨128, by decide⟩ ⟨(y 2).val, (y 2).isLt⟩)

/-- A head's block of the result. -/
def headOut (lam : FVec F S1x1 .f32) (A0 A1 : Vec F S1x144x512 .f32) (w : Vec F S1x128 .f32) : FVec F S512x128 .bf16 :=
  k0_pay1 lam (k0_pay2159 (topRows A0)) (k0_pay2159 (topRows A1)) (k0_pay2161 (oneRow A0)) (k0_pay2161 (oneRow A1)) w

/-- How the sweep starts: maxima at minus infinity, sums at zero, block 0's scores and their maxima in slot 0. -/
structure Start (q0 q1 q2 q3 : FVec F S512x128 .bf16) (kb : Vec F S512x256 .bf16) (st : State F) : Prop where
  m : ∀ j, st.m j = fun _ => Scalar.ofBits .f32 0xFF800000#32
  a : ∀ j, st.a j = fun _ => Scalar.ofBits .f32 0x00000000#32
  s : ∀ j, st.s 0 j = k0_pay9 (scoresOf q0 q1 q2 q3 kb j)
  b : ∀ j, st.b 0 j = k0_pay10 (scoresOf q0 q1 q2 q3 kb j)

/-- The state after the sweep up to the diagonal. -/
def sweepAll (q0 q1 q2 q3 : FVec F S512x128 .bf16) (ones : FVec F S16x512 .bf16) (kb : ℕ → Vec F S512x256 .bf16) (vb : ℕ → Vec F S1x256x512 .bf16)
    (st : State F) (n : ℕ) : State F :=
  sweepFrom q0 q1 q2 q3 ones kb vb (2 * (n / 2)) (sweepFrom q0 q1 q2 q3 ones kb vb 0 st (2 * (n / 2))) (n % 2)

theorem off32_eq : ∀ i : grid0.Coords, k0_off32 i = ![qi i, 0, 0] := by decide +kernel
theorem off33_eq : ∀ i : grid0.Coords, k0_off33 i = ![qi i % 2, 0, 0, 0] := by decide +kernel
theorem off34_eq : ∀ i : grid0.Coords, k0_off34 i = ![qi i % 2, 1, 0, 0] := by decide +kernel
theorem off35_eq : ∀ i : grid0.Coords, k0_off35 i = ![qi i % 2, 2, 0, 0] := by decide +kernel
theorem off36_eq : ∀ i : grid0.Coords, k0_off36 i = ![qi i % 2, 3, 0, 0] := by decide +kernel

/-- A plane of the score buffer read at a computed place. -/
theorem plane19_at (arg19 : Memref sig .tc .vmem S2x4x512x512 .f32) (f : BufTy.Contents (Elt F) arg19.view.ty) (n : ℕ) (j : Fin 4) {off : Fin 4 → ℕ}
    (h : off = ![n % 2, j.val, 0, 0]) (inb : ∀ a, off a + S1x1x512x512.size a ≤ S2x4x512x512.size a) :
    View.readAt (Elt F) arg19.view (Rect.unit (s := S2x4x512x512) off S1x1x512x512.size inb).toLoadRect f = plane19 arg19 f (slot n) j := by
  subst h; rfl

/-- The numerators read back. -/
theorem topRows_at (arg18 : Memref sig .tc .vmem S4x144x512 .f32) (f : BufTy.Contents (Elt F) arg18.view.ty) (j : ℕ)
    (inb : ∀ a, (![j, 0, 0] : Fin 3 → ℕ) a + S1x128x512.size a ≤ S4x144x512.size a) (inb' : ∀ a, (![j, 0, 0] : Fin 3 → ℕ) a + S1x144x512.size a ≤ S4x144x512.size a)
    (w : Vec F S1x144x512 .f32) (L : List (View.Piece (Elt F) S4x144x512 .f32)) :
    View.readAt (Elt F) arg18.view (Rect.unit (s := S4x144x512) ![j, 0, 0] S1x128x512.size inb).toLoadRect
      (arg18.view.writes (Elt F) f (⟨Rect.unit (s := S4x144x512) ![j, 0, 0] S1x144x512.size inb', w⟩ :: L)) = topRows w :=
  load_sub arg18.view f inb inb' w L (fun y => ix3 ⟨(y 0).val, (y 0).isLt⟩ ⟨(y 1).val, lt_of_lt_of_le (y 1).isLt (show 128 ≤ 144 by decide)⟩ ⟨(y 2).val, (y 2).isLt⟩)
    (fun y a => by fin_cases a <;> rfl)

/-- The denominator read back. -/
theorem oneRow_at (arg18 : Memref sig .tc .vmem S4x144x512 .f32) (f : BufTy.Contents (Elt F) arg18.view.ty) (j : ℕ)
    (inb : ∀ a, (![j, 128, 0] : Fin 3 → ℕ) a + S1x1x512.size a ≤ S4x144x512.size a) (inb' : ∀ a, (![j, 0, 0] : Fin 3 → ℕ) a + S1x144x512.size a ≤ S4x144x512.size a)
    (w : Vec F S1x144x512 .f32) (L : List (View.Piece (Elt F) S4x144x512 .f32)) :
    View.readAt (Elt F) arg18.view (Rect.unit (s := S4x144x512) ![j, 128, 0] S1x1x512.size inb).toLoadRect
      (arg18.view.writes (Elt F) f (⟨Rect.unit (s := S4x144x512) ![j, 0, 0] S1x144x512.size inb', w⟩ :: L)) = oneRow w :=
  load_sub arg18.view f inb inb' w L (fun y => ix3 ⟨(y 0).val, (y 0).isLt⟩ ⟨128, by decide⟩ ⟨(y 2).val, (y 2).isLt⟩)
    (fun y a => by
      have h1 : (y 1).val = 0 := by have := (y 1).isLt; exact Nat.lt_one_iff.mp this
      fin_cases a
      · rfl
      · show 128 + (y 1).val = 0 + 128; omega
      · rfl)

/-- A plane apart from the plane written last. -/
theorem miss18 (arg18 : Memref sig .tc .vmem S4x144x512 .f32) (f : BufTy.Contents (Elt F) arg18.view.ty) (o j k : ℕ) (hjk : j ≠ k) {size : Fin 3 → ℕ} (hs : size 0 = 1)
    (inb : ∀ a, (![j, o, 0] : Fin 3 → ℕ) a + size a ≤ S4x144x512.size a) (inb' : ∀ a, (![k, 0, 0] : Fin 3 → ℕ) a + S1x144x512.size a ≤ S4x144x512.size a)
    (w : Vec F S1x144x512 .f32) (L : List (View.Piece (Elt F) S4x144x512 .f32)) :
    View.readAt (Elt F) arg18.view (Rect.unit (s := S4x144x512) ![j, o, 0] size inb).toLoadRect
      (arg18.view.writes (Elt F) f (⟨Rect.unit (s := S4x144x512) ![k, 0, 0] S1x144x512.size inb', w⟩ :: L))
      = View.readAt (Elt F) arg18.view (Rect.unit (s := S4x144x512) ![j, o, 0] size inb).toLoadRect (arg18.view.writes (Elt F) f L) :=
  load_miss arg18.view f inb inb' w L 0 (by
    show j + size 0 ≤ k ∨ k + 1 ≤ j
    rw [hs]; omega)

/-- The running maxima after one store of the whole buffer. -/
theorem start17 (arg17 : Memref sig .tc .vmem S4x1x512 .f32) (f : BufTy.Contents (Elt F) arg17.view.ty) (inb : ∀ a, (![0, 0, 0] : Fin 3 → ℕ) a + S4x1x512.size a ≤ S4x1x512.size a)
    (x : F .f32) (j : Fin 4) :
    plane17 arg17 (arg17.view.writes (Elt F) f [⟨Rect.unit (s := S4x1x512) ![0, 0, 0] S4x1x512.size inb, fun _ => x⟩]) j = fun _ => x :=
  load_sub arg17.view f (in17 j.val j.isLt) inb (fun _ => x) [] (fun y => ix3 ⟨j.val + (y 0).val, by have := (y 0).isLt; have h : (y 0).val < 1 := this; have := j.isLt; omega⟩ ⟨(y 1).val, (y 1).isLt⟩ ⟨(y 2).val, (y 2).isLt⟩)
    (fun y a => by
      fin_cases a
      · exact (Nat.zero_add _).symm
      · rfl
      · rfl)

/-- The running sums after one store of the whole buffer. -/
theorem start18 (arg18 : Memref sig .tc .vmem S4x144x512 .f32) (f : BufTy.Contents (Elt F) arg18.view.ty) (inb : ∀ a, (![0, 0, 0] : Fin 3 → ℕ) a + S4x144x512.size a ≤ S4x144x512.size a)
    (x : F .f32) (j : Fin 4) :
    plane18 arg18 (arg18.view.writes (Elt F) f [⟨Rect.unit (s := S4x144x512) ![0, 0, 0] S4x144x512.size inb, fun _ => x⟩]) j = fun _ => x :=
  load_sub arg18.view f (in18 j.val j.isLt) inb (fun _ => x) [] (fun y => ix3 ⟨j.val + (y 0).val, by have := (y 0).isLt; have h : (y 0).val < 1 := this; have := j.isLt; omega⟩ ⟨(y 1).val, (y 1).isLt⟩ ⟨(y 2).val, (y 2).isLt⟩)
    (fun y a => by
      fin_cases a
      · exact (Nat.zero_add _).symm
      · rfl
      · rfl)

/-- Slot 0 of the scores after the four stores. -/
theorem start19 (arg19 : Memref sig .tc .vmem S2x4x512x512 .f32) (f : BufTy.Contents (Elt F) arg19.view.ty) (x : Fin 4 → Vec F S1x1x512x512 .f32) (j : Fin 4)
    (i0 : ∀ a, (![0, 0, 0, 0] : Fin 4 → ℕ) a + S1x1x512x512.size a ≤ S2x4x512x512.size a) (i1 : ∀ a, (![0, 1, 0, 0] : Fin 4 → ℕ) a + S1x1x512x512.size a ≤ S2x4x512x512.size a)
    (i2 : ∀ a, (![0, 2, 0, 0] : Fin 4 → ℕ) a + S1x1x512x512.size a ≤ S2x4x512x512.size a) (i3 : ∀ a, (![0, 3, 0, 0] : Fin 4 → ℕ) a + S1x1x512x512.size a ≤ S2x4x512x512.size a) :
    plane19 arg19 (arg19.view.writes (Elt F) f [⟨Rect.unit (s := S2x4x512x512) ![0, 3, 0, 0] S1x1x512x512.size i3, x 3⟩, ⟨Rect.unit (s := S2x4x512x512) ![0, 2, 0, 0] S1x1x512x512.size i2, x 2⟩,
      ⟨Rect.unit (s := S2x4x512x512) ![0, 1, 0, 0] S1x1x512x512.size i1, x 1⟩, ⟨Rect.unit (s := S2x4x512x512) ![0, 0, 0, 0] S1x1x512x512.size i0, x 0⟩]) 0 j = x j := by
  match j with
  | 3 => exact load_hit arg19.view f _ _ _ _
  | 2 => exact (load_miss arg19.view f _ _ _ _ 1 (by decide)).trans (load_hit arg19.view f _ _ _ _)
  | 1 => exact (load_miss arg19.view f _ _ _ _ 1 (by decide)).trans ((load_miss arg19.view f _ _ _ _ 1 (by decide)).trans (load_hit arg19.view f _ _ _ _))
  | 0 => exact (load_miss arg19.view f _ _ _ _ 1 (by decide)).trans ((load_miss arg19.view f _ _ _ _ 1 (by decide)).trans
      ((load_miss arg19.view f _ _ _ _ 1 (by decide)).trans (load_hit arg19.view f _ _ _ _)))

/-- Slot 0 of their maxima after the four stores. -/
theorem start20 (arg20 : Memref sig .tc .vmem S2x4x1x512 .f32) (f : BufTy.Contents (Elt F) arg20.view.ty) (x : Fin 4 → Vec F S1x1x1x512 .f32) (j : Fin 4)
    (i0 : ∀ a, (![0, 0, 0, 0] : Fin 4 → ℕ) a + S1x1x1x512.size a ≤ S2x4x1x512.size a) (i1 : ∀ a, (![0, 1, 0, 0] : Fin 4 → ℕ) a + S1x1x1x512.size a ≤ S2x4x1x512.size a)
    (i2 : ∀ a, (![0, 2, 0, 0] : Fin 4 → ℕ) a + S1x1x1x512.size a ≤ S2x4x1x512.size a) (i3 : ∀ a, (![0, 3, 0, 0] : Fin 4 → ℕ) a + S1x1x1x512.size a ≤ S2x4x1x512.size a) :
    plane20 arg20 (arg20.view.writes (Elt F) f [⟨Rect.unit (s := S2x4x1x512) ![0, 3, 0, 0] S1x1x1x512.size i3, x 3⟩, ⟨Rect.unit (s := S2x4x1x512) ![0, 2, 0, 0] S1x1x1x512.size i2, x 2⟩,
      ⟨Rect.unit (s := S2x4x1x512) ![0, 1, 0, 0] S1x1x1x512.size i1, x 1⟩, ⟨Rect.unit (s := S2x4x1x512) ![0, 0, 0, 0] S1x1x1x512.size i0, x 0⟩]) 0 j = x j := by
  match j with
  | 3 => exact load_hit arg20.view f _ _ _ _
  | 2 => exact (load_miss arg20.view f _ _ _ _ 1 (by decide)).trans (load_hit arg20.view f _ _ _ _)
  | 1 => exact (load_miss arg20.view f _ _ _ _ 1 (by decide)).trans ((load_miss arg20.view f _ _ _ _ 1 (by decide)).trans (load_hit arg20.view f _ _ _ _))
  | 0 => exact (load_miss arg20.view f _ _ _ _ 1 (by decide)).trans ((load_miss arg20.view f _ _ _ _ 1 (by decide)).trans
      ((load_miss arg20.view f _ _ _ _ 1 (by decide)).trans (load_hit arg20.view f _ _ _ _)))

end Cert.KernelIdeal.Mix

end
-- ==== Proof.MixBody.lean ====
/-
  The body's run: the sweep taken at its two parts, the attention's block named by the state after the sweep.
-/
module

public import proofs.«01_k».proof.Proof.MixTail

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
set_option sl_exec.resultNames true in
/-- The body run from named contents. -/
theorem body_run (c : Dev nD) (E : Set ℕ) (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (K : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25)
      ∗ ((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (∃ st0 : State F, ⌜Start (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) (keySlab arg2 f2 0) st0⌝ ∗ (arg15.view.loc (c : Thread nD τ) ↦[arg15.view.set]{fullShare} (arg15.view.writes (Elt F) f15
        [⟨Rect.unit (s := S512x256) ![0, 128] S512x128.size inb_S512x256_S512x128_0_128, headOut (k0_pay2158 (View.readAt (Elt F) arg4.view (Rect.unit (s := S1x64) ![0, 0] S1x64.size inb_S1x64_S1x64_0_0).toLoadRect f4) (View.readAt (Elt F) arg5.view (Rect.unit (s := S1x64) ![0, 0] S1x64.size inb_S1x64_S1x64_0_0).toLoadRect f5) (View.readAt (Elt F) arg6.view (Rect.unit (s := S1x64) ![0, 0] S1x64.size inb_S1x64_S1x64_0_0).toLoadRect f6) (View.readAt (Elt F) arg7.view (Rect.unit (s := S1x64) ![0, 0] S1x64.size inb_S1x64_S1x64_0_0).toLoadRect f7)) ((sweepAll (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) k0_pay463 (keySlab arg2 f2) (valSlab arg3 f3) st0 (qi i)).endOf k0_pay463 (valSlab arg3 f3 (qi i)) (slot (qi i)) 2) ((sweepAll (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) k0_pay463 (keySlab arg2 f2) (valSlab arg3 f3) st0 (qi i)).endOf k0_pay463 (valSlab arg3 f3 (qi i)) (slot (qi i)) 3) (View.readAt (Elt F) arg8.view (Rect.unit (s := S1x128) ![0, 0] S1x128.size inb_S1x128_S1x128_0_0).toLoadRect f8)⟩,
         ⟨Rect.unit (s := S512x256) ![0, 0] S512x128.size inb_S512x256_S512x128_0_0, headOut (k0_pay2158 (View.readAt (Elt F) arg4.view (Rect.unit (s := S1x64) ![0, 0] S1x64.size inb_S1x64_S1x64_0_0).toLoadRect f4) (View.readAt (Elt F) arg5.view (Rect.unit (s := S1x64) ![0, 0] S1x64.size inb_S1x64_S1x64_0_0).toLoadRect f5) (View.readAt (Elt F) arg6.view (Rect.unit (s := S1x64) ![0, 0] S1x64.size inb_S1x64_S1x64_0_0).toLoadRect f6) (View.readAt (Elt F) arg7.view (Rect.unit (s := S1x64) ![0, 0] S1x64.size inb_S1x64_S1x64_0_0).toLoadRect f7)) ((sweepAll (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) k0_pay463 (keySlab arg2 f2) (valSlab arg3 f3) st0 (qi i)).endOf k0_pay463 (valSlab arg3 f3 (qi i)) (slot (qi i)) 0) ((sweepAll (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) k0_pay463 (keySlab arg2 f2) (valSlab arg3 f3) st0 (qi i)).endOf k0_pay463 (valSlab arg3 f3 (qi i)) (slot (qi i)) 1) (View.readAt (Elt F) arg8.view (Rect.unit (s := S1x128) ![0, 0] S1x128.size inb_S1x128_S1x128_0_0).toLoadRect f8)⟩])))
      ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) -∗ K ⟨⟩))
      ⊢ wp frame (wpE (defs₀ (F := F)) Variants.none c none) E (cc0_seq_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have cut145 := fun (v9 : BitVec 32) (v19 v24 v29 v34 : FVec F S512x128 .bf16) (v35 : FVec F S16x512 .bf16) f2 f3 f17 f18 f19 f20 (a b : BitVec 32) =>
    part145_raw (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 f2 f3 f17 f18 f19 f20 a b
  have cut146 := fun (v9 : BitVec 32) (v19 v24 v29 v34 : FVec F S512x128 .bf16) (v35 : FVec F S16x512 .bf16) f2 f3 f17 f18 f19 f20 f21 (a b : BitVec 32) (d e : BitVec 1) =>
    part146_raw (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v9 v19 v24 v29 v34 v35 f2 f3 f17 f18 f19 f20 f21 a b d e
  simp only [cc0_seq_mix_eq_skeleton]; unfold cc0_seq_mix_skel
  iintro ⟨H1, H2, H3, H4, H5, H6, H7, H8, H9, H10, H11, H12, H13, H14, H15, H16, H17, H18, H19, H20, H21, H22, H23, H24, H25, Hk⟩
  sl_exec_parts
  sl_step
  have hv := valSlab_eq arg3 f3 (show qi i ≤ 15 from Nat.le_of_lt_succ (Nat.mod_lt _ (by decide))) (off32_eq i)
  have e0 : k0_pay2148 (body_run.sl.v4866 i arg3 f3) (body_run.sl.v4933 c i arg19 g19k0_part146_2) (body_run.sl.v4944 c i arg19 g19k0_part146_2) (body_run.sl.v4952 c arg17 g17k0_part146_0) (View.readAt (Elt F) arg18.view (Rect.unit (s := S4x144x512) ![0, 0, 0] S1x144x512.size inb_S4x144x512_S1x144x512_0_0_0).toLoadRect g18k0_part146_1) = ((stateOf arg17 arg18 arg19 arg20 g17k0_part146_0 g18k0_part146_1 g19k0_part146_2 g20k0_part146_3).endOf k0_pay463 (valSlab arg3 f3 (qi i)) (slot (qi i)) 0) := by
    unfold State.endOf
    rw [← hv (k0_off32_inb i), show (stateOf arg17 arg18 arg19 arg20 g17k0_part146_0 g18k0_part146_1 g19k0_part146_2 g20k0_part146_3).s (slot (qi i)) 0 = View.readAt (Elt F) arg19.view (Rect.unit (s := S2x4x512x512) (k0_off33 i) S1x1x512x512.size (k0_off33_inb i)).toLoadRect g19k0_part146_2 from (plane19_at arg19 g19k0_part146_2 (qi i) 0 (off33_eq i) _).symm]
    rfl
  have e1 : k0_pay2150 (body_run.sl.v4866 i arg3 f3) (body_run.sl.v4970 c i arg17 arg19 g17k0_part146_0 g19k0_part146_2) (body_run.sl.v4982 c i arg17 arg19 g17k0_part146_0 g19k0_part146_2) (View.readAt (Elt F) arg18.view (Rect.unit (s := S4x144x512) ![1, 0, 0] S1x144x512.size inb_S4x144x512_S1x144x512_1_0_0).toLoadRect g18k0_part146_1) = ((stateOf arg17 arg18 arg19 arg20 g17k0_part146_0 g18k0_part146_1 g19k0_part146_2 g20k0_part146_3).endOf k0_pay463 (valSlab arg3 f3 (qi i)) (slot (qi i)) 1) := by
    unfold State.endOf
    rw [← hv (k0_off32_inb i), show (stateOf arg17 arg18 arg19 arg20 g17k0_part146_0 g18k0_part146_1 g19k0_part146_2 g20k0_part146_3).s (slot (qi i)) 1 = View.readAt (Elt F) arg19.view (Rect.unit (s := S2x4x512x512) (k0_off34 i) S1x1x512x512.size (k0_off34_inb i)).toLoadRect g19k0_part146_2 from (plane19_at arg19 g19k0_part146_2 (qi i) 1 (off34_eq i) _).symm]
    rfl
  have e2 : k0_pay2152 (body_run.sl.v4868 i arg3 f3) (body_run.sl.v4974 c i arg17 arg19 g17k0_part146_0 g19k0_part146_2) (body_run.sl.v4984 c i arg17 arg19 g17k0_part146_0 g19k0_part146_2) (View.readAt (Elt F) arg18.view (Rect.unit (s := S4x144x512) ![2, 0, 0] S1x144x512.size inb_S4x144x512_S1x144x512_2_0_0).toLoadRect g18k0_part146_1) = ((stateOf arg17 arg18 arg19 arg20 g17k0_part146_0 g18k0_part146_1 g19k0_part146_2 g20k0_part146_3).endOf k0_pay463 (valSlab arg3 f3 (qi i)) (slot (qi i)) 2) := by
    unfold State.endOf
    rw [← hv (k0_off32_inb i), show (stateOf arg17 arg18 arg19 arg20 g17k0_part146_0 g18k0_part146_1 g19k0_part146_2 g20k0_part146_3).s (slot (qi i)) 2 = View.readAt (Elt F) arg19.view (Rect.unit (s := S2x4x512x512) (k0_off35 i) S1x1x512x512.size (k0_off35_inb i)).toLoadRect g19k0_part146_2 from (plane19_at arg19 g19k0_part146_2 (qi i) 2 (off35_eq i) _).symm]
    rfl
  have e3 : k0_pay2156 (body_run.sl.v5026 c i arg17 arg18 arg19 g17k0_part146_0 g18k0_part146_1 g19k0_part146_2) (body_run.sl.v5027 c i arg3 arg17 arg19 f3 g17k0_part146_0 g19k0_part146_2) = ((stateOf arg17 arg18 arg19 arg20 g17k0_part146_0 g18k0_part146_1 g19k0_part146_2 g20k0_part146_3).endOf k0_pay463 (valSlab arg3 f3 (qi i)) (slot (qi i)) 3) := by
    unfold State.endOf
    rw [← hv (k0_off32_inb i), show (stateOf arg17 arg18 arg19 arg20 g17k0_part146_0 g18k0_part146_1 g19k0_part146_2 g20k0_part146_3).s (slot (qi i)) 3 = View.readAt (Elt F) arg19.view (Rect.unit (s := S2x4x512x512) (k0_off36 i) S1x1x512x512.size (k0_off36_inb i)).toLoadRect g19k0_part146_2 from (plane19_at arg19 g19k0_part146_2 (qi i) 3 (off36_eq i) _).symm]
    rfl
  have t0 : body_run.sl.v5054 c i arg3 arg17 arg18 arg19 f3 g17k0_part146_0 g18k0_part146_1 g19k0_part146_2 = topRows ((stateOf arg17 arg18 arg19 arg20 g17k0_part146_0 g18k0_part146_1 g19k0_part146_2 g20k0_part146_3).endOf k0_pay463 (valSlab arg3 f3 (qi i)) (slot (qi i)) 0) := ((miss18 arg18 _ 0 0 3 (by decide) rfl _ _ _ _).trans ((miss18 arg18 _ 0 0 2 (by decide) rfl _ _ _ _).trans ((miss18 arg18 _ 0 0 1 (by decide) rfl _ _ _ _).trans ((topRows_at arg18 _ 0 _ _ _ _).trans (congrArg topRows e0)))))
  have t1 : body_run.sl.v5056 c i arg3 arg17 arg18 arg19 f3 g17k0_part146_0 g18k0_part146_1 g19k0_part146_2 = topRows ((stateOf arg17 arg18 arg19 arg20 g17k0_part146_0 g18k0_part146_1 g19k0_part146_2 g20k0_part146_3).endOf k0_pay463 (valSlab arg3 f3 (qi i)) (slot (qi i)) 1) := ((miss18 arg18 _ 0 1 3 (by decide) rfl _ _ _ _).trans ((miss18 arg18 _ 0 1 2 (by decide) rfl _ _ _ _).trans ((topRows_at arg18 _ 1 _ _ _ _).trans (congrArg topRows e1))))
  have d0 : body_run.sl.v5058 c i arg3 arg17 arg18 arg19 f3 g17k0_part146_0 g18k0_part146_1 g19k0_part146_2 = oneRow ((stateOf arg17 arg18 arg19 arg20 g17k0_part146_0 g18k0_part146_1 g19k0_part146_2 g20k0_part146_3).endOf k0_pay463 (valSlab arg3 f3 (qi i)) (slot (qi i)) 0) := ((miss18 arg18 _ 128 0 3 (by decide) rfl _ _ _ _).trans ((miss18 arg18 _ 128 0 2 (by decide) rfl _ _ _ _).trans ((miss18 arg18 _ 128 0 1 (by decide) rfl _ _ _ _).trans ((oneRow_at arg18 _ 0 _ _ _ _).trans (congrArg oneRow e0)))))
  have d1 : body_run.sl.v5060 c i arg3 arg17 arg18 arg19 f3 g17k0_part146_0 g18k0_part146_1 g19k0_part146_2 = oneRow ((stateOf arg17 arg18 arg19 arg20 g17k0_part146_0 g18k0_part146_1 g19k0_part146_2 g20k0_part146_3).endOf k0_pay463 (valSlab arg3 f3 (qi i)) (slot (qi i)) 1) := ((miss18 arg18 _ 128 1 3 (by decide) rfl _ _ _ _).trans ((miss18 arg18 _ 128 1 2 (by decide) rfl _ _ _ _).trans ((oneRow_at arg18 _ 1 _ _ _ _).trans (congrArg oneRow e1))))
  have t2 : body_run.sl.v5088 c i arg3 arg17 arg18 arg19 f3 g17k0_part146_0 g18k0_part146_1 g19k0_part146_2 = topRows ((stateOf arg17 arg18 arg19 arg20 g17k0_part146_0 g18k0_part146_1 g19k0_part146_2 g20k0_part146_3).endOf k0_pay463 (valSlab arg3 f3 (qi i)) (slot (qi i)) 2) := ((miss18 arg18 _ 0 2 3 (by decide) rfl _ _ _ _).trans ((topRows_at arg18 _ 2 _ _ _ _).trans (congrArg topRows e2)))
  have t3 : body_run.sl.v5090 c i arg3 arg17 arg18 arg19 f3 g17k0_part146_0 g18k0_part146_1 g19k0_part146_2 = topRows ((stateOf arg17 arg18 arg19 arg20 g17k0_part146_0 g18k0_part146_1 g19k0_part146_2 g20k0_part146_3).endOf k0_pay463 (valSlab arg3 f3 (qi i)) (slot (qi i)) 3) := ((topRows_at arg18 _ 3 _ _ _ _).trans (congrArg topRows e3))
  have d2 : body_run.sl.v5092 c i arg3 arg17 arg18 arg19 f3 g17k0_part146_0 g18k0_part146_1 g19k0_part146_2 = oneRow ((stateOf arg17 arg18 arg19 arg20 g17k0_part146_0 g18k0_part146_1 g19k0_part146_2 g20k0_part146_3).endOf k0_pay463 (valSlab arg3 f3 (qi i)) (slot (qi i)) 2) := ((miss18 arg18 _ 128 2 3 (by decide) rfl _ _ _ _).trans ((oneRow_at arg18 _ 2 _ _ _ _).trans (congrArg oneRow e2)))
  have d3 : body_run.sl.v5094 c i arg3 arg17 arg18 arg19 f3 g17k0_part146_0 g18k0_part146_1 g19k0_part146_2 = oneRow ((stateOf arg17 arg18 arg19 arg20 g17k0_part146_0 g18k0_part146_1 g19k0_part146_2 g20k0_part146_3).endOf k0_pay463 (valSlab arg3 f3 (qi i)) (slot (qi i)) 3) := ((oneRow_at arg18 _ 3 _ _ _ _).trans (congrArg oneRow e3))
  have rL : k0_pay2162 (body_run.sl.v5053 arg4 arg5 arg6 arg7 f4 f5 f6 f7) (body_run.sl.v5055 c i arg3 arg17 arg18 arg19 f3 g17k0_part146_0 g18k0_part146_1 g19k0_part146_2) (body_run.sl.v5057 c i arg3 arg17 arg18 arg19 f3 g17k0_part146_0 g18k0_part146_1 g19k0_part146_2) (body_run.sl.v5059 c i arg3 arg17 arg18 arg19 f3 g17k0_part146_0 g18k0_part146_1 g19k0_part146_2) (body_run.sl.v5060 c i arg3 arg17 arg18 arg19 f3 g17k0_part146_0 g18k0_part146_1 g19k0_part146_2) (View.readAt (Elt F) arg8.view (Rect.unit (s := S1x128) ![0, 0] S1x128.size inb_S1x128_S1x128_0_0).toLoadRect f8) = headOut (k0_pay2158 (View.readAt (Elt F) arg4.view (Rect.unit (s := S1x64) ![0, 0] S1x64.size inb_S1x64_S1x64_0_0).toLoadRect f4) (View.readAt (Elt F) arg5.view (Rect.unit (s := S1x64) ![0, 0] S1x64.size inb_S1x64_S1x64_0_0).toLoadRect f5) (View.readAt (Elt F) arg6.view (Rect.unit (s := S1x64) ![0, 0] S1x64.size inb_S1x64_S1x64_0_0).toLoadRect f6) (View.readAt (Elt F) arg7.view (Rect.unit (s := S1x64) ![0, 0] S1x64.size inb_S1x64_S1x64_0_0).toLoadRect f7)) ((stateOf arg17 arg18 arg19 arg20 g17k0_part146_0 g18k0_part146_1 g19k0_part146_2 g20k0_part146_3).endOf k0_pay463 (valSlab arg3 f3 (qi i)) (slot (qi i)) 0) ((stateOf arg17 arg18 arg19 arg20 g17k0_part146_0 g18k0_part146_1 g19k0_part146_2 g20k0_part146_3).endOf k0_pay463 (valSlab arg3 f3 (qi i)) (slot (qi i)) 1) (View.readAt (Elt F) arg8.view (Rect.unit (s := S1x128) ![0, 0] S1x128.size inb_S1x128_S1x128_0_0).toLoadRect f8) := by
    show k0_pay1 (k0_pay2158 (View.readAt (Elt F) arg4.view (Rect.unit (s := S1x64) ![0, 0] S1x64.size inb_S1x64_S1x64_0_0).toLoadRect f4) (View.readAt (Elt F) arg5.view (Rect.unit (s := S1x64) ![0, 0] S1x64.size inb_S1x64_S1x64_0_0).toLoadRect f5) (View.readAt (Elt F) arg6.view (Rect.unit (s := S1x64) ![0, 0] S1x64.size inb_S1x64_S1x64_0_0).toLoadRect f6) (View.readAt (Elt F) arg7.view (Rect.unit (s := S1x64) ![0, 0] S1x64.size inb_S1x64_S1x64_0_0).toLoadRect f7)) (k0_pay2159 (body_run.sl.v5054 c i arg3 arg17 arg18 arg19 f3 g17k0_part146_0 g18k0_part146_1 g19k0_part146_2)) (k0_pay2159 (body_run.sl.v5056 c i arg3 arg17 arg18 arg19 f3 g17k0_part146_0 g18k0_part146_1 g19k0_part146_2)) (k0_pay2161 (body_run.sl.v5058 c i arg3 arg17 arg18 arg19 f3 g17k0_part146_0 g18k0_part146_1 g19k0_part146_2)) (k0_pay2161 (body_run.sl.v5060 c i arg3 arg17 arg18 arg19 f3 g17k0_part146_0 g18k0_part146_1 g19k0_part146_2)) (View.readAt (Elt F) arg8.view (Rect.unit (s := S1x128) ![0, 0] S1x128.size inb_S1x128_S1x128_0_0).toLoadRect f8) = _
    rw [t0, t1, d0, d1]
    rfl
  have rR : k0_pay1 (body_run.sl.v5053 arg4 arg5 arg6 arg7 f4 f5 f6 f7) (body_run.sl.v5089 c i arg3 arg17 arg18 arg19 f3 g17k0_part146_0 g18k0_part146_1 g19k0_part146_2) (body_run.sl.v5091 c i arg3 arg17 arg18 arg19 f3 g17k0_part146_0 g18k0_part146_1 g19k0_part146_2) (body_run.sl.v5093 c i arg3 arg17 arg18 arg19 f3 g17k0_part146_0 g18k0_part146_1 g19k0_part146_2) (body_run.sl.v5095 c i arg3 arg17 arg18 arg19 f3 g17k0_part146_0 g18k0_part146_1 g19k0_part146_2) (View.readAt (Elt F) arg8.view (Rect.unit (s := S1x128) ![0, 0] S1x128.size inb_S1x128_S1x128_0_0).toLoadRect f8) = headOut (k0_pay2158 (View.readAt (Elt F) arg4.view (Rect.unit (s := S1x64) ![0, 0] S1x64.size inb_S1x64_S1x64_0_0).toLoadRect f4) (View.readAt (Elt F) arg5.view (Rect.unit (s := S1x64) ![0, 0] S1x64.size inb_S1x64_S1x64_0_0).toLoadRect f5) (View.readAt (Elt F) arg6.view (Rect.unit (s := S1x64) ![0, 0] S1x64.size inb_S1x64_S1x64_0_0).toLoadRect f6) (View.readAt (Elt F) arg7.view (Rect.unit (s := S1x64) ![0, 0] S1x64.size inb_S1x64_S1x64_0_0).toLoadRect f7)) ((stateOf arg17 arg18 arg19 arg20 g17k0_part146_0 g18k0_part146_1 g19k0_part146_2 g20k0_part146_3).endOf k0_pay463 (valSlab arg3 f3 (qi i)) (slot (qi i)) 2) ((stateOf arg17 arg18 arg19 arg20 g17k0_part146_0 g18k0_part146_1 g19k0_part146_2 g20k0_part146_3).endOf k0_pay463 (valSlab arg3 f3 (qi i)) (slot (qi i)) 3) (View.readAt (Elt F) arg8.view (Rect.unit (s := S1x128) ![0, 0] S1x128.size inb_S1x128_S1x128_0_0).toLoadRect f8) := by
    show k0_pay1 (k0_pay2158 (View.readAt (Elt F) arg4.view (Rect.unit (s := S1x64) ![0, 0] S1x64.size inb_S1x64_S1x64_0_0).toLoadRect f4) (View.readAt (Elt F) arg5.view (Rect.unit (s := S1x64) ![0, 0] S1x64.size inb_S1x64_S1x64_0_0).toLoadRect f5) (View.readAt (Elt F) arg6.view (Rect.unit (s := S1x64) ![0, 0] S1x64.size inb_S1x64_S1x64_0_0).toLoadRect f6) (View.readAt (Elt F) arg7.view (Rect.unit (s := S1x64) ![0, 0] S1x64.size inb_S1x64_S1x64_0_0).toLoadRect f7)) (k0_pay2159 (body_run.sl.v5088 c i arg3 arg17 arg18 arg19 f3 g17k0_part146_0 g18k0_part146_1 g19k0_part146_2)) (k0_pay2159 (body_run.sl.v5090 c i arg3 arg17 arg18 arg19 f3 g17k0_part146_0 g18k0_part146_1 g19k0_part146_2)) (k0_pay2161 (body_run.sl.v5092 c i arg3 arg17 arg18 arg19 f3 g17k0_part146_0 g18k0_part146_1 g19k0_part146_2)) (k0_pay2161 (body_run.sl.v5094 c i arg3 arg17 arg18 arg19 f3 g17k0_part146_0 g18k0_part146_1 g19k0_part146_2)) (View.readAt (Elt F) arg8.view (Rect.unit (s := S1x128) ![0, 0] S1x128.size inb_S1x128_S1x128_0_0).toLoadRect f8) = _
    rw [t2, t3, d2, d3]
    rfl
  have hst : (stateOf arg17 arg18 arg19 arg20 g17k0_part146_0 g18k0_part146_1 g19k0_part146_2 g20k0_part146_3) = sweepAll (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) k0_pay463 (keySlab arg2 f2) (valSlab arg3 f3) (stateOf arg17 arg18 arg19 arg20 (arg17.view.writes (Elt F) f17 body_run.sl.H17_1) (arg18.view.writes (Elt F) f18 body_run.sl.H18_1)
      (arg19.view.writes (Elt F) f19 (⟨Rect.unit (s := S2x4x512x512) ![0, 3, 0, 0] S1x1x512x512.size inb_S2x4x512x512_S1x1x512x512_0_3_0_0, k0_pay1738 (body_run.sl.v34 arg1 f1) (body_run.sl.v3316 arg2 f2)⟩ :: body_run.sl.H19_3 arg1 arg2 f1 f2))
      (arg20.view.writes (Elt F) f20 (⟨Rect.unit (s := S2x4x1x512) ![0, 3, 0, 0] S1x1x1x512.size inb_S2x4x1x512_S1x1x1x512_0_3_0_0, k0_pay1739 (body_run.sl.v34 arg1 f1) (body_run.sl.v3316 arg2 f2)⟩ ::
        ⟨Rect.unit (s := S2x4x1x512) ![0, 2, 0, 0] S1x1x1x512.size inb_S2x4x1x512_S1x1x1x512_0_2_0_0, k0_pay1736 (body_run.sl.v3343 arg1 arg2 f1 f2)⟩ :: body_run.sl.H20_2 arg1 arg2 f1 f2))) (qi i) := by
    rw [hk0_part146_7, hk0_part145_6]
    rfl
  rw [rL, rR, hst]
  have hkb : keySlab arg2 f2 0 = (slab2 arg2 f2 ![0, 0] inb_S8192x256_S512x256_0_0) := (keySlab_eq arg2 f2 (j := 0) (by decide) rfl _).symm
  iapply Hk
  isplitl [H1]; · iexact H1
  isplitl [Hk0_part146_0]; · iexact Hk0_part146_0
  isplitl [Hk0_part146_1]; · iexact Hk0_part146_1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · iexists _
    isplitr
    swap
    · iexact H15
    ipureintro
    rw [hkb]
    exact ⟨fun j => start17 arg17 f17 _ _ j, fun j => start18 arg18 f18 _ _ j,
      fun j => start19 arg19 f19 (fun j => k0_pay9 (scoresOf (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) (slab2 arg2 f2 ![0, 0] inb_S8192x256_S512x256_0_0) j)) j _ _ _ _,
      fun j => start20 arg20 f20 (fun j => k0_pay10 (scoresOf (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) (slab2 arg2 f2 ![0, 0] inb_S8192x256_S512x256_0_0) j)) j _ _ _ _⟩
  isplitl [H16]; · iexists _; iexact H16
  isplitl [Hk0_part146_2]; · iexists _; iexact Hk0_part146_2
  isplitl [Hk0_part146_3]; · iexists _; iexact Hk0_part146_3
  isplitl [Hk0_part146_4]; · iexists _; iexact Hk0_part146_4
  isplitl [Hk0_part146_5]; · iexists _; iexact Hk0_part146_5
  isplitl [Hk0_part146_6]; · iexists _; iexact Hk0_part146_6
  isplitl [H22]; · iexists _; iexact H22
  isplitl [H23]; · iexists _; iexact H23
  isplitl [H24]; · iexists _; iexact H24
  iexists _; iexact H25

end Cert.KernelIdeal.Mix

end
-- ==== Proof.MixMath.lean ====
/-
  The softmax of one query over all keys, and the same taken block of keys by block: running maximum, running sums rescaled
  whenever the maximum moves. A masked score is minus infinity and its weight zero; every other score is a real number.
-/
module

public import Idealize.ShloMosaic.Lib.Pointwise

@[expose] public section

noncomputable section

namespace Cert.MixMath

open Idealize.ShloMosaic

/-- The weight of a score below the level `N`. -/
def wt (x : EReal) (N : ℝ) : ℝ := if x = ⊥ then 0 else Real.rpow 2 (x.toReal - N)

theorem two_eq : Ideal.ofBits .f32 0x40000000#32 = ((2 : ℝ) : EReal) := by
  simp [Ideal.ofBits, Ideal.ieee]
  rw [← EReal.coe_mul]
  norm_num

theorem bot_eq : Ideal.ofBits .f32 0xFF800000#32 = ⊥ := by simp [Ideal.ofBits, Ideal.ieee]

theorem one_eq : Ideal.ofBits .bf16 0x3F80#16 = ((1 : ℝ) : EReal) := by
  simp [Ideal.ofBits, Ideal.ieee]
  rw [← EReal.coe_mul]
  norm_num

theorem exp2_sub {x : EReal} (hx : x ≠ ⊤) (N : ℝ) : Ideal.exp2 (x - (N : EReal)) = (wt x N : EReal) := by
  induction x using EReal.rec with
  | bot =>
    rw [EReal.bot_sub]
    unfold wt
    rw [if_pos rfl]
    rfl
  | coe r =>
    unfold wt
    rw [← EReal.coe_sub, if_neg (EReal.coe_ne_bot r), EReal.toReal_coe]
    rfl
  | top => exact absurd rfl hx

theorem pow_sub {x : EReal} (hx : x ≠ ⊤) (N : ℝ) :
    Ideal.pow (Ideal.ofBits .f32 0x40000000#32) (x - (N : EReal)) = (wt x N : EReal) := by
  rw [two_eq]
  induction x using EReal.rec with
  | bot =>
    rw [EReal.bot_sub]
    show (if (2 : ℝ) < 0 then (⊥ : EReal) else if (1 : ℝ) < 2 then 0 else if (2 : ℝ) = 1 then 1 else ⊤) = _
    rw [if_neg (by norm_num), if_pos (by norm_num)]
    simp [wt]
  | coe r =>
    unfold wt
    rw [← EReal.coe_sub, if_neg (EReal.coe_ne_bot r), EReal.toReal_coe]
    rfl
  | top => exact absurd rfl hx

theorem wt_shift (x : EReal) (N N' : ℝ) : Real.rpow 2 (N - N') * wt x N = wt x N' := by
  unfold wt
  split
  · exact mul_zero _
  · show (2 : ℝ) ^ (N - N') * (2 : ℝ) ^ (x.toReal - N) = (2 : ℝ) ^ (x.toReal - N')
    rw [← Real.rpow_add (by norm_num)]
    congr 1
    ring

theorem wt_nonneg (x : EReal) (N : ℝ) : 0 ≤ wt x N := by
  unfold wt
  split
  · exact le_refl _
  · exact Real.rpow_nonneg (by norm_num) _

theorem wt_pos {x : EReal} (hx : x ≠ ⊥) (N : ℝ) : 0 < wt x N := by
  unfold wt
  rw [if_neg hx]
  exact Real.rpow_pos_of_pos (by norm_num) _

/-- The largest of finitely many scores. -/
def top {n : ℕ} (x : Fin n → EReal) : EReal := Finset.univ.fold max (Ideal.ofBits .f32 0xFF800000#32) x

theorem top_eq {n : ℕ} (x : Fin n → EReal) : top x = Finset.univ.sup x := by
  unfold top
  rw [bot_eq]
  rfl

/-- The running maximum after `n` blocks. -/
def foldM (x : ℕ → Fin 512 → EReal) : ℕ → EReal
  | 0 => Ideal.ofBits .f32 0xFF800000#32
  | n + 1 => max (foldM x n) (top (x n))

/-- The running sum after `n` blocks. -/
def foldA (x v : ℕ → Fin 512 → EReal) : ℕ → EReal
  | 0 => Ideal.ofBits .f32 0x00000000#32
  | n + 1 => Ideal.exp2 (foldM x n - foldM x (n + 1)) * foldA x v n + ∑ k, v n k * Ideal.exp2 (x n k - foldM x (n + 1))

theorem foldM_ne_top {x : ℕ → Fin 512 → EReal} (hx : ∀ i k, x i k ≠ ⊤) (n : ℕ) : foldM x n ≠ ⊤ := by
  induction n with
  | zero => unfold foldM; rw [bot_eq]; exact bot_ne_top
  | succ n ih =>
    unfold foldM
    rw [top_eq]
    have h : Finset.univ.sup (x n) < ⊤ := (Finset.sup_lt_iff bot_lt_top).mpr fun k _ => lt_top_iff_ne_top.mpr (hx n k)
    exact (max_lt (lt_top_iff_ne_top.mpr ih) h).ne

theorem le_foldM (x : ℕ → Fin 512 → EReal) {i n : ℕ} (h : i < n) (k : Fin 512) : x i k ≤ foldM x n := by
  induction n with
  | zero => exact absurd h (Nat.not_lt_zero _)
  | succ n ih =>
    unfold foldM
    rcases Nat.lt_succ_iff_lt_or_eq.mp h with h' | rfl
    · exact le_max_of_le_left (ih h')
    · rw [top_eq]
      exact le_max_of_le_right (Finset.le_sup (f := x i) (Finset.mem_univ k))

theorem foldM_real {x : ℕ → Fin 512 → EReal} (hx : ∀ i k, x i k ≠ ⊤) (k : Fin 512) (h0 : x 0 k ≠ ⊥) {n : ℕ} (hn : 1 ≤ n) :
    ∃ N : ℝ, foldM x n = (N : EReal) := by
  have hb : foldM x n ≠ ⊥ := fun e => h0 (le_bot_iff.mp (e ▸ le_foldM x hn k))
  exact ⟨(foldM x n).toReal, (EReal.coe_toReal (foldM_ne_top hx n) hb).symm⟩

theorem sum_coe {ι : Type} (s : Finset ι) (f : ι → ℝ) : (∑ i ∈ s, (f i : EReal)) = ((∑ i ∈ s, f i : ℝ) : EReal) :=
  (map_sum (⟨⟨Real.toEReal, EReal.coe_zero⟩, EReal.coe_add⟩ : ℝ →+ EReal) f s).symm

theorem foldA_eq {x v : ℕ → Fin 512 → EReal} {vr : ℕ → Fin 512 → ℝ} (hx : ∀ i k, x i k ≠ ⊤) (hv : ∀ i k, v i k = (vr i k : EReal))
    (k0 : Fin 512) (h0 : x 0 k0 ≠ ⊥) (n : ℕ) (hn : 1 ≤ n) (N : ℝ) (hN : foldM x n = (N : EReal)) :
    foldA x v n = ((∑ i ∈ Finset.range n, ∑ k, vr i k * wt (x i k) N : ℝ) : EReal) := by
  have last : ∀ (i : ℕ) (N : ℝ), (∑ k, v i k * Ideal.exp2 (x i k - (N : EReal))) = ((∑ k, vr i k * wt (x i k) N : ℝ) : EReal) := fun i N => by
    rw [← sum_coe]
    refine Finset.sum_congr rfl fun k _ => ?_
    rw [exp2_sub (hx i k), hv, EReal.coe_mul]
  induction n generalizing N with
  | zero => exact absurd hn (by decide)
  | succ n ih =>
    unfold foldA
    rw [hN, last]
    rcases Nat.eq_zero_or_pos n with rfl | hp
    · have z : Ideal.ofBits .f32 0x00000000#32 = 0 := by simp [Ideal.ofBits, Ideal.ieee]
      unfold foldA
      rw [z, mul_zero, zero_add, Finset.sum_range_one]
    · obtain ⟨M, hM⟩ := foldM_real hx k0 h0 hp
      rw [ih hp M hM, hM, exp2_sub (EReal.coe_ne_top M), ← EReal.coe_mul, ← EReal.coe_add, Finset.sum_range_succ, Finset.mul_sum]
      have hw : wt (M : EReal) N = Real.rpow 2 (M - N) := by
        unfold wt
        rw [if_neg (EReal.coe_ne_bot M), EReal.toReal_coe]
      rw [hw]
      refine congrArg (fun z : ℝ => ((z + _ : ℝ) : EReal)) (Finset.sum_congr rfl fun i _ => ?_)
      rw [Finset.mul_sum]
      refine Finset.sum_congr rfl fun k _ => ?_
      rw [← wt_shift (x i k) M N]
      ring

/-- A function of the 8192 keys by blocks of 512. -/
def blk (X : Fin 8192 → EReal) (i : ℕ) (k : Fin 512) : EReal := X ⟨(512 * i + k.val) % 8192, Nat.mod_lt _ (by decide)⟩

theorem sum_blocks (f : Fin 8192 → ℝ) (n : ℕ) (hn : n ≤ 16) (hz : ∀ u : Fin 8192, 512 * n ≤ u.val → f u = 0) :
    ∑ i ∈ Finset.range n, ∑ k : Fin 512, f ⟨(512 * i + k.val) % 8192, Nat.mod_lt _ (by decide)⟩ = ∑ u, f u := by
  have h1 : ∑ i ∈ Finset.range n, ∑ k : Fin 512, f ⟨(512 * i + k.val) % 8192, Nat.mod_lt _ (by decide)⟩
      = ∑ i ∈ Finset.range 16, ∑ k : Fin 512, f ⟨(512 * i + k.val) % 8192, Nat.mod_lt _ (by decide)⟩ := by
    refine Finset.sum_subset (Finset.range_subset_range.mpr hn) fun i hi hi' => Finset.sum_eq_zero fun k _ => hz _ ?_
    have a := Finset.mem_range.mp hi
    have b : ¬ i < n := fun h => hi' (Finset.mem_range.mpr h)
    have c := k.isLt
    show 512 * n ≤ (512 * i + k.val) % 8192
    rw [Nat.mod_eq_of_lt (by omega)]
    omega
  rw [h1, Finset.sum_range, ← Fintype.sum_prod_type' (fun (i : Fin 16) (k : Fin 512) => f ⟨(512 * i.val + k.val) % 8192, Nat.mod_lt _ (by decide)⟩)]
  refine Fintype.sum_equiv (finProdFinEquiv (m := 16) (n := 512)) _ _ fun p => congrArg f (Fin.ext ?_)
  have a := p.1.isLt
  have b := p.2.isLt
  show (512 * p.1.val + p.2.val) % 8192 = p.2.val + 512 * p.1.val
  rw [Nat.mod_eq_of_lt (by omega)]
  omega

theorem blk_apply (X : Fin 8192 → EReal) (u : Fin 8192) : blk X (u.val / 512) ⟨u.val % 512, Nat.mod_lt _ (by decide)⟩ = X u := by
  unfold blk
  refine congrArg X (Fin.ext ?_)
  have := u.isLt
  show (512 * (u.val / 512) + u.val % 512) % 8192 = u.val
  omega

theorem foldM_top (X : Fin 8192 → EReal) (n : ℕ) (hz : ∀ u : Fin 8192, 512 * n ≤ u.val → X u = ⊥) : foldM (blk X) n = top X := by
  rw [top_eq]
  refine le_antisymm ?_ (Finset.sup_le fun u _ => ?_)
  · clear hz
    induction n with
    | zero => unfold foldM; rw [bot_eq]; exact bot_le
    | succ n ih =>
      unfold foldM
      rw [top_eq]
      exact max_le ih (Finset.sup_le fun k _ => Finset.le_sup (f := X) (Finset.mem_univ _))
  · by_cases h : 512 * n ≤ u.val
    · rw [hz u h]; exact bot_le
    · rw [← blk_apply X u]
      exact le_foldM (blk X) (by omega) _

/-- The softmax weights of the scores, base two. -/
def soft (X : Fin 8192 → EReal) (u : Fin 8192) : EReal :=
  Ideal.div (Ideal.pow (Ideal.ofBits .f32 0x40000000#32) (X u - top X)) (∑ w, Ideal.pow (Ideal.ofBits .f32 0x40000000#32) (X w - top X))

/-- The differential attention of one query, one output feature. -/
def attend (lam : EReal) (X0 X1 V : Fin 8192 → EReal) : EReal := ∑ u, V u * (soft X0 u - lam * soft X1 u)

/-- What the sums taken block by block give. -/
def swept (lam : EReal) (X0 X1 V : Fin 8192 → EReal) (n : ℕ) : EReal :=
  Ideal.div (foldA (blk X0) (blk V) n) (foldA (blk X0) (fun _ _ => Ideal.ofBits .bf16 0x3F80#16) n)
    - lam * Ideal.div (foldA (blk X1) (blk V) n) (foldA (blk X1) (fun _ _ => Ideal.ofBits .bf16 0x3F80#16) n)

/-- The scores of a query whose first key is not masked, whose keys from block `n` on are. -/
structure Scores (X : Fin 8192 → EReal) (n : ℕ) : Prop where
  ne_top : ∀ u, X u ≠ ⊤
  first : X ⟨0, by decide⟩ ≠ ⊥
  rest : ∀ u : Fin 8192, 512 * n ≤ u.val → X u = ⊥

theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The sums and weights of one stream over its level. -/
theorem stream {X V : Fin 8192 → EReal} {Vr : Fin 8192 → ℝ} {n : ℕ} (hn : 1 ≤ n) (hn' : n ≤ 16) (hX : Scores X n) (hV : ∀ u, V u = (Vr u : EReal)) :
    ∃ (p : Fin 8192 → ℝ) (d : ℝ), d ≠ 0 ∧ (∀ u, soft X u = ((p u / d : ℝ) : EReal))
      ∧ foldA (blk X) (blk V) n = ((∑ u, Vr u * p u : ℝ) : EReal)
      ∧ foldA (blk X) (fun _ _ => Ideal.ofBits .bf16 0x3F80#16) n = (d : EReal) := by
  have hx : ∀ i k, blk X i k ≠ ⊤ := fun i k => hX.ne_top _
  have h0 : blk X 0 ⟨0, by decide⟩ ≠ ⊥ := hX.first
  obtain ⟨N, hN⟩ := foldM_real hx ⟨0, by decide⟩ h0 hn
  have ht : top X = (N : EReal) := (foldM_top X n hX.rest).symm.trans hN
  have hz : ∀ u : Fin 8192, 512 * n ≤ u.val → wt (X u) N = 0 := fun u hu => by unfold wt; rw [if_pos (hX.rest u hu)]
  have hd : 0 < ∑ u, wt (X u) N :=
    Finset.sum_pos' (fun u _ => wt_nonneg _ _) ⟨⟨0, by decide⟩, Finset.mem_univ _, wt_pos hX.first N⟩
  have hden : (∑ w, Ideal.pow (Ideal.ofBits .f32 0x40000000#32) (X w - top X)) = ((∑ u, wt (X u) N : ℝ) : EReal) := by
    rw [← sum_coe, ht]
    exact Finset.sum_congr rfl fun u _ => pow_sub (hX.ne_top u) N
  refine ⟨fun u => wt (X u) N, ∑ u, wt (X u) N, hd.ne', fun u => ?_, ?_, ?_⟩
  · unfold soft
    rw [hden, ht, pow_sub (hX.ne_top u), div_coe hd.ne']
  · rw [foldA_eq (v := blk V) (vr := fun i k => Vr ⟨(512 * i + k.val) % 8192, Nat.mod_lt _ (by decide)⟩) hx (fun i k => hV _) ⟨0, by decide⟩ h0 n hn N hN]
    refine congrArg _ ?_
    exact sum_blocks (fun u => Vr u * wt (X u) N) n hn' fun u hu => by rw [hz u hu, mul_zero]
  · rw [foldA_eq (vr := fun _ _ => 1) hx (fun _ _ => one_eq) ⟨0, by decide⟩ h0 n hn N hN]
    refine congrArg _ ?_
    rw [← sum_blocks (fun u => wt (X u) N) n hn' hz]
    exact Finset.sum_congr rfl fun i _ => Finset.sum_congr rfl fun k _ => one_mul _

/-- The sweep computes the attention. -/
theorem swept_eq {lam : EReal} {l : ℝ} (hl : lam = (l : EReal)) {X0 X1 V : Fin 8192 → EReal} {Vr : Fin 8192 → ℝ} {n : ℕ} (hn : 1 ≤ n) (hn' : n ≤ 16)
    (h0 : Scores X0 n) (h1 : Scores X1 n) (hV : ∀ u, V u = (Vr u : EReal)) : swept lam X0 X1 V n = attend lam X0 X1 V := by
  obtain ⟨p0, d0, hd0, s0, a0, b0⟩ := stream hn hn' h0 hV
  obtain ⟨p1, d1, hd1, s1, a1, b1⟩ := stream hn hn' h1 hV
  unfold swept attend
  rw [a0, a1, b0, b1, div_coe hd0, div_coe hd1, hl, ← EReal.coe_mul, ← EReal.coe_sub,
    Finset.sum_congr rfl (fun u _ => show V u * (soft X0 u - (l : EReal) * soft X1 u) = ((Vr u * (p0 u / d0 - l * (p1 u / d1)) : ℝ) : EReal) by
      rw [hV, s0, s1, ← EReal.coe_mul, ← EReal.coe_sub, ← EReal.coe_mul]), sum_coe]
  refine congrArg _ ?_
  rw [Finset.sum_congr rfl (fun u _ => show Vr u * (p0 u / d0 - l * (p1 u / d1)) = Vr u * p0 u / d0 - l * (Vr u * p1 u / d1) by ring),
    Finset.sum_sub_distrib, ← Finset.mul_sum, ← Finset.sum_div, ← Finset.sum_div]

/-- The root mean square norm of a head's row, the gain and the constant. -/
def subnorm (v : Fin 128 → EReal) (w : Fin 128 → EReal) (e : Fin 128) : EReal :=
  v e * Ideal.rsqrt (Ideal.div (∑ x, v x * v x) (Ideal.ofBits .f32 0x43000000#32) + Ideal.ofBits .f32 0x3727C5AC#32) * w e
    * Ideal.ofBits .f32 0x3F4CCCCD#32

end Cert.MixMath

end
-- ==== Proof.MixPay.lean ====
/-
  The attention kernel's block operations read at an index, over the extended reals.
-/
module

public import proofs.«01_k».proof.Proof.MixTail
public import proofs.«01_k».proof.Proof.MixMath

@[expose] public section

set_option maxRecDepth 16384

noncomputable section

namespace Cert.KernelIdeal.Mix

open Cert.KernelIdeal Cert.KernelIdeal.Gen Cert.MixMath Idealize.ShloMosaic Idealize.ShloMosaic.TcCoe

theorem pay33_at (vals : FVec Ideal S144x512 .bf16) (x : FVec Ideal S512x512 .f32) (m0 m1 : FVec Ideal S1x512 .f32) (a : Vec Ideal S1x144x512 .f32)
    (e : Fin 144) (t : Fin 512) :
    k0_pay33 vals x m0 m1 a (ix3 0 e t)
      = Ideal.exp2 (m0 (ix2 0 t) - m1 (ix2 0 t)) * a (ix3 0 e t) + ∑ k, vals (ix2 e k) * Ideal.exp2 (x (ix2 k t) - m1 (ix2 0 t)) := by
  pointwise [k0_pay33]
  rfl

theorem pay34_at (m : FVec Ideal S1x512 .f32) (t : Fin 512) : k0_pay34 m (ix3 0 0 t) = m (ix2 0 t) := by
  pointwise [k0_pay34]

theorem pay21_at (m : Vec Ideal S1x1x512 .f32) (t : Fin 512) : k0_pay21 m (ix2 0 t) = m (ix3 0 0 t) := by
  pointwise [k0_pay21]

theorem pay17_at (s : Vec Ideal S1x1x512x512 .f32) (k t : Fin 512) : k0_pay17 s (ix2 k t) = s (ix4 0 0 k t) := by
  pointwise [k0_pay17]

theorem pay9_at (s : FVec Ideal S512x512 .f32) (k t : Fin 512) : k0_pay9 s (ix4 0 0 k t) = s (ix2 k t) := by
  pointwise [k0_pay9]

theorem pay10_at (s : FVec Ideal S512x512 .f32) (t : Fin 512) : k0_pay10 s (ix4 0 0 0 t) = top fun k => s (ix2 k t) := by
  pointwise [k0_pay10, top]

theorem pay25_at (b : Vec Ideal S1x1x1x512 .f32) (m : Vec Ideal S1x1x512 .f32) (t : Fin 512) :
    (k0_pay25 b m (ix2 0 t) : EReal) = max (m (ix3 0 0 t)) (b (ix4 0 0 0 t)) := by
  pointwise [k0_pay25, k0_pay21]

theorem pay2_at (q : FVec Ideal S512x128 .bf16) (kb : Vec Ideal S512x256 .bf16) (k t : Fin 512) :
    k0_pay2 q kb (ix2 k t) = ∑ x : Fin 128, kb (ix2 k ⟨x.val, by omega⟩) * q (ix2 t x) := by
  pointwise [k0_pay2]

theorem pay8_at (q : FVec Ideal S512x128 .bf16) (kb : Vec Ideal S512x256 .bf16) (k t : Fin 512) :
    k0_pay8 q kb (ix2 k t) = ∑ x : Fin 128, kb (ix2 k ⟨128 + x.val, by omega⟩) * q (ix2 t x) := by
  pointwise [k0_pay8]

theorem lane_lt : ∀ x : Fin 128, IntOp.cmpi .slt (BitVec.ofNat 32 x.val) 64#32 = if x.val < 64 then 1#1 else 0#1 := by decide +kernel

theorem lane_ge : ∀ x : Fin 128, IntOp.cmpi .sge (BitVec.ofNat 32 x.val) 64#32 = if x.val < 64 then 0#1 else 1#1 := by decide +kernel

theorem chunk_le : ∀ a b : Fin 128, IntOp.cmpi .sle (BitVec.ofNat 32 a.val) (BitVec.ofNat 32 b.val) = if a.val ≤ b.val then 1#1 else 0#1 := by
  decide +kernel

theorem pay459_at (X : Vec Ideal S512x256 .bf16) (t : Fin 512) (x : Fin 128) :
    (k0_pay459 X (ix2 t x) : EReal) = if x.val < 64 then X (ix2 t ⟨x.val, by omega⟩) else 0 := by
  pointwise [k0_pay459]
  rw [lane_lt]
  split <;> simp [Scalar.select]

theorem pay460_at (X : Vec Ideal S512x256 .bf16) (t : Fin 512) (x : Fin 128) :
    (k0_pay460 X (ix2 t x) : EReal) = if x.val < 64 then 0 else X (ix2 t ⟨x.val, by omega⟩) := by
  pointwise [k0_pay460]
  rw [lane_ge]
  split <;> simp [Scalar.select]

theorem pay461_at (X : Vec Ideal S512x256 .bf16) (t : Fin 512) (x : Fin 128) :
    (k0_pay461 X (ix2 t x) : EReal) = if x.val < 64 then X (ix2 t ⟨128 + x.val, by omega⟩) else 0 := by
  pointwise [k0_pay461]
  rw [lane_lt]
  split <;> simp [Scalar.select]

theorem pay462_at (X : Vec Ideal S512x256 .bf16) (t : Fin 512) (x : Fin 128) :
    (k0_pay462 X (ix2 t x) : EReal) = if x.val < 64 then 0 else X (ix2 t ⟨128 + x.val, by omega⟩) := by
  pointwise [k0_pay462]
  rw [lane_ge]
  split <;> simp [Scalar.select]

theorem pay463_at (y : S16x512.Idx) : (k0_pay463 (F := Ideal) y : EReal) = Ideal.ofBits .bf16 0x3F80#16 := rfl

theorem pay15_at (ones : FVec Ideal S16x512 .bf16) (vb : Vec Ideal S1x256x512 .bf16) (e : Fin 144) (he : e.val < 128) (k : Fin 512) :
    k0_pay15 ones vb (ix2 e k) = vb (ix3 0 ⟨e.val, by omega⟩ k) := by
  pointwise [k0_pay15, k0_pay14]
  rw [dif_pos he]

theorem pay15_one (vb : Vec Ideal S1x256x512 .bf16) (k : Fin 512) :
    (k0_pay15 k0_pay463 vb (ix2 ⟨128, by decide⟩ k) : EReal) = Ideal.ofBits .bf16 0x3F80#16 := by
  pointwise [k0_pay15, k0_pay14, k0_pay463]

theorem pay16_at (ones : FVec Ideal S16x512 .bf16) (vb : Vec Ideal S1x256x512 .bf16) (e : Fin 144) (he : e.val < 128) (k : Fin 512) :
    k0_pay16 ones vb (ix2 e k) = vb (ix3 0 ⟨128 + e.val, by omega⟩ k) := by
  pointwise [k0_pay16, k0_pay14]
  rw [dif_pos he]

theorem pay16_one (vb : Vec Ideal S1x256x512 .bf16) (k : Fin 512) :
    (k0_pay16 k0_pay463 vb (ix2 ⟨128, by decide⟩ k) : EReal) = Ideal.ofBits .bf16 0x3F80#16 := by
  pointwise [k0_pay16, k0_pay14, k0_pay463]

theorem pay2122_at (k t : Fin 512) : k0_pay2122 (ix2 k t) = BitVec.ofNat 32 (k.val / 64) := by
  pointwise [k0_pay2122]
  revert k
  decide +kernel

theorem pay2125_at (k t : Fin 512) :
    k0_pay2125 (iota .tc S512x512 32 [1] iota_S512x512_d1_w32) 64#32 k0_pay2123 k0_pay2124 0#32 (ix2 k t) = BitVec.ofNat 32 (t.val / 64) := by
  pointwise [k0_pay2125, k0_pay2123, k0_pay2124]
  revert t
  decide +kernel

theorem masked_at (x : FVec Ideal S512x512 .f32) (k t : Fin 512) :
    (masked x (ix2 k t) : EReal) = if k.val / 64 ≤ t.val / 64 then x (ix2 k t) else ⊥ := by
  have h : masked x (ix2 k t)
      = Scalar.select (IntOp.cmpi .sle (k0_pay2122 (ix2 k t)) (k0_pay2125 (iota .tc S512x512 32 [1] iota_S512x512_d1_w32) 64#32 k0_pay2123 k0_pay2124 0#32 (ix2 k t)))
          (x (ix2 k t)) (Ideal.ofBits .f32 0xFF800000#32) := rfl
  rw [h, pay2122_at, pay2125_at, chunk_le ⟨k.val / 64, by omega⟩ ⟨t.val / 64, by omega⟩, bot_eq]
  show Scalar.select (if k.val / 64 ≤ t.val / 64 then 1#1 else 0#1) _ _ = _
  split <;> simp [Scalar.select]

theorem maskedTop_at (x : FVec Ideal S512x512 .f32) (t : Fin 512) : (maskedTop x (ix2 0 t) : EReal) = top fun k => masked x (ix2 k t) := by
  have h : maskedTop x = shapeCast S1x512 (multiReduction .maximumf [0] S512 (masked x) 0xFF800000#32 reduces_S512x512_S512 (.inl rfl) rfl) shapeCasts_S512_S1x512 := rfl
  rw [h]
  generalize masked x = y
  pointwise [top]

theorem pay2158_at (a b d f : Vec Ideal S1x64 .f32) :
    (k0_pay2158 a b d f (ix2 0 0) : EReal)
      = Ideal.exp (∑ x, a (ix2 0 x) * b (ix2 0 x)) - Ideal.exp (∑ x, d (ix2 0 x) * f (ix2 0 x)) + Ideal.ofBits .f32 0x3E4CCCCD#32 := by
  pointwise [k0_pay2158]

theorem headOut_at (lam : FVec Ideal S1x1 .f32) (A0 A1 : Vec Ideal S1x144x512 .f32) (w : Vec Ideal S1x128 .f32) (t : Fin 512) (e : Fin 128) :
    (headOut lam A0 A1 w (ix2 t e) : EReal)
      = subnorm (fun e => Ideal.div (A0 (ix3 0 ⟨e.val, by omega⟩ t)) (A0 (ix3 0 ⟨128, by decide⟩ t))
            - lam (ix2 0 0) * Ideal.div (A1 (ix3 0 ⟨e.val, by omega⟩ t)) (A1 (ix3 0 ⟨128, by decide⟩ t))) (fun e => w (ix2 0 e)) e := by
  pointwise [headOut, k0_pay1, k0_pay2159, k0_pay2161, topRows, oneRow, subnorm]

end Cert.KernelIdeal.Mix

end
-- ==== Proof.MixFlow.lean ====
/-
  The sweep's state, query by query: the running maximum and the running sums are those of `MixMath`, and the head's block is
  the normed attention.
-/
module

public import proofs.«01_k».proof.Proof.MixPay

@[expose] public section

set_option maxRecDepth 16384

noncomputable section

namespace Cert.KernelIdeal.Mix

open Cert.KernelIdeal Cert.KernelIdeal.Gen Cert.MixMath Idealize.ShloMosaic Idealize.ShloMosaic.TcCoe

theorem half_lo (f g : Fin 128 → EReal) :
    (∑ x, f x * (if x.val < 64 then g x else 0)) = ∑ x : Fin 64, f ⟨x.val, by omega⟩ * g ⟨x.val, by omega⟩ := by
  rw [Fin.sum_univ_add (a := 64) (b := 64)]
  have h : (∑ x : Fin 64, f (Fin.natAdd 64 x) * (if (Fin.natAdd 64 x : Fin (64 + 64)).val < 64 then g (Fin.natAdd 64 x) else 0)) = 0 :=
    Finset.sum_eq_zero fun x _ => by
      rw [if_neg (by show ¬ 64 + x.val < 64; omega), mul_zero]
  rw [h, add_zero]
  exact Finset.sum_congr rfl fun x _ => by
    rw [if_pos (by show x.val < 64; omega)]
    rfl

theorem half_hi (f g : Fin 128 → EReal) :
    (∑ x, f x * (if x.val < 64 then 0 else g x)) = ∑ x : Fin 64, f ⟨64 + x.val, by omega⟩ * g ⟨64 + x.val, by omega⟩ := by
  rw [Fin.sum_univ_add (a := 64) (b := 64)]
  have h : (∑ x : Fin 64, f (Fin.castAdd 64 x) * (if (Fin.castAdd 64 x : Fin (64 + 64)).val < 64 then 0 else g (Fin.castAdd 64 x))) = 0 :=
    Finset.sum_eq_zero fun x _ => by
      rw [if_pos (by show x.val < 64; omega), mul_zero]
  rw [h, zero_add]
  exact Finset.sum_congr rfl fun x _ => by
    rw [if_neg (by show ¬ 64 + x.val < 64; omega)]
    rfl

/-- A slab's scores against stream `j`'s queries. -/
theorem scoresOf_at (X : Vec Ideal S512x256 .bf16) (kb : Vec Ideal S512x256 .bf16) (j : Fin 4) (k t : Fin 512) :
    (scoresOf (k0_pay459 X) (k0_pay460 X) (k0_pay461 X) (k0_pay462 X) kb j (ix2 k t) : EReal)
      = ∑ x : Fin 64, kb (ix2 k ⟨j.val * 64 + x.val, by omega⟩) * X (ix2 t ⟨j.val * 64 + x.val, by omega⟩) := by
  match j with
  | 0 =>
    refine (pay2_at (k0_pay459 X) kb k t).trans ?_
    simp only [pay459_at]
    refine (half_lo (fun x => kb (ix2 k ⟨x.val, by omega⟩)) (fun x => X (ix2 t ⟨x.val, by omega⟩))).trans ?_
    exact Finset.sum_congr rfl fun x _ => by
      have e : (⟨x.val, by omega⟩ : Fin 256) = ⟨(0 : Fin 4).val * 64 + x.val, by omega⟩ := Fin.ext (by show x.val = 0 * 64 + x.val; omega)
      exact congrArg (fun z => (kb (ix2 k z) : EReal) * X (ix2 t z)) e
  | 1 =>
    refine (pay2_at (k0_pay460 X) kb k t).trans ?_
    simp only [pay460_at]
    refine (half_hi (fun x => kb (ix2 k ⟨x.val, by omega⟩)) (fun x => X (ix2 t ⟨x.val, by omega⟩))).trans ?_
    exact Finset.sum_congr rfl fun x _ => by congr 4 <;> exact (Fin.ext (by show 64 + x.val = 1 * 64 + x.val; omega))
  | 2 =>
    refine (pay8_at (k0_pay461 X) kb k t).trans ?_
    simp only [pay461_at]
    refine (half_lo (fun x => kb (ix2 k ⟨128 + x.val, by omega⟩)) (fun x => X (ix2 t ⟨128 + x.val, by omega⟩))).trans ?_
    exact Finset.sum_congr rfl fun x _ => by congr 4 <;> exact (Fin.ext (by show 128 + x.val = 2 * 64 + x.val; omega))
  | 3 =>
    refine (pay8_at (k0_pay462 X) kb k t).trans ?_
    simp only [pay462_at]
    refine (half_hi (fun x => kb (ix2 k ⟨128 + x.val, by omega⟩)) (fun x => X (ix2 t ⟨128 + x.val, by omega⟩))).trans ?_
    exact Finset.sum_congr rfl fun x _ => by
      have e : (⟨128 + (64 + x.val), by omega⟩ : Fin 256) = ⟨(3 : Fin 4).val * 64 + x.val, by omega⟩ := Fin.ext (by show 128 + (64 + x.val) = 3 * 64 + x.val; omega)
      exact congrArg (fun z => (kb (ix2 k z) : EReal) * X (ix2 t z)) e

/-- A stream's values. -/
theorem valuesOf_at (vb : Vec Ideal S1x256x512 .bf16) (j : Fin 4) (e : Fin 128) (k : Fin 512) :
    (valuesOf k0_pay463 vb j (ix2 ⟨e.val, by omega⟩ k) : EReal) = vb (ix3 0 ⟨j.val / 2 * 128 + e.val, by omega⟩ k) := by
  match j with
  | 0 => exact (pay15_at k0_pay463 vb ⟨e.val, by omega⟩ e.isLt k).trans (by congr 2; exact Fin.ext (by show e.val = 0 / 2 * 128 + e.val; omega))
  | 1 => exact (pay15_at k0_pay463 vb ⟨e.val, by omega⟩ e.isLt k).trans (by congr 2; exact Fin.ext (by show e.val = 1 / 2 * 128 + e.val; omega))
  | 2 => exact (pay16_at k0_pay463 vb ⟨e.val, by omega⟩ e.isLt k).trans (by congr 2)
  | 3 => exact (pay16_at k0_pay463 vb ⟨e.val, by omega⟩ e.isLt k).trans (by congr 2)

theorem valuesOf_one (vb : Vec Ideal S1x256x512 .bf16) (j : Fin 4) (k : Fin 512) :
    (valuesOf k0_pay463 vb j (ix2 ⟨128, by decide⟩ k) : EReal) = Ideal.ofBits .bf16 0x3F80#16 := by
  match j with
  | 0 => exact pay15_one vb k
  | 1 => exact pay15_one vb k
  | 2 => exact pay16_one vb k
  | 3 => exact pay16_one vb k

section Sweep

variable (q0 q1 q2 q3 : FVec Ideal S512x128 .bf16) (ones : FVec Ideal S16x512 .bf16) (kb : ℕ → Vec Ideal S512x256 .bf16) (vb : ℕ → Vec Ideal S1x256x512 .bf16)
  (st : State Ideal)

theorem sweepFrom_add (a b n : ℕ) :
    sweepFrom q0 q1 q2 q3 ones kb vb (a + b) (sweepFrom q0 q1 q2 q3 ones kb vb a st b) n = sweepFrom q0 q1 q2 q3 ones kb vb a st (b + n) := by
  induction n with
  | zero => rfl
  | succ n ih =>
    show (sweepFrom q0 q1 q2 q3 ones kb vb (a + b) _ n).next q0 q1 q2 q3 ones _ _ _ _ = (sweepFrom q0 q1 q2 q3 ones kb vb a st (b + n)).next q0 q1 q2 q3 ones _ _ _ _
    rw [ih, Nat.add_assoc a b n]
    rfl

theorem sweepAll_eq (n : ℕ) : sweepAll q0 q1 q2 q3 ones kb vb st n = sweepFrom q0 q1 q2 q3 ones kb vb 0 st n := by
  have h := sweepFrom_add q0 q1 q2 q3 ones kb vb st 0 (2 * (n / 2)) (n % 2)
  rw [Nat.zero_add, Nat.div_add_mod] at h
  exact h

variable {q0 q1 q2 q3 kb st} (hst : Start q0 q1 q2 q3 (kb 0) st) (j : Fin 4)
include hst

/-- Slot `n` holds block `n`'s scores and their maxima after `n` steps. -/
theorem slot_at (n : ℕ) :
    (sweepFrom q0 q1 q2 q3 ones kb vb 0 st n).s (slot n) j = k0_pay9 (scoresOf q0 q1 q2 q3 (kb n) j)
      ∧ (sweepFrom q0 q1 q2 q3 ones kb vb 0 st n).b (slot n) j = k0_pay10 (scoresOf q0 q1 q2 q3 (kb n) j) := by
  cases n with
  | zero => exact ⟨hst.s j, hst.b j⟩
  | succ n =>
    have e : slot (0 + n + 1) = slot (n + 1) := by rw [Nat.zero_add]
    have e' : kb (0 + n + 1) = kb (n + 1) := by rw [Nat.zero_add]
    constructor
    · show (Function.update (β := fun _ => Fin 4 → FVec Ideal S1x1x512x512 .f32) _ (slot (0 + n + 1)) (fun j => k0_pay9 (scoresOf q0 q1 q2 q3 (kb (0 + n + 1)) j)) (slot (n + 1)) : Fin 4 → _) j = _
      rw [e, e', Function.update_self]
    · show (Function.update (β := fun _ => Fin 4 → FVec Ideal S1x1x1x512 .f32) _ (slot (0 + n + 1)) (fun j => k0_pay10 (scoresOf q0 q1 q2 q3 (kb (0 + n + 1)) j)) (slot (n + 1)) : Fin 4 → _) j = _
      rw [e, e', Function.update_self]

variable (t : Fin 512) {x : ℕ → Fin 512 → EReal}

theorem m_at (n : ℕ) (hx : ∀ i, i < n → ∀ k, scoresOf q0 q1 q2 q3 (kb i) j (ix2 k t) = x i k) :
    ((sweepFrom q0 q1 q2 q3 ones kb vb 0 st n).m j (ix3 0 0 t) : EReal) = foldM x n := by
  induction n with
  | zero => exact congrFun (hst.m j) _
  | succ n ih =>
    refine (pay34_at _ t).trans ((pay25_at _ _ t).trans ?_)
    rw [ih fun i hi => hx i (Nat.lt_succ_of_lt hi), show slot (0 + n) = slot n by rw [Nat.zero_add], (slot_at ones vb hst j n).2, pay10_at]
    show _ = max (foldM x n) (top (x n))
    exact congrArg (max _) (congrArg top (funext fun k => hx n (Nat.lt_succ_self n) k))

theorem a_at (e : Fin 144) {v : ℕ → Fin 512 → EReal} (n : ℕ) (hx : ∀ i, i < n → ∀ k, scoresOf q0 q1 q2 q3 (kb i) j (ix2 k t) = x i k)
    (hv : ∀ i, i < n → ∀ k, valuesOf ones (vb i) j (ix2 e k) = v i k) :
    ((sweepFrom q0 q1 q2 q3 ones kb vb 0 st n).a j (ix3 0 e t) : EReal) = foldA x v n := by
  induction n with
  | zero => exact congrFun (hst.a j) _
  | succ n ih =>
    have hm1 := m_at ones vb hst j t (n + 1) hx
    have hm1' := (pay34_at (k0_pay25 ((sweepFrom q0 q1 q2 q3 ones kb vb 0 st n).b (slot (0 + n)) j) ((sweepFrom q0 q1 q2 q3 ones kb vb 0 st n).m j)) t).symm.trans hm1
    refine (pay33_at _ _ _ _ _ e t).trans ?_
    rw [hm1', pay21_at, m_at ones vb hst j t n fun i hi => hx i (Nat.lt_succ_of_lt hi),
      ih (fun i hi => hx i (Nat.lt_succ_of_lt hi)) (fun i hi => hv i (Nat.lt_succ_of_lt hi)), show slot (0 + n) = slot n by rw [Nat.zero_add],
      (slot_at ones vb hst j n).1, Nat.zero_add]
    rw [foldA]
    refine congrArg _ (Finset.sum_congr rfl fun k _ => ?_)
    rw [hv n (Nat.lt_succ_self n) k, pay17_at, pay9_at, hx n (Nat.lt_succ_self n) k]

/-- A stream's sums after the block on the diagonal. -/
theorem end_at (e : Fin 144) {v : ℕ → Fin 512 → EReal} (n : ℕ) (hx : ∀ i, i < n → ∀ k, scoresOf q0 q1 q2 q3 (kb i) j (ix2 k t) = x i k)
    (hv : ∀ i, i < n + 1 → ∀ k, valuesOf ones (vb i) j (ix2 e k) = v i k)
    (hd : ∀ k : Fin 512, (if k.val / 64 ≤ t.val / 64 then scoresOf q0 q1 q2 q3 (kb n) j (ix2 k t) else ⊥) = x n k) :
    ((sweepAll q0 q1 q2 q3 ones kb vb st n).endOf ones (vb n) (slot n) j (ix3 0 e t) : EReal) = foldA x v (n + 1) := by
  rw [sweepAll_eq]
  unfold State.endOf endA
  have hk : ∀ k : Fin 512, (masked (k0_pay17 ((sweepFrom q0 q1 q2 q3 ones kb vb 0 st n).s (slot n) j)) (ix2 k t) : EReal) = x n k := fun k => by
    rw [masked_at, pay17_at, (slot_at ones vb hst j n).1, pay9_at]
    exact hd k
  have hm : (maximumf (k0_pay21 ((sweepFrom q0 q1 q2 q3 ones kb vb 0 st n).m j)) (maskedTop (k0_pay17 ((sweepFrom q0 q1 q2 q3 ones kb vb 0 st n).s (slot n) j))) (ix2 0 t) : EReal)
      = foldM x (n + 1) := by
    show max (α := EReal) (k0_pay21 (F := Ideal) _ (ix2 0 t)) (maskedTop (F := Ideal) _ (ix2 0 t)) = max (foldM x n) (top (x n))
    rw [pay21_at, maskedTop_at, m_at ones vb hst j t n hx]
    exact congrArg (max _) (congrArg top (funext hk))
  refine (pay33_at _ _ _ _ _ e t).trans ?_
  rw [hm, pay21_at, m_at ones vb hst j t n hx, a_at ones vb hst j t e n hx fun i hi => hv i (Nat.lt_succ_of_lt hi)]
  rw [foldA]
  exact congrArg _ (Finset.sum_congr rfl fun k _ => by rw [hv n (Nat.lt_succ_self n) k, hk k])

end Sweep

/-- A number that is neither infinity. -/
def real (x : EReal) : Prop := ∃ r : ℝ, x = (r : EReal)

theorem real_sum_mul {ι : Type} [Fintype ι] {f g : ι → EReal} (hf : ∀ i, real (f i)) (hg : ∀ i, real (g i)) : real (∑ i, f i * g i) := by
  choose f' hf using hf
  choose g' hg using hg
  exact ⟨∑ i, f' i * g' i, by
    rw [← sum_coe]
    exact Finset.sum_congr rfl fun i _ => by rw [hf, hg, EReal.coe_mul]⟩

/-- Stream `j`'s masked scores of query `t` of block `n`. -/
def keyScore (X : Vec Ideal S512x256 .bf16) (K : Vec Ideal S8192x256 .bf16) (n : ℕ) (t : Fin 512) (j : Fin 4) (u : Fin 8192) : EReal :=
  if u.val / 64 ≤ (512 * n + t.val) / 64 then
    ∑ x : Fin 64, K (ix2 u ⟨j.val * 64 + x.val, by omega⟩) * X (ix2 t ⟨j.val * 64 + x.val, by omega⟩)
  else ⊥

theorem keyScore_ok (X : Vec Ideal S512x256 .bf16) (K : Vec Ideal S8192x256 .bf16) (n : ℕ) (t : Fin 512) (j : Fin 4) (hX : ∀ y, real (X y)) (hK : ∀ y, real (K y)) :
    Scores (keyScore X K n t j) (n + 1) where
  ne_top u := by
    unfold keyScore
    split
    · obtain ⟨r, hr⟩ := real_sum_mul (fun x : Fin 64 => hK (ix2 u ⟨j.val * 64 + x.val, by omega⟩)) (fun x => hX (ix2 t ⟨j.val * 64 + x.val, by omega⟩))
      rw [hr]; exact EReal.coe_ne_top r
    · exact bot_ne_top
  first := by
    unfold keyScore
    rw [if_pos (by show 0 / 64 ≤ _; omega)]
    obtain ⟨r, hr⟩ := real_sum_mul (fun x : Fin 64 => hK (ix2 ⟨0, by decide⟩ ⟨j.val * 64 + x.val, by omega⟩)) (fun x => hX (ix2 t ⟨j.val * 64 + x.val, by omega⟩))
    rw [hr]; exact EReal.coe_ne_bot r
  rest u hu := by
    unfold keyScore
    exact if_neg (by have := t.isLt; omega)

/-- A head's features before the norm. -/
def headRaw (lam : EReal) (X : Vec Ideal S512x256 .bf16) (K : Vec Ideal S8192x256 .bf16) (V : Vec Ideal S16x256x512 .bf16) (n : ℕ) (t : Fin 512) (h : Fin 2)
    (e : Fin 128) : EReal :=
  attend lam (keyScore X K n t ⟨2 * h.val, by omega⟩) (keyScore X K n t ⟨2 * h.val + 1, by omega⟩)
    (fun u => V (ix3 ⟨u.val / 512, by omega⟩ ⟨h.val * 128 + e.val, by omega⟩ ⟨u.val % 512, by omega⟩))

/-- The head's block, from the state's sums. -/
theorem head_at (lam : FVec Ideal S1x1 .f32) (X : Vec Ideal S512x256 .bf16) (K : Vec Ideal S8192x256 .bf16) (V : Vec Ideal S16x256x512 .bf16) (w : Vec Ideal S1x128 .f32)
    (kb : ℕ → Vec Ideal S512x256 .bf16) (vb : ℕ → Vec Ideal S1x256x512 .bf16) (st : State Ideal) (n : ℕ) (hn : n ≤ 15)
    (hkb : ∀ i (hi : i ≤ 15) (k : Fin 512) (c : Fin 256), kb i (ix2 k c) = K (ix2 ⟨512 * i + k.val, by omega⟩ c))
    (hvb : ∀ i (hi : i ≤ 15) (c : Fin 256) (k : Fin 512), vb i (ix3 0 c k) = V (ix3 ⟨i, by omega⟩ c k))
    (hlam : real (lam (ix2 0 0))) (hX : ∀ y, real (X y)) (hK : ∀ y, real (K y)) (hV : ∀ y, real (V y))
    (hst : Start (k0_pay459 X) (k0_pay460 X) (k0_pay461 X) (k0_pay462 X) (kb 0) st) (h : Fin 2) (t : Fin 512) (e : Fin 128) :
    (headOut lam
        ((sweepAll (k0_pay459 X) (k0_pay460 X) (k0_pay461 X) (k0_pay462 X) k0_pay463 kb vb st n).endOf k0_pay463 (vb n) (slot n) ⟨2 * h.val, by omega⟩)
        ((sweepAll (k0_pay459 X) (k0_pay460 X) (k0_pay461 X) (k0_pay462 X) k0_pay463 kb vb st n).endOf k0_pay463 (vb n) (slot n) ⟨2 * h.val + 1, by omega⟩)
        w (ix2 t e) : EReal)
      = subnorm (headRaw (lam (ix2 0 0)) X K V n t h) (fun e => w (ix2 0 e)) e := by
  rw [headOut_at]
  refine congrArg (fun f => subnorm f (fun e => w (ix2 0 e)) e) (funext fun e => ?_)
  have hu : ∀ i (hi : i ≤ 15) (k : Fin 512), (⟨(512 * i + k.val) % 8192, Nat.mod_lt _ (by decide)⟩ : Fin 8192) = ⟨512 * i + k.val, by omega⟩ := fun i hi k =>
    Fin.ext (by show (512 * i + k.val) % 8192 = 512 * i + k.val; omega)
  have hs : ∀ (j : Fin 4) (i : ℕ) (hi : i ≤ 15) (k : Fin 512), scoresOf (k0_pay459 X) (k0_pay460 X) (k0_pay461 X) (k0_pay462 X) (kb i) j (ix2 k t)
      = ∑ x : Fin 64, K (ix2 ⟨512 * i + k.val, by omega⟩ ⟨j.val * 64 + x.val, by omega⟩) * X (ix2 t ⟨j.val * 64 + x.val, by omega⟩) := fun j i hi k => by
    rw [scoresOf_at]
    exact Finset.sum_congr rfl fun x _ => by rw [hkb i hi]
  have hx : ∀ (j : Fin 4) (i : ℕ), i < n → ∀ k, scoresOf (k0_pay459 X) (k0_pay460 X) (k0_pay461 X) (k0_pay462 X) (kb i) j (ix2 k t) = blk (keyScore X K n t j) i k :=
    fun j i hi k => by
      rw [hs j i (by omega) k]
      unfold blk
      rw [hu i (by omega) k]
      unfold keyScore
      rw [if_pos (by show (512 * i + k.val) / 64 ≤ (512 * n + t.val) / 64; omega)]
  have hd : ∀ (j : Fin 4) (k : Fin 512), (if k.val / 64 ≤ t.val / 64 then scoresOf (k0_pay459 X) (k0_pay460 X) (k0_pay461 X) (k0_pay462 X) (kb n) j (ix2 k t) else ⊥)
      = blk (keyScore X K n t j) n k := fun j k => by
    rw [hs j n hn k]
    unfold blk
    rw [hu n hn k]
    unfold keyScore
    exact if_congr (by show k.val / 64 ≤ t.val / 64 ↔ (512 * n + k.val) / 64 ≤ (512 * n + t.val) / 64; omega) rfl rfl
  have hv : ∀ (j : Fin 4) (hj : j.val / 2 = h.val) (i : ℕ), i < n + 1 → ∀ k, valuesOf k0_pay463 (vb i) j (ix2 ⟨e.val, by omega⟩ k)
      = blk (fun u => V (ix3 ⟨u.val / 512, by omega⟩ ⟨h.val * 128 + e.val, by omega⟩ ⟨u.val % 512, by omega⟩)) i k := fun j hj i hi k => by
    rw [valuesOf_at, hvb i (by omega)]
    unfold blk
    rw [hu i (by omega) k]
    have a : (⟨i, by omega⟩ : Fin 16) = ⟨(512 * i + k.val) / 512, by omega⟩ := Fin.ext (by show i = (512 * i + k.val) / 512; omega)
    have b : (⟨j.val / 2 * 128 + e.val, by omega⟩ : Fin 256) = ⟨h.val * 128 + e.val, by omega⟩ := Fin.ext (by show j.val / 2 * 128 + e.val = h.val * 128 + e.val; rw [hj])
    have d : k = ⟨(512 * i + k.val) % 512, by omega⟩ := Fin.ext (by show k.val = (512 * i + k.val) % 512; omega)
    rw [a, b]
    exact congrArg (fun z => V (ix3 _ _ z)) d
  have h1 : ∀ (j : Fin 4) (i : ℕ), i < n + 1 → ∀ k, valuesOf k0_pay463 (vb i) j (ix2 ⟨128, by decide⟩ k) = (fun (_ : ℕ) (_ : Fin 512) => Ideal.ofBits .bf16 0x3F80#16) i k :=
    fun j i _ k => valuesOf_one (vb i) j k
  rw [end_at k0_pay463 vb hst ⟨2 * h.val, by omega⟩ t ⟨e.val, by omega⟩ n (hx _) (hv _ (by show 2 * h.val / 2 = h.val; omega)) (hd _),
    end_at k0_pay463 vb hst ⟨2 * h.val, by omega⟩ t ⟨128, by decide⟩ n (hx _) (h1 _) (hd _),
    end_at k0_pay463 vb hst ⟨2 * h.val + 1, by omega⟩ t ⟨e.val, by omega⟩ n (hx _) (hv _ (by show (2 * h.val + 1) / 2 = h.val; omega)) (hd _),
    end_at k0_pay463 vb hst ⟨2 * h.val + 1, by omega⟩ t ⟨128, by decide⟩ n (hx _) (h1 _) (hd _)]
  obtain ⟨l, hl⟩ := hlam
  have hVr := fun u : Fin 8192 => hV (ix3 ⟨u.val / 512, by omega⟩ ⟨h.val * 128 + e.val, by omega⟩ ⟨u.val % 512, by omega⟩)
  choose Vr hVr using hVr
  exact swept_eq hl (by omega) (by omega) (keyScore_ok X K n t _ hX hK) (keyScore_ok X K n t _ hX hK) hVr

end Cert.KernelIdeal.Mix

end
-- ==== Proof.MixPre.lean ====
/-
  What the finiteness precondition gives: every query, key, value and factor entry is a real number.
-/
module

public import proofs.«01_k».proof.Defs
public import proofs.«01_k».proof.Proof.MixFlow
public import Idealize.ShloMosaic.Lib.ReduceAll
public import Idealize.ShloMosaic.Lib.Tactic.CleanTypes

@[expose] public section

set_option maxRecDepth 16384

noncomputable section

namespace Cert.KernelIdeal.Mix

open Cert.KernelIdeal Cert.KernelIdeal.Gen Cert.MixMath Idealize.ShloMosaic Idealize.ShloMosaic.TcCoe

theorem real_of_lt {x : EReal} (h : Ideal.cmp .olt (max x (-x)) (Ideal.ofBits .f32 0x7F800000#32) = 1#1) : real x := by
  have e : Ideal.ofBits .f32 0x7F800000#32 = ⊤ := by simp [Ideal.ofBits, Ideal.ieee]
  have h' : max x (-x) < ⊤ := by
    rw [← e]
    exact (Ideal.cmp_olt_eq_one _ _).1 h
  induction x using EReal.rec with
  | bot => exact absurd h' (by simp)
  | coe r => exact ⟨r, rfl⟩
  | top => exact absurd h' (by simp)

instance : Subsingleton Cert.Pre_finite.S_.Idx := ⟨fun a b => funext fun i => i.elim0⟩

theorem finite_real [Cert.Pre_finite.Facts] (qk vt a b d f w r k p q v g) (h : Cert.Pre_finite.fn (F := Ideal) qk vt a b d f w r k p q v g = fun _ => 1#1) :
    (∀ i, real (qk i)) ∧ (∀ i, real (vt i)) ∧ (∀ i, real (a i)) ∧ (∀ i, real (b i)) ∧ (∀ i, real (d i)) ∧ (∀ i, real (f i)) := by
  have h0 := congrFun h ix0
  unfold Cert.Pre_finite.fn Cert.Pre_finite.fn_part1 at h0
  simp only [andi_apply] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  refine ⟨fun i => ?_, fun i => ?_, fun i => ?_, fun i => ?_, fun i => ?_, fun i => ?_⟩
  · exact real_of_lt (Host.reduce_andi_all _ _ _ _ _ h1 i)
  · exact real_of_lt (Host.reduce_andi_all _ _ _ _ _ h2 i)
  · exact real_of_lt (Host.reduce_andi_all _ _ _ _ _ h3 i)
  · exact real_of_lt (Host.reduce_andi_all _ _ _ _ _ h4 i)
  · exact real_of_lt (Host.reduce_andi_all _ _ _ _ _ h5 i)
  · exact real_of_lt (Host.reduce_andi_all _ _ _ _ _ h6 i)

/-- The factor of the second softmax is real. -/
theorem factor_real {a b d f : Vec Ideal S1x64 .f32} (ha : ∀ i, real (a i)) (hb : ∀ i, real (b i)) (hd : ∀ i, real (d i)) (hf : ∀ i, real (f i)) :
    real (k0_pay2158 a b d f (ix2 0 0)) := by
  rw [pay2158_at]
  obtain ⟨x, hx⟩ := real_sum_mul (fun x : Fin 64 => ha (ix2 0 x)) (fun x => hb (ix2 0 x))
  obtain ⟨y, hy⟩ := real_sum_mul (fun x : Fin 64 => hd (ix2 0 x)) (fun x => hf (ix2 0 x))
  rw [hx, hy]
  have e : Ideal.ofBits .f32 0x3E4CCCCD#32 = ((13421773 * 2 ^ (-26 : ℤ) : ℝ) : EReal) := by
    simp [Ideal.ofBits, Ideal.ieee]
  exact ⟨Real.exp x - Real.exp y + 13421773 * 2 ^ (-26 : ℤ), by rw [e, EReal.coe_add, EReal.coe_sub]; rfl⟩

end Cert.KernelIdeal.Mix

end
-- ==== Proof.MixSpec.lean ====
/-
  The attention reference read at an index: masked scores, two softmaxes, their difference against the values, the norm.
-/
module

public import proofs.«01_k».proof.Proof.MixMath
public import proofs.«01_k».proof.Proof.Gen.ReferenceIdeal.Run
public import Idealize.ShloMosaic.Lib.Tactic.CleanTypes

@[expose] public section

set_option maxRecDepth 16384

noncomputable section

namespace Cert.MixRef

open Cert.ReferenceIdeal Cert.ReferenceIdeal.Gen Cert.MixMath Idealize.ShloMosaic Idealize.ShloMosaic.TcCoe

/-- The masked score of row `r`'s query of half head `n` against key `u`. -/
def score (qk : FVec Ideal S16384x1024 .bf16) (r : Fin 16384) (n : Fin 8) (u : Fin 8192) : EReal :=
  Scalar.select (IntOp.cmpi .sle (BitVec.ofNat 32 (u.val / 64)) (BitVec.ofNat 32 (r.val % 8192 / 64)))
    (∑ x : Fin 64, qk (ix2 r ⟨n.val * 64 + x.val, by omega⟩) * qk (ix2 ⟨r.val / 8192 * 8192 + u.val, by omega⟩ ⟨512 + (n.val * 64 + x.val), by omega⟩))
    (Ideal.ofBits .f32 0xFF800000#32)

/-- Feature `e` of the value at key `u`, for row `r`. -/
def value (vt : FVec Ideal S32x512x512 .bf16) (r : Fin 16384) (e : Fin 512) (u : Fin 8192) : EReal :=
  vt (ix3 ⟨r.val / 8192 * 16 + u.val / 512, by omega⟩ e ⟨u.val % 512, by omega⟩)

/-- The factor of the second softmax. -/
def factor (a b d f : FVec Ideal S64 .f32) : EReal :=
  Ideal.exp (∑ x, a (ix1 x) * b (ix1 x)) - Ideal.exp (∑ x, d (ix1 x) * f (ix1 x)) + Ideal.ofBits .f32 0x3E4CCCCD#32

/-- Row `r` of head `h` before the norm. -/
def raw (qk : FVec Ideal S16384x1024 .bf16) (vt : FVec Ideal S32x512x512 .bf16) (a b d f : FVec Ideal S64 .f32) (r : Fin 16384) (h : Fin 4) (e : Fin 128) : EReal :=
  attend (factor a b d f) (score qk r ⟨h.val * 2, by omega⟩) (score qk r ⟨h.val * 2 + 1, by omega⟩) (value vt r ⟨h.val * 128 + e.val, by omega⟩)

/-- Row `r` of head `h`. -/
def row (qk : FVec Ideal S16384x1024 .bf16) (vt : FVec Ideal S32x512x512 .bf16) (a b d f : FVec Ideal S64 .f32) (w : FVec Ideal S128 .f32) (r : Fin 16384) (h : Fin 4)
    (e : Fin 128) : EReal := subnorm (raw qk vt a b d f r h) (fun e => w (ix1 e)) e

/-- The score by batch and position. -/
def sc (qk : FVec Ideal S16384x1024 .bf16) (b : Fin 2) (n : Fin 8) (t u : Fin 8192) : EReal :=
  Scalar.select (IntOp.cmpi .sle (BitVec.ofNat 32 (u.val / 64)) (BitVec.ofNat 32 (t.val / 64)))
    (∑ x : Fin 64, qk (ix2 ⟨b.val * 8192 + t.val, by omega⟩ ⟨n.val * 64 + x.val, by omega⟩) * qk (ix2 ⟨b.val * 8192 + u.val, by omega⟩ ⟨512 + (n.val * 64 + x.val), by omega⟩))
    (Ideal.ofBits .f32 0xFF800000#32)

theorem score_sc (qk : FVec Ideal S16384x1024 .bf16) (r : Fin 16384) (n : Fin 8) (u : Fin 8192) :
    score qk r n u = sc qk ⟨r.val / 8192, by omega⟩ n ⟨r.val % 8192, by omega⟩ u := by
  unfold score sc
  have h : (⟨r.val / 8192 * 8192 + r.val % 8192, by omega⟩ : Fin 16384) = r := Fin.ext (Nat.div_add_mod' r.val 8192)
  simp only [h]

theorem neg_inf : constant (F := Ideal) S_ .f32 0xFF800000#32 ix0 = Ideal.ofBits .f32 0xFF800000#32 := rfl

/-- A head's feature before the norm, by batch and position. -/
def feat (qk : FVec Ideal S16384x1024 .bf16) (vt : FVec Ideal S32x512x512 .bf16) (a b d f : FVec Ideal S64 .f32) (B : Fin 2) (t : Fin 8192) (h : Fin 4) (e : Fin 128) : EReal :=
  attend (factor a b d f) (sc qk B ⟨h.val * 2, by omega⟩ t) (sc qk B ⟨h.val * 2 + 1, by omega⟩ t)
    fun u => vt (ix3 ⟨B.val * 16 + u.val / 512, by omega⟩ ⟨h.val * 128 + e.val, by omega⟩ ⟨u.val % 512, by omega⟩)

theorem raw_feat (qk : FVec Ideal S16384x1024 .bf16) (vt : FVec Ideal S32x512x512 .bf16) (a b d f : FVec Ideal S64 .f32) (r : Fin 16384) (h : Fin 4) (e : Fin 128) :
    raw qk vt a b d f r h e = feat qk vt a b d f ⟨r.val / 8192, by omega⟩ ⟨r.val % 8192, by omega⟩ h e := by
  unfold raw feat
  have h0 : score qk r ⟨h.val * 2, by omega⟩ = _ := funext fun u => score_sc qk r ⟨h.val * 2, by omega⟩ u
  have h1 : score qk r ⟨h.val * 2 + 1, by omega⟩ = _ := funext fun u => score_sc qk r ⟨h.val * 2 + 1, by omega⟩ u
  rw [h0, h1]
  rfl

end Cert.MixRef

end
-- ==== Proof.MixArray.lean ====
/-
  The blocks the sequence mixer's launch reads and the attention block it writes, as functions of the argument arrays.
-/
module

public import proofs.«01_k».proof.Proof.MixPre
public import proofs.«01_k».proof.Proof.MixSpec
public import proofs.«01_k».proof.Proof.MixSweep
public import Idealize.ShloMosaic.Lib.Claim
public import Idealize.ShloMosaic.Lib.WritesUnit
public import Idealize.ShloMosaic.Lib.VecWindow
public import Idealize.ShloMosaic.Lib.Pipeline.Value
public import Idealize.ShloMosaic.Lib.Pipeline.ValueKit.Point

@[expose] public section

set_option maxRecDepth 16384

noncomputable section

namespace Cert.KernelIdeal.Mix

open Cert.KernelIdeal Cert.KernelIdeal.Gen Cert.MixMath Idealize.ShloMosaic Idealize.ShloMosaic.TcCoe

theorem key_at (arg2 : Memref sig .tc .vmem S8192x256 .bf16) (f2 : BufTy.Contents (Elt Ideal) arg2.view.ty) (i : ℕ) (hi : i ≤ 15) (k : Fin 512) (c : Fin 256) :
    keySlab arg2 f2 i (ix2 k c) = arg2.view.read (Elt Ideal) f2 (ix2 ⟨512 * i + k.val, by omega⟩ c) :=
  congrArg (arg2.view.read (Elt Ideal) f2) (funext fun a => Fin.ext (by
    match a with
    | 0 => show 512 * min i 15 + 1 * k.val = 512 * i + k.val; rw [min_eq_left hi, Nat.one_mul]
    | 1 => show 0 + 1 * c.val = c.val; omega))

theorem val_at (arg3 : Memref sig .tc .vmem S16x256x512 .bf16) (f3 : BufTy.Contents (Elt Ideal) arg3.view.ty) (i : ℕ) (hi : i ≤ 15) (c : Fin 256) (k : Fin 512) :
    valSlab arg3 f3 i (ix3 0 c k) = arg3.view.read (Elt Ideal) f3 (ix3 ⟨i, by omega⟩ c k) :=
  congrArg (arg3.view.read (Elt Ideal) f3) (funext fun a => Fin.ext (by
    match a with
    | 0 => show min i 15 + 1 * 0 = i; omega
    | 1 => show 0 + 1 * c.val = c.val; omega
    | 2 => show 0 + 1 * k.val = k.val; omega))

/-- The two stores of a point's heads, read back. -/
theorem out_at (arg15 : Memref sig .tc .vmem S512x256 .bf16) (f15 : BufTy.Contents (Elt Ideal) arg15.view.ty) (B1 B0 : FVec Ideal S512x128 .bf16) (r : Fin 512) (e : Fin 128) :
    arg15.view.read (Elt Ideal) (arg15.view.writes (Elt Ideal) f15 [⟨Rect.unit (s := S512x256) ![0, 128] S512x128.size inb_S512x256_S512x128_0_128, B1⟩,
        ⟨Rect.unit (s := S512x256) ![0, 0] S512x128.size inb_S512x256_S512x128_0_0, B0⟩]) (ix2 r ⟨e.val, by omega⟩) = B0 (ix2 r e)
    ∧ arg15.view.read (Elt Ideal) (arg15.view.writes (Elt Ideal) f15 [⟨Rect.unit (s := S512x256) ![0, 128] S512x128.size inb_S512x256_S512x128_0_128, B1⟩,
        ⟨Rect.unit (s := S512x256) ![0, 0] S512x128.size inb_S512x256_S512x128_0_0, B0⟩]) (ix2 r ⟨128 + e.val, by omega⟩) = B1 (ix2 r e) := by
  constructor
  · have h1 := View.read_writes_cons_unit_of_not_mem (Val := Elt Ideal) arg15.view f15 inb_S512x256_S512x128_0_128 B1
      [⟨Rect.unit (s := S512x256) ![0, 0] S512x128.size inb_S512x256_S512x128_0_0, B0⟩] (ix2 r ⟨e.val, by omega⟩) rfl 1 (.inl (show e.val < 128 from e.isLt))
    refine h1.trans (View.read_writes_cons_unit_of_mem (Val := Elt Ideal) arg15.view f15 inb_S512x256_S512x128_0_0 B0 [] (ix2 r ⟨e.val, by omega⟩) (ix2 r e) rfl ?_)
    · intro a
      match a with
      | 0 => show r.val = 0 + r.val; omega
      | 1 => show e.val = 0 + e.val; omega
  · refine View.read_writes_cons_unit_of_mem (Val := Elt Ideal) arg15.view f15 inb_S512x256_S512x128_0_128 B1
      [⟨Rect.unit (s := S512x256) ![0, 0] S512x128.size inb_S512x256_S512x128_0_0, B0⟩] (ix2 r ⟨128 + e.val, by omega⟩) (ix2 r e) rfl ?_
    intro a
    match a with
    | 0 => show r.val = 0 + r.val; omega
    | 1 => rfl

variable (m : (ℓ : Loc nD τ sig) → Buf (Elt Ideal) ℓ)

/-- The attention of the arguments. -/
def G (c : Dev nD) : FVec Ideal S16384x512 .bf16 := fun i =>
  MixRef.row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) ⟨(i 1).val / 128, by have := (i 1).isLt; change (i 1).val < 512 at this; omega⟩
    ⟨(i 1).val % 128, by omega⟩

/-- Where the windows stand at a point: batch `t / 32`, pair of heads `t / 16 % 2`, query block `t % 16`. -/
theorem idx : ∀ t : Fin cfg0.N, win0_0.index t = ![t.val / 32 * 16 + t.val % 16, t.val / 16 % 2] ∧ win0_1.index t = ![t.val / 32, 2 + t.val / 16 % 2]
    ∧ win0_2.index t = ![t.val / 32, t.val / 16 % 2, 0] ∧ win0_3.index t = ![0, 0] ∧ win0_4.index t = ![0, 0] ∧ win0_5.index t = ![0, 0]
    ∧ win0_6.index t = ![0, 0] ∧ win0_7.index t = ![0, 0] ∧ win0_14.index t = ![t.val / 32 * 16 + t.val % 16, t.val / 16 % 2] :=
  (by decide +kernel : ∀ t : Fin grid0.N, _)

theorem qi_at : ∀ t : Fin cfg0.N, qi (grid0.coords t) = t.val % 16 := (by decide +kernel : ∀ t : Fin grid0.N, _)

theorem lt64 (t : Fin cfg0.N) : t.val < 64 := lt_of_lt_of_eq t.isLt Gen.N_0

/-- Row `r` of a point's block. -/
def row (t : Fin cfg0.N) (r : Fin 512) : Fin 16384 := ⟨512 * (t.val / 32 * 16 + t.val % 16) + r.val, by have := lt64 t; omega⟩

/-- Column `e` of a point's block. -/
def col (t : Fin cfg0.N) (e : Fin 256) : Fin 512 := ⟨256 * (t.val / 16 % 2) + e.val, by omega⟩

theorem blk0 (c : Dev nD) (t : Fin cfg0.N) (r : Fin 512) (e : Fin 256) :
    iblk m c 0 t (ix2 r e) = m ((c : Thread nD τ).loc main_arg0) (ix2 (row t r) ⟨(col t e).val, by have := (col t e).isLt; omega⟩) := by
  blk_ext! [iblk, V, row, col, (idx t).1]

theorem blk1 (c : Dev nD) (t : Fin cfg0.N) (u : Fin 8192) (e : Fin 256) :
    iblk m c 1 t (ix2 u e) = m ((c : Thread nD τ).loc main_arg0)
      (ix2 ⟨8192 * (t.val / 32) + u.val, by have := lt64 t; omega⟩ ⟨256 * (2 + t.val / 16 % 2) + e.val, by omega⟩) := by
  blk_ext! [iblk, V, (idx t).2.1]

theorem blk2 (c : Dev nD) (t : Fin cfg0.N) (i : Fin 16) (e : Fin 256) (k : Fin 512) :
    iblk m c 2 t (ix3 i e k) = m ((c : Thread nD τ).loc main_arg1)
      (ix3 ⟨16 * (t.val / 32) + i.val, by have := lt64 t; omega⟩ (col t e) k) := by
  blk_ext! [iblk, V, col, (idx t).2.2.1]

theorem V_v0 (c : Dev nD) : V m c main_v0 = shapeCast S1x64 (m ((c : Thread nD τ).loc main_arg2)) shapeCasts_S64_S1x64 := by
  show StableHlo.after hostOps0 (fun b => m (c, b)) (Proc.devRef .tc main_v0) = _
  unfold hostOps0
  after_results
  rfl

theorem V_v1 (c : Dev nD) : V m c main_v1 = shapeCast S1x64 (m ((c : Thread nD τ).loc main_arg3)) shapeCasts_S64_S1x64 := by
  show StableHlo.after hostOps0 (fun b => m (c, b)) (Proc.devRef .tc main_v1) = _
  unfold hostOps0
  after_results
  rfl

theorem V_v2 (c : Dev nD) : V m c main_v2 = shapeCast S1x64 (m ((c : Thread nD τ).loc main_arg4)) shapeCasts_S64_S1x64 := by
  show StableHlo.after hostOps0 (fun b => m (c, b)) (Proc.devRef .tc main_v2) = _
  unfold hostOps0
  after_results
  rfl

theorem V_v3 (c : Dev nD) : V m c main_v3 = shapeCast S1x64 (m ((c : Thread nD τ).loc main_arg5)) shapeCasts_S64_S1x64 := by
  show StableHlo.after hostOps0 (fun b => m (c, b)) (Proc.devRef .tc main_v3) = _
  unfold hostOps0
  after_results
  rfl

theorem V_v4 (c : Dev nD) : V m c main_v4 = shapeCast S1x128 (m ((c : Thread nD τ).loc main_arg6)) shapeCasts_S128_S1x128 := by
  show StableHlo.after hostOps0 (fun b => m (c, b)) (Proc.devRef .tc main_v4) = _
  unfold hostOps0
  after_results
  rfl

theorem blk3 (c : Dev nD) (t : Fin cfg0.N) (x : Fin 64) : iblk m c 3 t (ix2 0 x) = m ((c : Thread nD τ).loc main_arg2) (ix1 x) := by
  unfold iblk
  show V m c main_v0 ((win0_3.blk t).view.emb (ix2 0 x)) = _
  rw [V_v0, show (win0_3.blk t).view.emb (ix2 0 x) = ix2 0 x by blk_ext [(idx t).2.2.2.1]]
  pointwise []

theorem blk4 (c : Dev nD) (t : Fin cfg0.N) (x : Fin 64) : iblk m c 4 t (ix2 0 x) = m ((c : Thread nD τ).loc main_arg3) (ix1 x) := by
  unfold iblk
  show V m c main_v1 ((win0_4.blk t).view.emb (ix2 0 x)) = _
  rw [V_v1, show (win0_4.blk t).view.emb (ix2 0 x) = ix2 0 x by blk_ext [(idx t).2.2.2.2.1]]
  pointwise []

theorem blk5 (c : Dev nD) (t : Fin cfg0.N) (x : Fin 64) : iblk m c 5 t (ix2 0 x) = m ((c : Thread nD τ).loc main_arg4) (ix1 x) := by
  unfold iblk
  show V m c main_v2 ((win0_5.blk t).view.emb (ix2 0 x)) = _
  rw [V_v2, show (win0_5.blk t).view.emb (ix2 0 x) = ix2 0 x by blk_ext [(idx t).2.2.2.2.2.1]]
  pointwise []

theorem blk6 (c : Dev nD) (t : Fin cfg0.N) (x : Fin 64) : iblk m c 6 t (ix2 0 x) = m ((c : Thread nD τ).loc main_arg5) (ix1 x) := by
  unfold iblk
  show V m c main_v3 ((win0_6.blk t).view.emb (ix2 0 x)) = _
  rw [V_v3, show (win0_6.blk t).view.emb (ix2 0 x) = ix2 0 x by blk_ext [(idx t).2.2.2.2.2.2.1]]
  pointwise []

theorem blk7 (c : Dev nD) (t : Fin cfg0.N) (e : Fin 128) : iblk m c 7 t (ix2 0 e) = m ((c : Thread nD τ).loc main_arg6) (ix1 e) := by
  unfold iblk
  show V m c main_v4 ((win0_7.blk t).view.emb (ix2 0 e)) = _
  rw [V_v4, show (win0_7.blk t).view.emb (ix2 0 e) = ix2 0 e by blk_ext [(idx t).2.2.2.2.2.2.2.1]]
  pointwise []

/-- The mask's comparison of chunk numbers, as a condition. -/
theorem score_if (qk : FVec Ideal S16384x1024 .bf16) (r : Fin 16384) (n : Fin 8) (u : Fin 8192) : MixRef.score qk r n u
    = if u.val / 64 ≤ r.val % 8192 / 64 then
        ∑ x : Fin 64, qk (ix2 r ⟨n.val * 64 + x.val, by omega⟩) * qk (ix2 ⟨r.val / 8192 * 8192 + u.val, by omega⟩ ⟨512 + (n.val * 64 + x.val), by omega⟩)
      else ⊥ := by
  unfold MixRef.score
  rw [chunk_le ⟨u.val / 64, by omega⟩ ⟨r.val % 8192 / 64, by omega⟩, bot_eq]
  split <;> simp [Scalar.select]

/-- A stream's masked scores are the reference's. -/
theorem score_eq (c : Dev nD) (t : Fin cfg0.N) (r : Fin 512) (j : Fin 4) (u : Fin 8192) :
    keyScore (iblk m c 0 t) (iblk m c 1 t) (t.val % 16) r j u
      = MixRef.score (m ((c : Thread nD τ).loc main_arg0)) (row t r) ⟨4 * (t.val / 16 % 2) + j.val, by omega⟩ u := by
  have ht := lt64 t
  rw [score_if]
  unfold keyScore
  refine if_congr ?_ (Finset.sum_congr rfl fun x _ => ?_) rfl
  · unfold row
    show _ ≤ (512 * (t.val % 16) + r.val) / 64 ↔ _ ≤ (512 * (t.val / 32 * 16 + t.val % 16) + r.val) % 8192 / 64
    have : (512 * (t.val / 32 * 16 + t.val % 16) + r.val) % 8192 = 512 * (t.val % 16) + r.val := by omega
    rw [this]
  · rw [blk0, blk1, mul_comm]
    have e1 : (⟨(col t ⟨j.val * 64 + x.val, by omega⟩).val, by have := (col t ⟨j.val * 64 + x.val, by omega⟩).isLt; omega⟩ : Fin 1024)
        = ⟨(4 * (t.val / 16 % 2) + j.val) * 64 + x.val, by omega⟩ := Fin.ext (by
        show 256 * (t.val / 16 % 2) + (j.val * 64 + x.val) = (4 * (t.val / 16 % 2) + j.val) * 64 + x.val; omega)
    have e2 : (⟨8192 * (t.val / 32) + u.val, by omega⟩ : Fin 16384) = ⟨(row t r).val / 8192 * 8192 + u.val, by have := (row t r).isLt; omega⟩ :=
      Fin.ext (by show 8192 * (t.val / 32) + u.val = (512 * (t.val / 32 * 16 + t.val % 16) + r.val) / 8192 * 8192 + u.val; omega)
    have e3 : (⟨256 * (2 + t.val / 16 % 2) + (j.val * 64 + x.val), by omega⟩ : Fin 1024) = ⟨512 + ((4 * (t.val / 16 % 2) + j.val) * 64 + x.val), by omega⟩ :=
      Fin.ext (by show 256 * (2 + t.val / 16 % 2) + (j.val * 64 + x.val) = 512 + ((4 * (t.val / 16 % 2) + j.val) * 64 + x.val); omega)
    rw [e1, e2, e3]

/-- A head's features before the norm are the reference's. -/
theorem raw_eq (c : Dev nD) (t : Fin cfg0.N) (r : Fin 512) (h : Fin 2) (e : Fin 128) :
    headRaw (k0_pay2158 (iblk m c 3 t) (iblk m c 4 t) (iblk m c 5 t) (iblk m c 6 t) (ix2 0 0)) (iblk m c 0 t) (iblk m c 1 t) (iblk m c 2 t) (t.val % 16) r h e
      = MixRef.raw (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (row t r) ⟨2 * (t.val / 16 % 2) + h.val, by omega⟩ e := by
  have ht := lt64 t
  unfold headRaw MixRef.raw
  have hl : (k0_pay2158 (iblk m c 3 t) (iblk m c 4 t) (iblk m c 5 t) (iblk m c 6 t) (ix2 0 0) : EReal)
      = MixRef.factor (m ((c : Thread nD τ).loc main_arg2)) (m ((c : Thread nD τ).loc main_arg3)) (m ((c : Thread nD τ).loc main_arg4))
        (m ((c : Thread nD τ).loc main_arg5)) := by
    rw [pay2158_at]
    simp only [blk3, blk4, blk5, blk6]
    rfl
  have n0 : (⟨4 * (t.val / 16 % 2) + 2 * h.val, by omega⟩ : Fin 8) = ⟨(2 * (t.val / 16 % 2) + h.val) * 2, by omega⟩ := Fin.ext (by
    show 4 * (t.val / 16 % 2) + 2 * h.val = (2 * (t.val / 16 % 2) + h.val) * 2; omega)
  have n1 : (⟨4 * (t.val / 16 % 2) + (2 * h.val + 1), by omega⟩ : Fin 8) = ⟨(2 * (t.val / 16 % 2) + h.val) * 2 + 1, by omega⟩ := Fin.ext (by
    show 4 * (t.val / 16 % 2) + (2 * h.val + 1) = (2 * (t.val / 16 % 2) + h.val) * 2 + 1; omega)
  have h0 : keyScore (iblk m c 0 t) (iblk m c 1 t) (t.val % 16) r ⟨2 * h.val, by omega⟩
      = MixRef.score (m ((c : Thread nD τ).loc main_arg0)) (row t r) ⟨(2 * (t.val / 16 % 2) + h.val) * 2, by omega⟩ := by
    rw [← n0]; exact funext fun u => score_eq m c t r ⟨2 * h.val, by omega⟩ u
  have h1 : keyScore (iblk m c 0 t) (iblk m c 1 t) (t.val % 16) r ⟨2 * h.val + 1, by omega⟩
      = MixRef.score (m ((c : Thread nD τ).loc main_arg0)) (row t r) ⟨(2 * (t.val / 16 % 2) + h.val) * 2 + 1, by omega⟩ := by
    rw [← n1]; exact funext fun u => score_eq m c t r ⟨2 * h.val + 1, by omega⟩ u
  have hv : (fun u : Fin 8192 => (iblk m c 2 t (ix3 ⟨u.val / 512, by omega⟩ ⟨h.val * 128 + e.val, by omega⟩ ⟨u.val % 512, by omega⟩) : EReal))
      = MixRef.value (m ((c : Thread nD τ).loc main_arg1)) (row t r) ⟨(2 * (t.val / 16 % 2) + h.val) * 128 + e.val, by omega⟩ := funext fun u => by
    rw [blk2]
    unfold MixRef.value
    have e1 : (⟨16 * (t.val / 32) + u.val / 512, by omega⟩ : Fin 32) = ⟨(row t r).val / 8192 * 16 + u.val / 512, by have := (row t r).isLt; omega⟩ :=
      Fin.ext (by show 16 * (t.val / 32) + u.val / 512 = (512 * (t.val / 32 * 16 + t.val % 16) + r.val) / 8192 * 16 + u.val / 512; omega)
    have e2 : col t ⟨h.val * 128 + e.val, by omega⟩ = ⟨(2 * (t.val / 16 % 2) + h.val) * 128 + e.val, by omega⟩ :=
      Fin.ext (by show 256 * (t.val / 16 % 2) + (h.val * 128 + e.val) = (2 * (t.val / 16 % 2) + h.val) * 128 + e.val; omega)
    rw [← e1, ← e2]
  rw [hl, h0, h1, hv]

/-- What a head's block holds is the reference's entry. -/
theorem entry_at (c : Dev nD) (t : Fin cfg0.N) (r : Fin 512) (h : Fin 2) (e : Fin 128) (z : Fin 256) (hz : z.val = h.val * 128 + e.val) :
    subnorm (headRaw (k0_pay2158 (iblk m c 3 t) (iblk m c 4 t) (iblk m c 5 t) (iblk m c 6 t) (ix2 0 0)) (iblk m c 0 t) (iblk m c 1 t) (iblk m c 2 t) (t.val % 16) r h)
        (fun e => iblk m c 7 t (ix2 0 e)) e = G m c (ix2 (row t r) (col t z)) := by
  unfold G
  have ez : (col t z).val = (2 * (t.val / 16 % 2) + h.val) * 128 + e.val := by show 256 * (t.val / 16 % 2) + z.val = _; omega
  have a : (⟨(col t z).val / 128, by have := (col t z).isLt; omega⟩ : Fin 4) = ⟨2 * (t.val / 16 % 2) + h.val, by omega⟩ := Fin.ext (by
    show (col t z).val / 128 = 2 * (t.val / 16 % 2) + h.val; omega)
  have b : (⟨(col t z).val % 128, by omega⟩ : Fin 128) = e := Fin.ext (by show (col t z).val % 128 = e.val; omega)
  show _ = MixRef.row _ _ _ _ _ _ _ (row t r) ⟨(col t z).val / 128, _⟩ ⟨(col t z).val % 128, _⟩
  rw [a, b]
  unfold MixRef.row
  rw [funext fun e => raw_eq m c t r h e, funext fun e => blk7 m c t e]

section Block

variable {m}

theorem real0 {c : Dev nD} (h : ∀ y, real (m ((c : Thread nD τ).loc main_arg0) y)) (t : Fin cfg0.N) (y : S512x256.Idx) : real (iblk m c 0 t y) := by
  idx_vars y
  rw [blk0]
  exact h _

theorem real1 {c : Dev nD} (h : ∀ y, real (m ((c : Thread nD τ).loc main_arg0) y)) (t : Fin cfg0.N) (y : S8192x256.Idx) : real (iblk m c 1 t y) := by
  idx_vars y
  rw [blk1]
  exact h _

theorem real2 {c : Dev nD} (h : ∀ y, real (m ((c : Thread nD τ).loc main_arg1) y)) (t : Fin cfg0.N) (y : S16x256x512.Idx) : real (iblk m c 2 t y) := by
  idx_vars y
  rw [blk2]
  exact h _

theorem upper (z : Fin 256) (hz : ¬ z.val < 128) : ∃ e : Fin 128, z = ⟨128 + e.val, Nat.add_lt_add_left e.isLt 128⟩ :=
  ⟨⟨z.val - 128, by omega⟩, Fin.ext (by show z.val = 128 + (z.val - 128); omega)⟩

theorem row_real (a : Vec Ideal S1x64 .f32) (g : FVec Ideal S64 .f32) (h : ∀ x, a (ix2 0 x) = g (ix1 x)) (hg : ∀ y, real (g y)) (y : S1x64.Idx) : real (a y) := by
  idx_vars y
  obtain rfl : y0 = 0 := Subsingleton.elim _ _
  rw [h]
  exact hg _

/-- The block a point writes is the reference's block. -/
theorem block_at (c : Dev nD) (h0 : ∀ y, real (m ((c : Thread nD τ).loc main_arg0) y)) (h1 : ∀ y, real (m ((c : Thread nD τ).loc main_arg1) y))
    (h2 : ∀ y, real (m ((c : Thread nD τ).loc main_arg2) y)) (h3 : ∀ y, real (m ((c : Thread nD τ).loc main_arg3) y))
    (h4 : ∀ y, real (m ((c : Thread nD τ).loc main_arg4) y)) (h5 : ∀ y, real (m ((c : Thread nD τ).loc main_arg5) y)) (t : Fin cfg0.N)
    (arg2 : Memref sig .tc .vmem S8192x256 .bf16) (f2 : BufTy.Contents (Elt Ideal) arg2.view.ty) (e2 : arg2.view.read (Elt Ideal) f2 = iblk m c 1 t)
    (arg3 : Memref sig .tc .vmem S16x256x512 .bf16) (f3 : BufTy.Contents (Elt Ideal) arg3.view.ty) (e3 : arg3.view.read (Elt Ideal) f3 = iblk m c 2 t)
    (X : Vec Ideal S512x256 .bf16) (eX : X = iblk m c 0 t) (a b d f : Vec Ideal S1x64 .f32) (ea : a = iblk m c 3 t) (eb : b = iblk m c 4 t)
    (ed : d = iblk m c 5 t) (ef : f = iblk m c 6 t) (w : Vec Ideal S1x128 .f32) (ew : w = iblk m c 7 t)
    (arg15 : Memref sig .tc .vmem S512x256 .bf16) (f15 : BufTy.Contents (Elt Ideal) arg15.view.ty) (st : State Ideal)
    (hst : Start (k0_pay459 X) (k0_pay460 X) (k0_pay461 X) (k0_pay462 X) (keySlab arg2 f2 0) st) :
    arg15.view.read (Elt Ideal) (arg15.view.writes (Elt Ideal) f15
      [⟨Rect.unit (s := S512x256) ![0, 128] S512x128.size inb_S512x256_S512x128_0_128, headOut (k0_pay2158 a b d f)
          ((sweepAll (k0_pay459 X) (k0_pay460 X) (k0_pay461 X) (k0_pay462 X) k0_pay463 (keySlab arg2 f2) (valSlab arg3 f3) st (qi (grid0.coords t))).endOf
            k0_pay463 (valSlab arg3 f3 (qi (grid0.coords t))) (slot (qi (grid0.coords t))) 2)
          ((sweepAll (k0_pay459 X) (k0_pay460 X) (k0_pay461 X) (k0_pay462 X) k0_pay463 (keySlab arg2 f2) (valSlab arg3 f3) st (qi (grid0.coords t))).endOf
            k0_pay463 (valSlab arg3 f3 (qi (grid0.coords t))) (slot (qi (grid0.coords t))) 3) w⟩,
       ⟨Rect.unit (s := S512x256) ![0, 0] S512x128.size inb_S512x256_S512x128_0_0, headOut (k0_pay2158 a b d f)
          ((sweepAll (k0_pay459 X) (k0_pay460 X) (k0_pay461 X) (k0_pay462 X) k0_pay463 (keySlab arg2 f2) (valSlab arg3 f3) st (qi (grid0.coords t))).endOf
            k0_pay463 (valSlab arg3 f3 (qi (grid0.coords t))) (slot (qi (grid0.coords t))) 0)
          ((sweepAll (k0_pay459 X) (k0_pay460 X) (k0_pay461 X) (k0_pay462 X) k0_pay463 (keySlab arg2 f2) (valSlab arg3 f3) st (qi (grid0.coords t))).endOf
            k0_pay463 (valSlab arg3 f3 (qi (grid0.coords t))) (slot (qi (grid0.coords t))) 1) w⟩])
      = fun y => G m c (ix2 (row t (y 0)) (col t (y 1))) := by
  rw [qi_at]
  subst eX ea eb ed ef ew
  have hlam : real (k0_pay2158 (iblk m c 3 t) (iblk m c 4 t) (iblk m c 5 t) (iblk m c 6 t) (ix2 0 0)) :=
    factor_real (row_real _ _ (blk3 m c t) h2) (row_real _ _ (blk4 m c t) h3) (row_real _ _ (blk5 m c t) h4) (row_real _ _ (blk6 m c t) h5)
  have key : ∀ (h : Fin 2) (r : Fin 512) (e : Fin 128), _ := fun h r e =>
    head_at (k0_pay2158 (iblk m c 3 t) (iblk m c 4 t) (iblk m c 5 t) (iblk m c 6 t)) (iblk m c 0 t) (iblk m c 1 t) (iblk m c 2 t) (iblk m c 7 t)
      (keySlab arg2 f2) (valSlab arg3 f3) st (t.val % 16) (by omega) (fun i hi k x => (key_at arg2 f2 i hi k x).trans (congrFun e2 _))
      (fun i hi x k => (val_at arg3 f3 i hi x k).trans (congrFun e3 _)) hlam (real0 h0 t) (real1 h0 t) (real2 h1 t) hst h r e
  funext y
  idx_vars y
  rename' y0 => r, y1 => z
  show _ = G m c (ix2 (row t r) (col t z))
  by_cases hz : z.val < 128
  · refine ((out_at arg15 f15 _ _ r ⟨z.val, hz⟩).1).trans ((key 0 r ⟨z.val, hz⟩).trans (entry_at m c t r 0 ⟨z.val, hz⟩ z ?_))
    show z.val = 0 * 128 + z.val
    omega
  · obtain ⟨e, he⟩ := upper z hz
    subst he
    refine ((out_at arg15 f15 _ _ r e).2).trans ((key 1 r e).trans (entry_at m c t r 1 e _ ?_))
    show 128 + e.val = 1 * 128 + e.val
    omega

end Block

end Cert.KernelIdeal.Mix

end
-- ==== Proof.MixValue.lean ====
/-
  The sequence mixer's launch with what it writes named: where the queries, keys, values and factors are real numbers, its output
  array ends as the attention of the arguments.
-/
module

public import proofs.«01_k».proof.Proof.MixBody
public import proofs.«01_k».proof.Proof.MixIdealFrame
public import proofs.«01_k».proof.Proof.MixArray

@[expose] public section

set_option maxRecDepth 16384

noncomputable section

namespace Cert.KernelIdeal.MixValue

open Cert.KernelIdeal Cert.KernelIdeal.Gen Cert.KernelIdeal.Mix Cert.MixMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

section Open

variable {F : FTy → Type} [FloatOps F]

local notation "𝕄" => MT nD τ sig Unit (Elt F) ℕ (UR sig nD τ) ℕ

set_option maxHeartbeats 4000000 in
/-- The body's run, from scratch buffers holding anything. -/
theorem body_open (c : Dev nD) (E : Set ℕ) (i : grid0.Coords) (arg1 : Memref sig .tc .vmem S512x256 .bf16) (harg1 : arg1.IsWhole) (arg2 : Memref sig .tc .vmem S8192x256 .bf16) (harg2 : arg2.IsWhole) (arg3 : Memref sig .tc .vmem S16x256x512 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S8x2x128x64 .bf16) (harg9 : arg9.IsWhole) (arg10 : Memref sig .tc .vmem S8x2x128x64 .bf16) (harg10 : arg10.IsWhole) (arg11 : Memref sig .tc .vmem S8x2x128x64 .bf16) (harg11 : arg11.IsWhole) (arg12 : Memref sig .tc .vmem S8x2x128x64 .bf16) (harg12 : arg12.IsWhole) (arg13 : Memref sig .tc .vmem S8x2x128x64 .bf16) (harg13 : arg13.IsWhole) (arg14 : Memref sig .tc .vmem S8x2x128x64 .f32) (harg14 : arg14.IsWhole) (arg15 : Memref sig .tc .vmem S512x256 .bf16) (harg15 : arg15.IsWhole) (arg16 : Memref sig .tc .vmem S2x128x512 .f32) (harg16 : arg16.IsWhole) (arg17 : Memref sig .tc .vmem S4x1x512 .f32) (harg17 : arg17.IsWhole) (arg18 : Memref sig .tc .vmem S4x144x512 .f32) (harg18 : arg18.IsWhole) (arg19 : Memref sig .tc .vmem S2x4x512x512 .f32) (harg19 : arg19.IsWhole) (arg20 : Memref sig .tc .vmem S2x4x1x512 .f32) (harg20 : arg20.IsWhole) (arg21 : Memref sig .tc .vmem S16x64x64 .f32) (harg21 : arg21.IsWhole) (arg22 : Memref sig .tc .vmem S32x64x128 .bf16) (harg22 : arg22.IsWhole) (arg23 : Memref sig .tc .vmem S32x64x128 .bf16) (harg23 : arg23.IsWhole) (arg24 : Memref sig .tc .vmem S32x64x128 .bf16) (harg24 : arg24.IsWhole) (arg25 : Memref sig .tc .vmem S32x64x64 .f32) (harg25 : arg25.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (K : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f)
      ∗ ((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
      ∗ (∃ st0 : State F, ⌜Start (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) (keySlab arg2 f2 0) st0⌝ ∗ (arg15.view.loc (c : Thread nD τ) ↦[arg15.view.set]{fullShare} (arg15.view.writes (Elt F) f15
        [⟨Rect.unit (s := S512x256) ![0, 128] S512x128.size inb_S512x256_S512x128_0_128, headOut (k0_pay2158 (View.readAt (Elt F) arg4.view (Rect.unit (s := S1x64) ![0, 0] S1x64.size inb_S1x64_S1x64_0_0).toLoadRect f4) (View.readAt (Elt F) arg5.view (Rect.unit (s := S1x64) ![0, 0] S1x64.size inb_S1x64_S1x64_0_0).toLoadRect f5) (View.readAt (Elt F) arg6.view (Rect.unit (s := S1x64) ![0, 0] S1x64.size inb_S1x64_S1x64_0_0).toLoadRect f6) (View.readAt (Elt F) arg7.view (Rect.unit (s := S1x64) ![0, 0] S1x64.size inb_S1x64_S1x64_0_0).toLoadRect f7)) ((sweepAll (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) k0_pay463 (keySlab arg2 f2) (valSlab arg3 f3) st0 (qi i)).endOf k0_pay463 (valSlab arg3 f3 (qi i)) (slot (qi i)) 2) ((sweepAll (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) k0_pay463 (keySlab arg2 f2) (valSlab arg3 f3) st0 (qi i)).endOf k0_pay463 (valSlab arg3 f3 (qi i)) (slot (qi i)) 3) (View.readAt (Elt F) arg8.view (Rect.unit (s := S1x128) ![0, 0] S1x128.size inb_S1x128_S1x128_0_0).toLoadRect f8)⟩,
         ⟨Rect.unit (s := S512x256) ![0, 0] S512x128.size inb_S512x256_S512x128_0_0, headOut (k0_pay2158 (View.readAt (Elt F) arg4.view (Rect.unit (s := S1x64) ![0, 0] S1x64.size inb_S1x64_S1x64_0_0).toLoadRect f4) (View.readAt (Elt F) arg5.view (Rect.unit (s := S1x64) ![0, 0] S1x64.size inb_S1x64_S1x64_0_0).toLoadRect f5) (View.readAt (Elt F) arg6.view (Rect.unit (s := S1x64) ![0, 0] S1x64.size inb_S1x64_S1x64_0_0).toLoadRect f6) (View.readAt (Elt F) arg7.view (Rect.unit (s := S1x64) ![0, 0] S1x64.size inb_S1x64_S1x64_0_0).toLoadRect f7)) ((sweepAll (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) k0_pay463 (keySlab arg2 f2) (valSlab arg3 f3) st0 (qi i)).endOf k0_pay463 (valSlab arg3 f3 (qi i)) (slot (qi i)) 0) ((sweepAll (k0_pay459 (View.readAt (Elt F) arg1.view (Rect.unit (s := S512x256) ![0, 0] S512x256.size inb_S512x256_S512x256_0_0).toLoadRect f1)) (k0_pay460 (View.readAt (Elt F) arg1.view (Rect.unit (s := S512x256) ![0, 0] S512x256.size inb_S512x256_S512x256_0_0).toLoadRect f1)) (k0_pay461 (View.readAt (Elt F) arg1.view (Rect.unit (s := S512x256) ![0, 0] S512x256.size inb_S512x256_S512x256_0_0).toLoadRect f1)) (k0_pay462 (View.readAt (Elt F) arg1.view (Rect.unit (s := S512x256) ![0, 0] S512x256.size inb_S512x256_S512x256_0_0).toLoadRect f1)) k0_pay463 (keySlab arg2 f2) (valSlab arg3 f3) st0 (qi i)).endOf k0_pay463 (valSlab arg3 f3 (qi i)) (slot (qi i)) 1) (View.readAt (Elt F) arg8.view (Rect.unit (s := S1x128) ![0, 0] S1x128.size inb_S1x128_S1x128_0_0).toLoadRect f8)⟩])))
      ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) -∗ K ⟨⟩))
      ⊢ wp frame (wpE (defs₀ (F := F)) Variants.none c none) E (cc0_seq_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  iintro ⟨H1, H2, H3, H4, H5, H6, H7, H8, H9, H10, H11, H12, H13, H14, H15, H16, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, Hk⟩
  iapply (body_run (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 f1 f2 f3 f4 f5 f6 f7 f8 f9 f10 f11 f12 f13 f14 f15 f16 f17 f18 f19 f20 f21 f22 f23 f24 f25 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact Hk

end Open

local notation "𝕄" => MT nD τ sig Unit (Elt Ideal) ℕ (UR sig nD τ) ℕ

variable (m : (ℓ : Loc nD τ sig) → Buf (Elt Ideal) ℓ) (ρ : Dev nD → PrngReg)

/-- The queries, keys, values and factor vectors are real numbers. -/
def Reals (c : Dev nD) : Prop :=
  (∀ y, real (m ((c : Thread nD τ).loc main_arg0) y)) ∧
    (∀ y, real (m ((c : Thread nD τ).loc main_arg1) y)) ∧
    (∀ y, real (m ((c : Thread nD τ).loc main_arg2) y)) ∧
    (∀ y, real (m ((c : Thread nD τ).loc main_arg3) y)) ∧
    (∀ y, real (m ((c : Thread nD τ).loc main_arg4) y)) ∧
    (∀ y, real (m ((c : Thread nD τ).loc main_arg5) y))

/-- The windows whose contents are named: the attention's inputs and its output. -/
def forgets : Fin 16 → Bool := ![false, false, false, false, false, false, false, false, true, true, true, true, true, true, false, true]

/-- The proof data: each array as the region finds it, the attention's blocks as read, its output block as the attention of the arguments. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, _⟩ => fun y => G m c (ix2 (row t (y 0)) (col t (y 1)))
    | ⟨n + 15, h⟩ => Pipeline.Dat.unnamed (cfg := cfg0) ⟨n + 15, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_14 (c : Dev nD) (t : Fin cfg0.N) : (dats m 0 c).after 14 t = fun y => G m c (ix2 (row t (y 0)) (col t (y 1))) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with and what it returns. -/
def bodyPre (c : Dev nD) (t : Fin cfg0.N) : sProp 𝕄 :=
  iprop((dats m 0 c).Φ t.castSucc ∗ (dats m 0 c).owesAt () t.castSucc ∗ ((∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ d, owns (c : Thread nD τ) (win0_14.stage (cfg0.slots t 14)) fullShare ((dats m 0 c).before 14 t d)) ∗ (∃ X, owns (c : Thread nD τ) (win0_15.stage (cfg0.slots t 15)) fullShare X)))
def bodyPost (c : Dev nD) (t : Fin cfg0.N) : sProp 𝕄 :=
  iprop((dats m 0 c).Φ t.succ ∗ (dats m 0 c).owesAt () t.succ ∗ ((owns (c : Thread nD τ) (win0_0.stage (cfg0.slots t 0)) fullShare ((dats m 0 c).after 0 t)) ∗ (owns (c : Thread nD τ) (win0_1.stage (cfg0.slots t 1)) fullShare ((dats m 0 c).after 1 t)) ∗ (owns (c : Thread nD τ) (win0_2.stage (cfg0.slots t 2)) fullShare ((dats m 0 c).after 2 t)) ∗ (owns (c : Thread nD τ) (win0_3.stage (cfg0.slots t 3)) fullShare ((dats m 0 c).after 3 t)) ∗ (owns (c : Thread nD τ) (win0_4.stage (cfg0.slots t 4)) fullShare ((dats m 0 c).after 4 t)) ∗ (owns (c : Thread nD τ) (win0_5.stage (cfg0.slots t 5)) fullShare ((dats m 0 c).after 5 t)) ∗ (owns (c : Thread nD τ) (win0_6.stage (cfg0.slots t 6)) fullShare ((dats m 0 c).after 6 t)) ∗ (owns (c : Thread nD τ) (win0_7.stage (cfg0.slots t 7)) fullShare ((dats m 0 c).after 7 t)) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (owns (c : Thread nD τ) (win0_14.stage (cfg0.slots t 14)) fullShare ((dats m 0 c).after 14 t)) ∗ (∃ X, owns (c : Thread nD τ) (win0_15.stage (cfg0.slots t 15)) fullShare X)))

variable {m}

set_option maxHeartbeats 4000000 in
theorem sound_body (hr : ∀ c, Reals m c) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl,
    after0_0 m c t, after0_1 m c t, after0_2 m c t, after0_3 m c t, after0_4 m c t, after0_5 m c t, after0_6 m c t, after0_7 m c t, after0_14 m c t]
  unfold Pipeline.ΦA owns
  rw [scopedRest0_eq]
  iintro ⟨⟨⟨S0, S1, S2, S3, S4, S5, S6, S7, S8⟩, Hg⟩, HO, ⟨%d0, %f1, %e0, H0⟩, ⟨%d1, %f2, %e1, H1⟩, ⟨%d2, %f3, %e2, H2⟩, ⟨%d3, %f4, %e3, H3⟩, ⟨%d4, %f5, %e4, H4⟩, ⟨%d5, %f6, %e5, H5⟩, ⟨%d6, %f7, %e6, H6⟩, ⟨%d7, %f8, %e7, H7⟩, ⟨%X8, %f9, %_, H8⟩, ⟨%X9, %f10, %_, H9⟩, ⟨%X10, %f11, %_, H10⟩, ⟨%X11, %f12, %_, H11⟩, ⟨%X12, %f13, %_, H12⟩, ⟨%X13, %f14, %_, H13⟩, ⟨%d14, %f15, %e14, H14⟩, ⟨%X15, %f16, %_, H15⟩⟩
  iapply (body_open (F := Ideal) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) f1 f2 f3 f4 f5 f6 f7 f8 f9 f10 f11 f12 f13 f14 f15 f16)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S0]; · iapply (whole_open c cc0_scratch0); iexact S0
  isplitl [S1]; · iapply (whole_open c cc0_scratch1); iexact S1
  isplitl [S2]; · iapply (whole_open c cc0_scratch2); iexact S2
  isplitl [S3]; · iapply (whole_open c cc0_scratch3); iexact S3
  isplitl [S4]; · iapply (whole_open c cc0_scratch4); iexact S4
  isplitl [S5]; · iapply (whole_open c cc0_scratch5); iexact S5
  isplitl [S6]; · iapply (whole_open c cc0_scratch6); iexact S6
  isplitl [S7]; · iapply (whole_open c cc0_scratch7); iexact S7
  isplitl [S8]; · iapply (whole_open c cc0_scratch8); iexact S8
  iintro ⟨H0, H1, H2, H3, H4, H5, H6, H7, H8, H9, H10, H11, H12, H13, ⟨%st, %hst, H14⟩, ⟨%g15, H15⟩, S0, S1, S2, S3, S4, S5, S6, S7, S8⟩
  isplitl [Hg S0 S1 S2 S3 S4 S5 S6 S7 S8]
  · isplitr [Hg]
    · skip
      isplitl [S0]; · iapply (whole_close c cc0_scratch0); iexact S0
      isplitl [S1]; · iapply (whole_close c cc0_scratch1); iexact S1
      isplitl [S2]; · iapply (whole_close c cc0_scratch2); iexact S2
      isplitl [S3]; · iapply (whole_close c cc0_scratch3); iexact S3
      isplitl [S4]; · iapply (whole_close c cc0_scratch4); iexact S4
      isplitl [S5]; · iapply (whole_close c cc0_scratch5); iexact S5
      isplitl [S6]; · iapply (whole_close c cc0_scratch6); iexact S6
      isplitl [S7]; · iapply (whole_close c cc0_scratch7); iexact S7
      iapply (whole_close c cc0_scratch8); iexact S8
    · iexact Hg
  isplitl [HO]; · iexact HO
  isplitl [H0]
  · iexists f1
    isplitr
    · ipureintro; exact e0.trans (before0_0 m c t d0)
    · iexact H0
  isplitl [H1]
  · iexists f2
    isplitr
    · ipureintro; exact e1.trans (before0_1 m c t d1)
    · iexact H1
  isplitl [H2]
  · iexists f3
    isplitr
    · ipureintro; exact e2.trans (before0_2 m c t d2)
    · iexact H2
  isplitl [H3]
  · iexists f4
    isplitr
    · ipureintro; exact e3.trans (before0_3 m c t d3)
    · iexact H3
  isplitl [H4]
  · iexists f5
    isplitr
    · ipureintro; exact e4.trans (before0_4 m c t d4)
    · iexact H4
  isplitl [H5]
  · iexists f6
    isplitr
    · ipureintro; exact e5.trans (before0_5 m c t d5)
    · iexact H5
  isplitl [H6]
  · iexists f7
    isplitr
    · ipureintro; exact e6.trans (before0_6 m c t d6)
    · iexact H6
  isplitl [H7]
  · iexists f8
    isplitr
    · ipureintro; exact e7.trans (before0_7 m c t d7)
    · iexact H7
  isplitl [H8]
  · iexists _, f9
    isplitr
    · ipureintro; rfl
    · iexact H8
  isplitl [H9]
  · iexists _, f10
    isplitr
    · ipureintro; rfl
    · iexact H9
  isplitl [H10]
  · iexists _, f11
    isplitr
    · ipureintro; rfl
    · iexact H10
  isplitl [H11]
  · iexists _, f12
    isplitr
    · ipureintro; rfl
    · iexact H11
  isplitl [H12]
  · iexists _, f13
    isplitr
    · ipureintro; rfl
    · iexact H12
  isplitl [H13]
  · iexists _, f14
    isplitr
    · ipureintro; rfl
    · iexact H13
  isplitl [H14]
  · iexists _
    isplitr
    swap
    · iexact H14
    · ipureintro
      exact block_at c (hr c).1 (hr c).2.1 (hr c).2.2.1 (hr c).2.2.2.1 (hr c).2.2.2.2.1 (hr c).2.2.2.2.2 t _ f2 (e1.trans (before0_1 m c t d1)) _ f3
        (e2.trans (before0_2 m c t d2)) _ ((View.readAt_full _ _ _).trans (e0.trans (before0_0 m c t d0))) _ _ _ _ ((View.readAt_full _ _ _).trans (e3.trans (before0_3 m c t d3)))
        ((View.readAt_full _ _ _).trans (e4.trans (before0_4 m c t d4))) ((View.readAt_full _ _ _).trans (e5.trans (before0_5 m c t d5)))
        ((View.readAt_full _ _ _).trans (e6.trans (before0_6 m c t d6))) _ ((View.readAt_full _ _ _).trans (e7.trans (before0_7 m c t d7))) _ f15 st hst
  iexists _, g15
  isplitr; · ipureintro; rfl
  iexact H15

theorem body_obligation (hr : ∀ c, Reals m c) (c : Dev nD) :
    BodyObligationLoose (dats m 0 c) (defs₀ (F := Ideal)) Variants.none () Set.univ forgets := fun t => by
  rw [bigSep_W0, bigSep_W0, defs₀_row]
  exact triple_restated (sound_body hr c t) rfl .rfl fun _ => .rfl

set_option backward.isDefEq.respectTransparency.types false in
/-- The whole run. -/
theorem run_main (hr : ∀ c, Reals m c) :
    θ_run defs (onTc (τ := τ) (main (F := Ideal))) (s₀ m ρ)
      (fun r => Pipeline.RDat.FramePostR (cfgs 0) (fun c => (dats m 0 c).toRForget forgets) kept (V m) r ∧ r.2.sem = fun _ => 0) :=
  Pipeline.θ_run_frame_around_T_forget_shared (Q' := _) cfgs (dats m) (0 : Fin 1) launch₀0 defs₀ Variants.none forgets kept m ρ main
    (hbody := body_obligation hr) (hq := fun _ _ _ => rfl) (howed := fun _ _ => rfl) (V₀ := V0 m) (opss := [hostOps1])
    (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      rw [Proc.devRef_injective (τ := τ) _ hb]
      exact Finset.mem_singleton_self _)
    (hmain := Gen.hmain m Variants.none) (hA := A_eq m) (hΦ := fun _ _ => rfl)

variable (m)

/-- The output array after the run. -/
theorem final (c : Dev nD) : (dats m 0 c).arrAt 14 cfg0.N = G m c := by
  refine (dats m 0 c).arrAt_eq_of_covers 14 _ (by decide +kernel) fun t hf y => ?_
  blk_simp
  rw [after0_14]
  idx_vars y
  exact congrArg (G m c) (by blk_ext [row, col, (idx t).2.2.2.2.2.2.2.2])

/-- The run: the output array at the attention of the arguments, the arguments as launched. -/
theorem run (hr : ∀ c, Reals m c) :
    θ_run (defs (F := Ideal)) (onTc (τ := τ) (main (F := Ideal))) ⟨m, fun _ => 0, ρ⟩ (fun r => ∀ c : Dev nD,
      r.2.mem ((c.tc : Thread nD τ).loc main_v11_0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ?_) (run_main ρ hr)
  have rest : ∀ b ∈ Pipeline.restRefs sig (cfgs 0).spec \ kept, r.2.mem ((c : Thread nD τ).loc b) = V m c b := (h.1 c).2
  exact ⟨(((dats m 0 c).toRForget_arrAt_iff (fgt := forgets) (w := 14) rfl cfg0.N _).1 ((h.1 c).1 14)).trans (final m c),
    (h.1.arr_in c 0 rfl).trans (V_main_arg0 m c), (h.1.arr_in c 2 rfl).trans (V_main_arg1 m c),
    (rest main_arg2 (Finset.mem_sdiff.mpr ⟨Pipeline.mem_restRefs_of main_arg2 (by decide) (by decide), by decide⟩)).trans (V_main_arg2 m c),
    (rest main_arg3 (Finset.mem_sdiff.mpr ⟨Pipeline.mem_restRefs_of main_arg3 (by decide) (by decide), by decide⟩)).trans (V_main_arg3 m c),
    (rest main_arg4 (Finset.mem_sdiff.mpr ⟨Pipeline.mem_restRefs_of main_arg4 (by decide) (by decide), by decide⟩)).trans (V_main_arg4 m c),
    (rest main_arg5 (Finset.mem_sdiff.mpr ⟨Pipeline.mem_restRefs_of main_arg5 (by decide) (by decide), by decide⟩)).trans (V_main_arg5 m c),
    (rest main_arg6 (Finset.mem_sdiff.mpr ⟨Pipeline.mem_restRefs_of main_arg6 (by decide) (by decide), by decide⟩)).trans (V_main_arg6 m c),
    (rest main_arg7 (Finset.mem_sdiff.mpr ⟨Pipeline.mem_restRefs_of main_arg7 (by decide) (by decide), by decide⟩)).trans (V_main_arg7 m c),
    (rest main_arg8 (Finset.mem_sdiff.mpr ⟨Pipeline.mem_restRefs_of main_arg8 (by decide) (by decide), by decide⟩)).trans (V_main_arg8 m c),
    (rest main_arg9 (Finset.mem_sdiff.mpr ⟨Pipeline.mem_restRefs_of main_arg9 (by decide) (by decide), by decide⟩)).trans (V_main_arg9 m c),
    (rest main_arg10 (Finset.mem_sdiff.mpr ⟨Pipeline.mem_restRefs_of main_arg10 (by decide) (by decide), by decide⟩)).trans (V_main_arg10 m c),
    (rest main_arg11 (Finset.mem_sdiff.mpr ⟨Pipeline.mem_restRefs_of main_arg11 (by decide) (by decide), by decide⟩)).trans (V_main_arg11 m c),
    (rest main_arg12 (Finset.mem_sdiff.mpr ⟨Pipeline.mem_restRefs_of main_arg12 (by decide) (by decide), by decide⟩)).trans (V_main_arg12 m c)⟩

end Cert.KernelIdeal.MixValue

end
-- ==== Proof.MixRef.lean ====
/-
  The attention reference read at an index: masked scores, two softmaxes, their difference against the values, the norm.
-/
module

public import proofs.«01_k».proof.Proof.MixSpec
public import proofs.«01_k».proof.Proof.Gen.ReferenceIdeal.Run
public import Idealize.ShloMosaic.Lib.Tactic.CleanTypes

@[expose] public section

set_option maxRecDepth 16384

noncomputable section

namespace Cert.MixRef

open Cert.ReferenceIdeal Cert.ReferenceIdeal.Gen Cert.MixMath Idealize.ShloMosaic Idealize.ShloMosaic.TcCoe

theorem factor_at (a b d f : FVec Ideal S64 .f32) :
    (addf (subf (Host.exp (Host.reduceAdd (mulf a b) (constant S_ .f32 0x00000000#32) reducesTo_S64_S_d0 h_S_))
        (Host.exp (Host.reduceAdd (mulf d f) (constant S_ .f32 0x00000000#32) reducesTo_S64_S_d0 h_S_))) (constant S_ .f32 0x3E4CCCCD#32) : FVec Ideal S_ .f32) ix0
      = factor a b d f := by
  pointwise []
  rfl

theorem diff_at (A0 A1 : FVec Ideal S2x4x8192x8192 .f32) (L : FVec Ideal S_ .f32) (B : Fin 2) (h : Fin 4) (t u : Fin 8192) :
    ((subf A0 (mulf (broadcastInDim S2x4x8192x8192 ![] bcast_S_S2x4x8192x8192 L) A1) : FVec Ideal S2x4x8192x8192 .f32) (ix4 B h t u) : EReal)
      = A0 (ix4 B h t u) - L ix0 * A1 (ix4 B h t u) := by
  pointwise []

set_option maxHeartbeats 1000000 in
theorem res_at (m : (ℓ : Loc nD τ sig) → Buf (Elt Ideal) ℓ) (c : Dev nD) (r : Fin 16384) (e : Fin 512) :
    (Cert.ReferenceIdeal.Value.res_out0 m c (ix2 r e) : EReal)
      = row (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) r ⟨e.val / 128, by omega⟩ ⟨e.val % 128, by omega⟩ := by
  unfold Cert.ReferenceIdeal.Value.res_out0 Cert.ReferenceIdeal.Value.res_main_v66
  generalize m ((c.tc : Thread nD τ).loc main_arg0) = qk
  generalize m ((c.tc : Thread nD τ).loc main_arg1) = vt
  generalize m ((c.tc : Thread nD τ).loc main_arg2) = a
  generalize m ((c.tc : Thread nD τ).loc main_arg3) = b
  generalize m ((c.tc : Thread nD τ).loc main_arg4) = d
  generalize m ((c.tc : Thread nD τ).loc main_arg5) = f
  generalize m ((c.tc : Thread nD τ).loc main_arg6) = w
  clean_types
  generalize hS : (select _ _ _ : FVec Ideal S2x8x8192x8192 .f32) = S
  have hS' : ∀ b n t u, (S (ix4 b n t u) : EReal) = sc qk b n t u := fun b n t u => by
    rw [← hS]
    pointwise []
    simp only [id, neg_inf]
    rfl
  clear hS
  generalize hT : (Host.reduce FloatOps.maximumf S _ _ _ : FVec Ideal S2x8x8192 .f32) = T
  have hT' : ∀ b n t, (T (ix3 b n t) : EReal) = top (sc qk b n t) := fun b n t => by
    rw [← hT]
    pointwise [hS']
    rfl
  clear hT
  generalize hP : (Host.powf _ (subf S _) : FVec Ideal S2x8x8192x8192 .f32) = P
  have hP' : ∀ b n t u, (P (ix4 b n t u) : EReal) = Ideal.pow (Ideal.ofBits .f32 0x40000000#32) (sc qk b n t u - top (sc qk b n t)) := fun b n t u => by
    rw [← hP]
    pointwise [hS', hT']
  clear hP
  generalize hW : (Host.divf P _ : FVec Ideal S2x8x8192x8192 .f32) = W
  have hW' : ∀ b n t u, (W (ix4 b n t u) : EReal) = soft (sc qk b n t) u := fun b n t u => by
    rw [← hW]
    pointwise [hP']
    rfl
  clear hW
  generalize hR : (shapeCast S2x4x2x8192x8192 W _ : FVec Ideal S2x4x2x8192x8192 .f32) = R
  have hR' : ∀ (B : Fin 2) (h : Fin 4) (i : Fin 2) (t u : Fin 8192), (R (ix5 B h i t u) : EReal) = soft (sc qk B ⟨h.val * 2 + i.val, by omega⟩ t) u := fun B h i t u => by
    rw [← hR]
    pointwise [hW']
  clear hR
  generalize hA0 : (shapeCast _ (extractStridedSlice _ ![0, 0, 0, 0, 0] R _) _ : FVec Ideal S2x4x8192x8192 .f32) = A0
  have hA0' : ∀ (B : Fin 2) (h : Fin 4) (t u : Fin 8192), (A0 (ix4 B h t u) : EReal) = soft (sc qk B ⟨h.val * 2, by omega⟩ t) u := fun B h t u => by
    rw [← hA0]
    pointwise [hR']
  clear hA0
  generalize hA1 : (shapeCast _ (extractStridedSlice _ ![0, 0, 1, 0, 0] R _) _ : FVec Ideal S2x4x8192x8192 .f32) = A1
  have hA1' : ∀ (B : Fin 2) (h : Fin 4) (t u : Fin 8192), (A1 (ix4 B h t u) : EReal) = soft (sc qk B ⟨h.val * 2 + 1, by omega⟩ t) u := fun B h t u => by
    rw [← hA1]
    pointwise [hR']
  clear hA1
  generalize hA : (subf A0 _ : FVec Ideal S2x4x8192x8192 .f32) = A
  have hA' : ∀ (B : Fin 2) (h : Fin 4) (t u : Fin 8192), (A (ix4 B h t u) : EReal)
      = soft (sc qk B ⟨h.val * 2, by omega⟩ t) u - factor a b d f * soft (sc qk B ⟨h.val * 2 + 1, by omega⟩ t) u := fun B h t u => by
    rw [← hA, diff_at, factor_at, hA0', hA1']
  clear hA
  generalize hO : (transpose _ _ (Host.dotGeneral _ _ _ A) _ : FVec Ideal S2x8192x4x128 .f32) = O
  have hO' : ∀ B t h e, (O (ix4 B t h e) : EReal) = feat qk vt a b d f B t h e := fun B t h e => by
    rw [← hO]
    pointwise [hA']
    rfl
  clear hO
  pointwise [hO']
  unfold row subnorm
  simp only [raw_feat]

end Cert.MixRef

end
-- ==== Proof.MixClaims.lean ====
/-
  The claims about the sequence mixer's attention: the frames under the precondition, and that the kernel's attention output is the
  reference's.
-/
module

public import proofs.«01_k».proof.Defs
public import proofs.«01_k».proof.Proof.MixFrame
public import proofs.«01_k».proof.Proof.MixValue
public import proofs.«01_k».proof.Proof.MixRef
public import Idealize.ShloMosaic.Lib.Quiescent
public import Idealize.ShloMosaic.Lib.Claim

@[expose] public section

set_option maxRecDepth 16384

noncomputable section

namespace Cert.MixClaims

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := trivial

/-- The side conditions the precondition states of its operations. -/
theorem pre_facts : Cert.Pre_finite.Facts where
  bitsLt_bf16_f32 := by decide
  bcast_S_S16384x1024 := by decide
  reducesTo_S16384x1024_S_d0_1 := by decide
  h_S_ := by decide
  bcast_S_S32x512x512 := by decide
  reducesTo_S32x512x512_S_d0_1_2 := by decide
  bcast_S_S64 := by decide
  reducesTo_S64_S_d0 := by decide

section Finite

variable [hPre : Cert.Pre_finite.Facts]

theorem frame_ideal_finite : Cert.quiescent_KernelIdeal_pre_finite := fun m ρ _ => Cert.KernelIdeal.Mix.frame m ρ

theorem frame_reference_finite : Cert.quiescent_ReferenceIdeal_pre_finite := fun m ρ _ => frame_reference m ρ trivial

theorem reals (m : (ℓ : Loc Cert.KernelIdeal.nD Cert.KernelIdeal.τ Cert.KernelIdeal.sig) → Buf (Elt Ideal) ℓ) (h : Cert.Pre_KernelIdeal_finite m)
    (c : Dev Cert.KernelIdeal.nD) : Cert.KernelIdeal.MixValue.Reals m c :=
  Cert.KernelIdeal.Mix.finite_real _ _ _ _ _ _ _ _ _ _ _ _ _ (h c)

/-- The kernel's attention output and the reference's are the same function of the arguments. -/
theorem algebraic : Cert.algebraic_KernelIdeal_ReferenceIdeal_pre_finite := by
  intro m g m' g' hpre hagree
  refine ⟨fun c => Cert.KernelIdeal.Mix.G m c, Cert.KernelIdeal.MixValue.run m g (reals m hpre), ?_⟩
  refine (θ_run Cert.ReferenceIdeal.defs _ _).mono (fun r h c => ?_) (Cert.ReferenceIdeal.Value.run (F := Ideal) m' g')
  refine ⟨(h c).1.trans ?_, (h c).2⟩
  refine (show _ = Cert.ReferenceIdeal.Value.res_out0 m' c from rfl).trans ?_
  obtain ⟨a0, a1, a2, a3, a4, a5, a6, -⟩ := hagree c
  funext i
  idx_vars i
  refine (Cert.MixRef.res_at m' c i0 i1).trans ?_
  rw [a0, a1, a2, a3, a4, a5, a6]
  rfl

end Finite

end Cert.MixClaims

end
-- ==== Proof.lean ====
/-
  The claims about the sequence mixer and the output stage, put together.
-/
module

public import proofs.«01_k».proof.Defs
public import proofs.«01_k».proof.Proof.Gen.Kernel
public import proofs.«01_k».proof.Proof.Gen.KernelIdeal
public import proofs.«01_k».proof.Proof.Gen.Post
public import proofs.«01_k».proof.Proof.Gen.PostIdeal
public import proofs.«01_k».proof.Proof.Gen.PostIdeal.Value
public import proofs.«01_k».proof.Proof.Gen.PostReferenceIdeal
public import proofs.«01_k».proof.Proof.Gen.PostReferenceIdeal.Run
public import proofs.«01_k».proof.Proof.PostClaims
public import proofs.«01_k».proof.Proof.MixFrame
public import proofs.«01_k».proof.Proof.MixIdealFrame
public import proofs.«01_k».proof.Proof.Gen.KernelIdeal.Loops
public import proofs.«01_k».proof.Proof.Gen.KernelIdeal.Frame
public import proofs.«01_k».proof.Proof.Gen.KernelIdeal.Skeleton
public import proofs.«01_k».proof.Proof.Gen.Kernel.Loops
public import proofs.«01_k».proof.Proof.Gen.Kernel.Frame
public import proofs.«01_k».proof.Proof.Gen.ReferenceIdeal
public import proofs.«01_k».proof.Proof.Gen.ReferenceIdeal.Run
public import proofs.«01_k».proof.Proof.MixClaims

@[expose] public section

noncomputable section

namespace Cert.Proof

theorem claim : Cert.Claim :=
  ⟨Cert.Kernel.Gen.facts, Cert.KernelIdeal.Gen.facts, Cert.ReferenceIdeal.Gen.facts,
    Cert.Post.Gen.facts, Cert.PostIdeal.Gen.facts, Cert.PostReferenceIdeal.Gen.facts, Cert.MixClaims.pre_facts,
    fun m ρ _ => Cert.Kernel.Mix.frame m ρ, fun m ρ _ => Cert.KernelIdeal.Mix.frame m ρ,
    Cert.MixClaims.frame_ideal_finite (hPre := Cert.MixClaims.pre_facts), Cert.MixClaims.frame_reference,
    Cert.MixClaims.frame_reference_finite (hPre := Cert.MixClaims.pre_facts),
    Cert.PostClaims.frame, Cert.PostClaims.frame_ideal, Cert.PostClaims.frame_reference,
    Cert.MixClaims.preserves, Cert.MixClaims.algebraic (hPre := Cert.MixClaims.pre_facts),
    Cert.PostClaims.preserves, Cert.PostClaims.algebraic⟩

end Cert.Proof

end
